-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_Qkvz (m : (ℓ : Loc Cert.Qkvz.nD Cert.Qkvz.τ Cert.Qkvz.sig) → Buf (Elt Bits) ℓ) : Prop :=
  True

def Pre_QkvzIdeal (m : (ℓ : Loc Cert.QkvzIdeal.nD Cert.QkvzIdeal.τ Cert.QkvzIdeal.sig) → Buf (Elt Ideal) ℓ) : Prop :=
  True

def Pre_QkvzRefIdeal (m : (ℓ : Loc Cert.QkvzRefIdeal.nD Cert.QkvzRefIdeal.τ Cert.QkvzRefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownRefIdeal (m : (ℓ : Loc Cert.FfDownRefIdeal.nD Cert.FfDownRefIdeal.τ Cert.FfDownRefIdeal.sig) → Buf (Elt Ideal) ℓ) : Prop :=
  True

def Pre_NormOne (m : (ℓ : Loc Cert.NormOne.nD Cert.NormOne.τ Cert.NormOne.sig) → Buf (Elt Bits) ℓ) : Prop :=
  True

def Pre_NormOneIdeal (m : (ℓ : Loc Cert.NormOneIdeal.nD Cert.NormOneIdeal.τ Cert.NormOneIdeal.sig) → Buf (Elt Ideal) ℓ) : Prop :=
  True

def Pre_NormOneRefIdeal (m : (ℓ : Loc Cert.NormOneRefIdeal.nD Cert.NormOneRefIdeal.τ Cert.NormOneRefIdeal.sig) → Buf (Elt Ideal) ℓ) : Prop :=
  True

def Pre_NormFinal (m : (ℓ : Loc Cert.NormFinal.nD Cert.NormFinal.τ Cert.NormFinal.sig) → Buf (Elt Bits) ℓ) : Prop :=
  True

def Pre_NormFinalIdeal (m : (ℓ : Loc Cert.NormFinalIdeal.nD Cert.NormFinalIdeal.τ Cert.NormFinalIdeal.sig) → Buf (Elt Ideal) ℓ) : Prop :=
  True

def Pre_NormFinalRefIdeal (m : (ℓ : Loc Cert.NormFinalRefIdeal.nD Cert.NormFinalRefIdeal.τ Cert.NormFinalRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Qkvz [hQkvz : Cert.Qkvz.Facts] : Prop :=
  ∀ (m : (ℓ : Loc Cert.Qkvz.nD Cert.Qkvz.τ Cert.Qkvz.sig) → Buf (Elt Bits) ℓ) (g : Dev Cert.Qkvz.nD → PrngReg), Pre_Qkvz m →
    θ_run (Cert.Qkvz.defs (F := Bits)) (onTc (τ := Cert.Qkvz.τ) (Cert.Qkvz.main (F := Bits))) ⟨m, fun _ => 0, g⟩ (fun r => (∀ c : Dev Cert.Qkvz.nD,
      r.2.mem ((c.tc : Thread Cert.Qkvz.nD Cert.Qkvz.τ).loc Cert.Qkvz.main_arg0) = m ((c.tc : Thread Cert.Qkvz.nD Cert.Qkvz.τ).loc Cert.Qkvz.main_arg0)
      ∧ r.2.mem ((c.tc : Thread Cert.Qkvz.nD Cert.Qkvz.τ).loc Cert.Qkvz.main_arg1) = m ((c.tc : Thread Cert.Qkvz.nD Cert.Qkvz.τ).loc Cert.Qkvz.main_arg1))
      ∧ r.2.sem = fun _ => 0)

def quiescent_QkvzIdeal [hQkvzIdeal : Cert.QkvzIdeal.Facts] : Prop :=
  ∀ (m : (ℓ : Loc Cert.QkvzIdeal.nD Cert.QkvzIdeal.τ Cert.QkvzIdeal.sig) → Buf (Elt Ideal) ℓ) (g : Dev Cert.QkvzIdeal.nD → PrngReg), Pre_QkvzIdeal m →
    θ_run (Cert.QkvzIdeal.defs (F := Ideal)) (onTc (τ := Cert.QkvzIdeal.τ) (Cert.QkvzIdeal.main (F := Ideal))) ⟨m, fun _ => 0, g⟩ (fun r => (∀ c : Dev Cert.QkvzIdeal.nD,
      r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
      ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1))
      ∧ r.2.sem = fun _ => 0)

def quiescent_QkvzRefIdeal [hQkvzRefIdeal : Cert.QkvzRefIdeal.Facts] : Prop :=
  ∀ (m : (ℓ : Loc Cert.QkvzRefIdeal.nD Cert.QkvzRefIdeal.τ Cert.QkvzRefIdeal.sig) → Buf (Elt Ideal) ℓ) (g : Dev Cert.QkvzRefIdeal.nD → PrngReg), Pre_QkvzRefIdeal m →
    θ_run (Cert.QkvzRefIdeal.defs (F := Ideal)) (onTc (τ := Cert.QkvzRefIdeal.τ) (Cert.QkvzRefIdeal.main (F := Ideal))) ⟨m, fun _ => 0, g⟩ (fun r => (∀ c : Dev Cert.QkvzRefIdeal.nD,
      r.2.mem ((c.tc : Thread Cert.QkvzRefIdeal.nD Cert.QkvzRefIdeal.τ).loc Cert.QkvzRefIdeal.main_arg0) = m ((c.tc : Thread Cert.QkvzRefIdeal.nD Cert.QkvzRefIdeal.τ).loc Cert.QkvzRefIdeal.main_arg0)
      ∧ r.2.mem ((c.tc : Thread Cert.QkvzRefIdeal.nD Cert.QkvzRefIdeal.τ).loc Cert.QkvzRefIdeal.main_arg1) = m ((c.tc : Thread Cert.QkvzRefIdeal.nD Cert.QkvzRefIdeal.τ).loc Cert.QkvzRefIdeal.main_arg1))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ r.2.sem = fun _ => 0)

def quiescent_FfDownRefIdeal [hFfDownRefIdeal : Cert.FfDownRefIdeal.Facts] : Prop :=
  ∀ (m : (ℓ : Loc Cert.FfDownRefIdeal.nD Cert.FfDownRefIdeal.τ Cert.FfDownRefIdeal.sig) → Buf (Elt Ideal) ℓ) (g : Dev Cert.FfDownRefIdeal.nD → PrngReg), Pre_FfDownRefIdeal m →
    θ_run (Cert.FfDownRefIdeal.defs (F := Ideal)) (onTc (τ := Cert.FfDownRefIdeal.τ) (Cert.FfDownRefIdeal.main (F := Ideal))) ⟨m, fun _ => 0, g⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2))
      ∧ r.2.sem = fun _ => 0)

def quiescent_NormOne [hNormOne : Cert.NormOne.Facts] : Prop :=
  ∀ (m : (ℓ : Loc Cert.NormOne.nD Cert.NormOne.τ Cert.NormOne.sig) → Buf (Elt Bits) ℓ) (g : Dev Cert.NormOne.nD → PrngReg), Pre_NormOne m →
    θ_run (Cert.NormOne.defs (F := Bits)) (onTc (τ := Cert.NormOne.τ) (Cert.NormOne.main (F := Bits))) ⟨m, fun _ => 0, g⟩ (fun r => (∀ c : Dev Cert.NormOne.nD,
      r.2.mem ((c.tc : Thread Cert.NormOne.nD Cert.NormOne.τ).loc Cert.NormOne.main_arg0) = m ((c.tc : Thread Cert.NormOne.nD Cert.NormOne.τ).loc Cert.NormOne.main_arg0)
      ∧ r.2.mem ((c.tc : Thread Cert.NormOne.nD Cert.NormOne.τ).loc Cert.NormOne.main_arg1) = m ((c.tc : Thread Cert.NormOne.nD Cert.NormOne.τ).loc Cert.NormOne.main_arg1))
      ∧ r.2.sem = fun _ => 0)

def quiescent_NormOneIdeal [hNormOneIdeal : Cert.NormOneIdeal.Facts] : Prop :=
  ∀ (m : (ℓ : Loc Cert.NormOneIdeal.nD Cert.NormOneIdeal.τ Cert.NormOneIdeal.sig) → Buf (Elt Ideal) ℓ) (g : Dev Cert.NormOneIdeal.nD → PrngReg), Pre_NormOneIdeal m →
    θ_run (Cert.NormOneIdeal.defs (F := Ideal)) (onTc (τ := Cert.NormOneIdeal.τ) (Cert.NormOneIdeal.main (F := Ideal))) ⟨m, fun _ => 0, g⟩ (fun r => (∀ c : Dev Cert.NormOneIdeal.nD,
      r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
      ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1))
      ∧ r.2.sem = fun _ => 0)

def quiescent_NormOneRefIdeal [hNormOneRefIdeal : Cert.NormOneRefIdeal.Facts] : Prop :=
  ∀ (m : (ℓ : Loc Cert.NormOneRefIdeal.nD Cert.NormOneRefIdeal.τ Cert.NormOneRefIdeal.sig) → Buf (Elt Ideal) ℓ) (g : Dev Cert.NormOneRefIdeal.nD → PrngReg), Pre_NormOneRefIdeal m →
    θ_run (Cert.NormOneRefIdeal.defs (F := Ideal)) (onTc (τ := Cert.NormOneRefIdeal.τ) (Cert.NormOneRefIdeal.main (F := Ideal))) ⟨m, fun _ => 0, g⟩ (fun r => (∀ c : Dev Cert.NormOneRefIdeal.nD,
      r.2.mem ((c.tc : Thread Cert.NormOneRefIdeal.nD Cert.NormOneRefIdeal.τ).loc Cert.NormOneRefIdeal.main_arg0) = m ((c.tc : Thread Cert.NormOneRefIdeal.nD Cert.NormOneRefIdeal.τ).loc Cert.NormOneRefIdeal.main_arg0)
      ∧ r.2.mem ((c.tc : Thread Cert.NormOneRefIdeal.nD Cert.NormOneRefIdeal.τ).loc Cert.NormOneRefIdeal.main_arg1) = m ((c.tc : Thread Cert.NormOneRefIdeal.nD Cert.NormOneRefIdeal.τ).loc Cert.NormOneRefIdeal.main_arg1))
      ∧ r.2.sem = fun _ => 0)

def quiescent_NormFinal [hNormFinal : Cert.NormFinal.Facts] : Prop :=
  ∀ (m : (ℓ : Loc Cert.NormFinal.nD Cert.NormFinal.τ Cert.NormFinal.sig) → Buf (Elt Bits) ℓ) (g : Dev Cert.NormFinal.nD → PrngReg), Pre_NormFinal m →
    θ_run (Cert.NormFinal.defs (F := Bits)) (onTc (τ := Cert.NormFinal.τ) (Cert.NormFinal.main (F := Bits))) ⟨m, fun _ => 0, g⟩ (fun r => (∀ c : Dev Cert.NormFinal.nD,
      r.2.mem ((c.tc : Thread Cert.NormFinal.nD Cert.NormFinal.τ).loc Cert.NormFinal.main_arg0) = m ((c.tc : Thread Cert.NormFinal.nD Cert.NormFinal.τ).loc Cert.NormFinal.main_arg0)
      ∧ r.2.mem ((c.tc : Thread Cert.NormFinal.nD Cert.NormFinal.τ).loc Cert.NormFinal.main_arg1) = m ((c.tc : Thread Cert.NormFinal.nD Cert.NormFinal.τ).loc Cert.NormFinal.main_arg1))
      ∧ r.2.sem = fun _ => 0)

def quiescent_NormFinalIdeal [hNormFinalIdeal : Cert.NormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg), Pre_NormFinalIdeal m →
    θ_run (Cert.NormFinalIdeal.defs (F := Ideal)) (onTc (τ := Cert.NormFinalIdeal.τ) (Cert.NormFinalIdeal.main (F := Ideal))) ⟨m, fun _ => 0, g⟩ (fun r => (∀ c : Dev Cert.NormFinalIdeal.nD,
      r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
      ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1))
      ∧ r.2.sem = fun _ => 0)

def quiescent_NormFinalRefIdeal [hNormFinalRefIdeal : Cert.NormFinalRefIdeal.Facts] : Prop :=
  ∀ (m : (ℓ : Loc Cert.NormFinalRefIdeal.nD Cert.NormFinalRefIdeal.τ Cert.NormFinalRefIdeal.sig) → Buf (Elt Ideal) ℓ) (g : Dev Cert.NormFinalRefIdeal.nD → PrngReg), Pre_NormFinalRefIdeal m →
    θ_run (Cert.NormFinalRefIdeal.defs (F := Ideal)) (onTc (τ := Cert.NormFinalRefIdeal.τ) (Cert.NormFinalRefIdeal.main (F := Ideal))) ⟨m, fun _ => 0, g⟩ (fun r => (∀ c : Dev Cert.NormFinalRefIdeal.nD,
      r.2.mem ((c.tc : Thread Cert.NormFinalRefIdeal.nD Cert.NormFinalRefIdeal.τ).loc Cert.NormFinalRefIdeal.main_arg0) = m ((c.tc : Thread Cert.NormFinalRefIdeal.nD Cert.NormFinalRefIdeal.τ).loc Cert.NormFinalRefIdeal.main_arg0)
      ∧ r.2.mem ((c.tc : Thread Cert.NormFinalRefIdeal.nD Cert.NormFinalRefIdeal.τ).loc Cert.NormFinalRefIdeal.main_arg1) = m ((c.tc : Thread Cert.NormFinalRefIdeal.nD Cert.NormFinalRefIdeal.τ).loc Cert.NormFinalRefIdeal.main_arg1))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def preserves_Swa_SwaIdeal : Prop :=
  IdealRules.named_const.Statement Cert.SwaIdeal.κ "slope1" .f32 0x3F5744FD#32 (((Real.sqrt (Real.sqrt 2))⁻¹ : ℝ) : EReal)
  ∧ IdealRules.named_const.Statement Cert.SwaIdeal.κ "slope2" .f32 0x3F3504F3#32 (((Real.sqrt 2)⁻¹ : ℝ) : EReal)
  ∧ IdealRules.named_const.Statement Cert.SwaIdeal.κ "slope3" .f32 0x3F1837F0#32 (((Real.sqrt 2)⁻¹ * (Real.sqrt (Real.sqrt 2))⁻¹ : ℝ) : EReal)
  ∧ IdealRules.named_const.Statement Cert.SwaIdeal.κ "slope5" .f32 0x3ED744FD#32 ((2⁻¹ * (Real.sqrt (Real.sqrt 2))⁻¹ : ℝ) : EReal)
  ∧ IdealRules.named_const.Statement Cert.SwaIdeal.κ "slope6" .f32 0x3EB504F3#32 ((2⁻¹ * (Real.sqrt 2)⁻¹ : ℝ) : EReal)
  ∧ IdealRules.named_const.Statement Cert.SwaIdeal.κ "slope7" .f32 0x3E9837F0#32 ((2⁻¹ * ((Real.sqrt 2)⁻¹ * (Real.sqrt (Real.sqrt 2))⁻¹) : ℝ) : EReal)
  ∧ IdealRules.named_const.Statement Cert.SwaIdeal.κ "slope9" .f32 0x3E5744FD#32 ((4⁻¹ * (Real.sqrt (Real.sqrt 2))⁻¹ : ℝ) : EReal)
  ∧ IdealRules.named_const.Statement Cert.SwaIdeal.κ "slope10" .f32 0x3E3504F3#32 ((4⁻¹ * (Real.sqrt 2)⁻¹ : ℝ) : EReal)
  ∧ IdealRules.named_const.Statement Cert.SwaIdeal.κ "slope11" .f32 0x3E1837F0#32 ((4⁻¹ * ((Real.sqrt 2)⁻¹ * (Real.sqrt (Real.sqrt 2))⁻¹) : ℝ) : EReal)
  ∧ IdealRules.named_const.Statement Cert.SwaIdeal.κ "slope13" .f32 0x3DD744FD#32 ((8⁻¹ * (Real.sqrt (Real.sqrt 2))⁻¹ : ℝ) : EReal)
  ∧ IdealRules.named_const.Statement Cert.SwaIdeal.κ "slope14" .f32 0x3DB504F3#32 ((8⁻¹ * (Real.sqrt 2)⁻¹ : ℝ) : EReal)
  ∧ IdealRules.named_const.Statement Cert.SwaIdeal.κ "slope15" .f32 0x3D9837F0#32 ((8⁻¹ * ((Real.sqrt 2)⁻¹ * (Real.sqrt (Real.sqrt 2))⁻¹) : ℝ) : EReal)
  ∧ IdealRules.named_const.Statement Cert.SwaIdeal.κ "slope17" .f32 0x3D5744FD#32 ((16⁻¹ * (Real.sqrt (Real.sqrt 2))⁻¹ : ℝ) : EReal)
  ∧ IdealRules.named_const.Statement Cert.SwaIdeal.κ "slope18" .f32 0x3D3504F3#32 ((16⁻¹ * (Real.sqrt 2)⁻¹ : ℝ) : EReal)
  ∧ IdealRules.named_const.Statement Cert.SwaIdeal.κ "slope19" .f32 0x3D1837F0#32 ((16⁻¹ * ((Real.sqrt 2)⁻¹ * (Real.sqrt (Real.sqrt 2))⁻¹) : ℝ) : EReal)
  ∧ IdealRules.named_const.Statement Cert.SwaIdeal.κ "slope21" .f32 0x3CD744FD#32 ((32⁻¹ * (Real.sqrt (Real.sqrt 2))⁻¹ : ℝ) : EReal)
  ∧ IdealRules.named_const.Statement Cert.SwaIdeal.κ "slope22" .f32 0x3CB504F3#32 ((32⁻¹ * (Real.sqrt 2)⁻¹ : ℝ) : EReal)
  ∧ IdealRules.named_const.Statement Cert.SwaIdeal.κ "slope23" .f32 0x3C9837F0#32 ((32⁻¹ * ((Real.sqrt 2)⁻¹ * (Real.sqrt (Real.sqrt 2))⁻¹) : ℝ) : EReal)
  ∧ IdealRules.named_const.Statement Cert.SwaIdeal.κ "slope25" .f32 0x3C5744FD#32 ((64⁻¹ * (Real.sqrt (Real.sqrt 2))⁻¹ : ℝ) : EReal)
  ∧ IdealRules.named_const.Statement Cert.SwaIdeal.κ "slope26" .f32 0x3C3504F3#32 ((64⁻¹ * (Real.sqrt 2)⁻¹ : ℝ) : EReal)
  ∧ IdealRules.named_const.Statement Cert.SwaIdeal.κ "slope27" .f32 0x3C1837F0#32 ((64⁻¹ * ((Real.sqrt 2)⁻¹ * (Real.sqrt (Real.sqrt 2))⁻¹) : ℝ) : EReal)
  ∧ IdealRules.named_const.Statement Cert.SwaIdeal.κ "slope29" .f32 0x3BD744FD#32 ((128⁻¹ * (Real.sqrt (Real.sqrt 2))⁻¹ : ℝ) : EReal)
  ∧ IdealRules.named_const.Statement Cert.SwaIdeal.κ "slope30" .f32 0x3BB504F3#32 ((128⁻¹ * (Real.sqrt 2)⁻¹ : ℝ) : EReal)
  ∧ IdealRules.named_const.Statement Cert.SwaIdeal.κ "slope31" .f32 0x3B9837F0#32 ((128⁻¹ * ((Real.sqrt 2)⁻¹ * (Real.sqrt (Real.sqrt 2))⁻¹) : ℝ) : EReal)

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v1)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v1) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v89) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Qkvz_QkvzIdeal : Prop :=
  True

def algebraic_QkvzIdeal_QkvzRefIdeal [hQkvzIdeal : Cert.QkvzIdeal.Facts] [hQkvzRefIdeal : Cert.QkvzRefIdeal.Facts] : Prop :=
  ∀ (m : (ℓ : Loc Cert.QkvzIdeal.nD Cert.QkvzIdeal.τ Cert.QkvzIdeal.sig) → Buf (Elt Ideal) ℓ) (g : Dev Cert.QkvzIdeal.nD → PrngReg)
    (m' : (ℓ : Loc Cert.QkvzRefIdeal.nD Cert.QkvzRefIdeal.τ Cert.QkvzRefIdeal.sig) → Buf (Elt Ideal) ℓ) (g' : Dev Cert.QkvzRefIdeal.nD → PrngReg), Pre_QkvzIdeal m →
    (∀ c : Dev Cert.QkvzIdeal.nD,
      m' ((c.tc : Thread Cert.QkvzRefIdeal.nD Cert.QkvzRefIdeal.τ).loc Cert.QkvzRefIdeal.main_arg0) = m ((c.tc : Thread Cert.QkvzIdeal.nD Cert.QkvzIdeal.τ).loc Cert.QkvzIdeal.main_arg0)
      ∧ m' ((c.tc : Thread Cert.QkvzRefIdeal.nD Cert.QkvzRefIdeal.τ).loc Cert.QkvzRefIdeal.main_arg1) = m ((c.tc : Thread Cert.QkvzIdeal.nD Cert.QkvzIdeal.τ).loc Cert.QkvzIdeal.main_arg1)) →
    ∃ (v0 : (c : Dev Cert.QkvzIdeal.nD) → Buf (Elt Ideal) ((c.tc : Thread Cert.QkvzIdeal.nD Cert.QkvzIdeal.τ).loc Cert.QkvzIdeal.main_v1)),
      θ_run (Cert.QkvzIdeal.defs (F := Ideal)) (onTc (τ := Cert.QkvzIdeal.τ) (Cert.QkvzIdeal.main (F := Ideal))) ⟨m, fun _ => 0, g⟩ (fun r => ∀ c : Dev Cert.QkvzIdeal.nD,
          r.2.mem ((c.tc : Thread Cert.QkvzIdeal.nD Cert.QkvzIdeal.τ).loc Cert.QkvzIdeal.main_v1) = v0 c
          ∧ r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
          ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1))
      ∧ θ_run (Cert.QkvzRefIdeal.defs (F := Ideal)) (onTc (τ := Cert.QkvzRefIdeal.τ) (Cert.QkvzRefIdeal.main (F := Ideal))) ⟨m', fun _ => 0, g'⟩ (fun r => ∀ c : Dev Cert.QkvzRefIdeal.nD,
          r.2.mem ((c.tc : Thread Cert.QkvzRefIdeal.nD Cert.QkvzRefIdeal.τ).loc Cert.QkvzRefIdeal.main_v4) = v0 c
          ∧ r.2.mem ((c.tc : Thread Cert.QkvzRefIdeal.nD Cert.QkvzRefIdeal.τ).loc Cert.QkvzRefIdeal.main_arg0) = m' ((c.tc : Thread Cert.QkvzRefIdeal.nD Cert.QkvzRefIdeal.τ).loc Cert.QkvzRefIdeal.main_arg0)
          ∧ r.2.mem ((c.tc : Thread Cert.QkvzRefIdeal.nD Cert.QkvzRefIdeal.τ).loc Cert.QkvzRefIdeal.main_arg1) = m' ((c.tc : Thread Cert.QkvzRefIdeal.nD Cert.QkvzRefIdeal.τ).loc Cert.QkvzRefIdeal.main_arg1))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)) →
    ∃ (v0 : (c : Dev Cert.RestIdeal.nD) → Buf (Elt Ideal) ((c.tc : Thread Cert.RestIdeal.nD Cert.RestIdeal.τ).loc Cert.RestIdeal.main_v1)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v1) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v6) = v0 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)) →
    ∃ (v0 : (c : Dev Cert.FfUpIdeal.nD) → Buf (Elt Ideal) ((c.tc : Thread Cert.FfUpIdeal.nD Cert.FfUpIdeal.τ).loc Cert.FfUpIdeal.main_v0)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0) = v0 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v6) = v0 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1))

def preserves_FfDown_FfDownIdeal : Prop :=
  True

def algebraic_FfDownIdeal_FfDownRefIdeal [hFfDownIdeal : Cert.FfDownIdeal.Facts] [hFfDownRefIdeal : Cert.FfDownRefIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownRefIdeal.nD Cert.FfDownRefIdeal.τ Cert.FfDownRefIdeal.sig) → Buf (Elt Ideal) ℓ) (g' : Dev Cert.FfDownRefIdeal.nD → PrngReg), Pre_FfDownIdeal m →
    (∀ c : Dev Cert.FfDownIdeal.nD,
      m' ((c.tc : Thread Cert.FfDownRefIdeal.nD Cert.FfDownRefIdeal.τ).loc Cert.FfDownRefIdeal.main_arg0) = m ((c.tc : Thread Cert.FfDownIdeal.nD Cert.FfDownIdeal.τ).loc Cert.FfDownIdeal.main_arg0)
      ∧ m' ((c.tc : Thread Cert.FfDownRefIdeal.nD Cert.FfDownRefIdeal.τ).loc Cert.FfDownRefIdeal.main_arg1) = m ((c.tc : Thread Cert.FfDownIdeal.nD Cert.FfDownIdeal.τ).loc Cert.FfDownIdeal.main_arg1)
      ∧ m' ((c.tc : Thread Cert.FfDownRefIdeal.nD Cert.FfDownRefIdeal.τ).loc Cert.FfDownRefIdeal.main_arg2) = m ((c.tc : Thread Cert.FfDownIdeal.nD Cert.FfDownIdeal.τ).loc Cert.FfDownIdeal.main_arg2)) →
    ∃ (v0 : (c : Dev Cert.FfDownIdeal.nD) → Buf (Elt Ideal) ((c.tc : Thread Cert.FfDownIdeal.nD Cert.FfDownIdeal.τ).loc Cert.FfDownIdeal.main_v1)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v1) = v0 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ θ_run (Cert.FfDownRefIdeal.defs (F := Ideal)) (onTc (τ := Cert.FfDownRefIdeal.τ) (Cert.FfDownRefIdeal.main (F := Ideal))) ⟨m', fun _ => 0, g'⟩ (fun r => ∀ c : Dev Cert.FfDownRefIdeal.nD,
          r.2.mem ((c.tc : Thread Cert.FfDownRefIdeal.nD Cert.FfDownRefIdeal.τ).loc Cert.FfDownRefIdeal.main_v4) = v0 c
          ∧ r.2.mem ((c.tc : Thread Cert.FfDownRefIdeal.nD Cert.FfDownRefIdeal.τ).loc Cert.FfDownRefIdeal.main_arg0) = m' ((c.tc : Thread Cert.FfDownRefIdeal.nD Cert.FfDownRefIdeal.τ).loc Cert.FfDownRefIdeal.main_arg0)
          ∧ r.2.mem ((c.tc : Thread Cert.FfDownRefIdeal.nD Cert.FfDownRefIdeal.τ).loc Cert.FfDownRefIdeal.main_arg1) = m' ((c.tc : Thread Cert.FfDownRefIdeal.nD Cert.FfDownRefIdeal.τ).loc Cert.FfDownRefIdeal.main_arg1)
          ∧ r.2.mem ((c.tc : Thread Cert.FfDownRefIdeal.nD Cert.FfDownRefIdeal.τ).loc Cert.FfDownRefIdeal.main_arg2) = m' ((c.tc : Thread Cert.FfDownRefIdeal.nD Cert.FfDownRefIdeal.τ).loc Cert.FfDownRefIdeal.main_arg2))

def preserves_NormOne_NormOneIdeal : Prop :=
  True

def algebraic_NormOneIdeal_NormOneRefIdeal [hNormOneIdeal : Cert.NormOneIdeal.Facts] [hNormOneRefIdeal : Cert.NormOneRefIdeal.Facts] : Prop :=
  ∀ (m : (ℓ : Loc Cert.NormOneIdeal.nD Cert.NormOneIdeal.τ Cert.NormOneIdeal.sig) → Buf (Elt Ideal) ℓ) (g : Dev Cert.NormOneIdeal.nD → PrngReg)
    (m' : (ℓ : Loc Cert.NormOneRefIdeal.nD Cert.NormOneRefIdeal.τ Cert.NormOneRefIdeal.sig) → Buf (Elt Ideal) ℓ) (g' : Dev Cert.NormOneRefIdeal.nD → PrngReg), Pre_NormOneIdeal m →
    (∀ c : Dev Cert.NormOneIdeal.nD,
      m' ((c.tc : Thread Cert.NormOneRefIdeal.nD Cert.NormOneRefIdeal.τ).loc Cert.NormOneRefIdeal.main_arg0) = m ((c.tc : Thread Cert.NormOneIdeal.nD Cert.NormOneIdeal.τ).loc Cert.NormOneIdeal.main_arg0)
      ∧ m' ((c.tc : Thread Cert.NormOneRefIdeal.nD Cert.NormOneRefIdeal.τ).loc Cert.NormOneRefIdeal.main_arg1) = m ((c.tc : Thread Cert.NormOneIdeal.nD Cert.NormOneIdeal.τ).loc Cert.NormOneIdeal.main_arg1)) →
    ∃ (v0 : (c : Dev Cert.NormOneIdeal.nD) → Buf (Elt Ideal) ((c.tc : Thread Cert.NormOneIdeal.nD Cert.NormOneIdeal.τ).loc Cert.NormOneIdeal.main_v3)),
      θ_run (Cert.NormOneIdeal.defs (F := Ideal)) (onTc (τ := Cert.NormOneIdeal.τ) (Cert.NormOneIdeal.main (F := Ideal))) ⟨m, fun _ => 0, g⟩ (fun r => ∀ c : Dev Cert.NormOneIdeal.nD,
          r.2.mem ((c.tc : Thread Cert.NormOneIdeal.nD Cert.NormOneIdeal.τ).loc Cert.NormOneIdeal.main_v3) = v0 c
          ∧ r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
          ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1))
      ∧ θ_run (Cert.NormOneRefIdeal.defs (F := Ideal)) (onTc (τ := Cert.NormOneRefIdeal.τ) (Cert.NormOneRefIdeal.main (F := Ideal))) ⟨m', fun _ => 0, g'⟩ (fun r => ∀ c : Dev Cert.NormOneRefIdeal.nD,
          r.2.mem ((c.tc : Thread Cert.NormOneRefIdeal.nD Cert.NormOneRefIdeal.τ).loc Cert.NormOneRefIdeal.main_v15) = v0 c
          ∧ r.2.mem ((c.tc : Thread Cert.NormOneRefIdeal.nD Cert.NormOneRefIdeal.τ).loc Cert.NormOneRefIdeal.main_arg0) = m' ((c.tc : Thread Cert.NormOneRefIdeal.nD Cert.NormOneRefIdeal.τ).loc Cert.NormOneRefIdeal.main_arg0)
          ∧ r.2.mem ((c.tc : Thread Cert.NormOneRefIdeal.nD Cert.NormOneRefIdeal.τ).loc Cert.NormOneRefIdeal.main_arg1) = m' ((c.tc : Thread Cert.NormOneRefIdeal.nD Cert.NormOneRefIdeal.τ).loc Cert.NormOneRefIdeal.main_arg1))

def preserves_NormFinal_NormFinalIdeal : Prop :=
  True

def algebraic_NormFinalIdeal_NormFinalRefIdeal [hNormFinalIdeal : Cert.NormFinalIdeal.Facts] [hNormFinalRefIdeal : Cert.NormFinalRefIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg)
    (m' : (ℓ : Loc Cert.NormFinalRefIdeal.nD Cert.NormFinalRefIdeal.τ Cert.NormFinalRefIdeal.sig) → Buf (Elt Ideal) ℓ) (g' : Dev Cert.NormFinalRefIdeal.nD → PrngReg), Pre_NormFinalIdeal m →
    (∀ c : Dev Cert.NormFinalIdeal.nD,
      m' ((c.tc : Thread Cert.NormFinalRefIdeal.nD Cert.NormFinalRefIdeal.τ).loc Cert.NormFinalRefIdeal.main_arg0) = m ((c.tc : Thread Cert.NormFinalIdeal.nD Cert.NormFinalIdeal.τ).loc Cert.NormFinalIdeal.main_arg0)
      ∧ m' ((c.tc : Thread Cert.NormFinalRefIdeal.nD Cert.NormFinalRefIdeal.τ).loc Cert.NormFinalRefIdeal.main_arg1) = m ((c.tc : Thread Cert.NormFinalIdeal.nD Cert.NormFinalIdeal.τ).loc Cert.NormFinalIdeal.main_arg1)) →
    ∃ (v0 : (c : Dev Cert.NormFinalIdeal.nD) → Buf (Elt Ideal) ((c.tc : Thread Cert.NormFinalIdeal.nD Cert.NormFinalIdeal.τ).loc Cert.NormFinalIdeal.main_v1)),
      θ_run (Cert.NormFinalIdeal.defs (F := Ideal)) (onTc (τ := Cert.NormFinalIdeal.τ) (Cert.NormFinalIdeal.main (F := Ideal))) ⟨m, fun _ => 0, g⟩ (fun r => ∀ c : Dev Cert.NormFinalIdeal.nD,
          r.2.mem ((c.tc : Thread Cert.NormFinalIdeal.nD Cert.NormFinalIdeal.τ).loc Cert.NormFinalIdeal.main_v1) = v0 c
          ∧ r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
          ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1))
      ∧ θ_run (Cert.NormFinalRefIdeal.defs (F := Ideal)) (onTc (τ := Cert.NormFinalRefIdeal.τ) (Cert.NormFinalRefIdeal.main (F := Ideal))) ⟨m', fun _ => 0, g'⟩ (fun r => ∀ c : Dev Cert.NormFinalRefIdeal.nD,
          r.2.mem ((c.tc : Thread Cert.NormFinalRefIdeal.nD Cert.NormFinalRefIdeal.τ).loc Cert.NormFinalRefIdeal.main_v12) = v0 c
          ∧ r.2.mem ((c.tc : Thread Cert.NormFinalRefIdeal.nD Cert.NormFinalRefIdeal.τ).loc Cert.NormFinalRefIdeal.main_arg0) = m' ((c.tc : Thread Cert.NormFinalRefIdeal.nD Cert.NormFinalRefIdeal.τ).loc Cert.NormFinalRefIdeal.main_arg0)
          ∧ r.2.mem ((c.tc : Thread Cert.NormFinalRefIdeal.nD Cert.NormFinalRefIdeal.τ).loc Cert.NormFinalRefIdeal.main_arg1) = m' ((c.tc : Thread Cert.NormFinalRefIdeal.nD Cert.NormFinalRefIdeal.τ).loc Cert.NormFinalRefIdeal.main_arg1))

def preserves_Gdn_GdnIdeal : Prop :=
  True

def Claim : Prop :=
  ∃ (hSwa : Cert.Swa.Facts) (hSwaIdeal : Cert.SwaIdeal.Facts) (hSwaRefIdeal : Cert.SwaRefIdeal.Facts) (hQkvz : Cert.Qkvz.Facts) (hQkvzIdeal : Cert.QkvzIdeal.Facts) (hQkvzRefIdeal : Cert.QkvzRefIdeal.Facts) (hRest : Cert.Rest.Facts) (hRestIdeal : Cert.RestIdeal.Facts) (hRestRefIdeal : Cert.RestRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfUp : Cert.FfUp.Facts) (hFfUpIdeal : Cert.FfUpIdeal.Facts) (hFfUpRefIdeal : Cert.FfUpRefIdeal.Facts) (hFfDown : Cert.FfDown.Facts) (hFfDownIdeal : Cert.FfDownIdeal.Facts) (hFfDownRefIdeal : Cert.FfDownRefIdeal.Facts) (hNormOne : Cert.NormOne.Facts) (hNormOneIdeal : Cert.NormOneIdeal.Facts) (hNormOneRefIdeal : Cert.NormOneRefIdeal.Facts) (hNormFinal : Cert.NormFinal.Facts) (hNormFinalIdeal : Cert.NormFinalIdeal.Facts) (hNormFinalRefIdeal : Cert.NormFinalRefIdeal.Facts) (hGdn : Cert.Gdn.Facts) (hGdnIdeal : Cert.GdnIdeal.Facts) (hPre_finite_scores : Cert.Pre_finite_scores.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Qkvz (hQkvz := hQkvz)
    ∧ quiescent_QkvzIdeal (hQkvzIdeal := hQkvzIdeal)
    ∧ quiescent_QkvzRefIdeal (hQkvzRefIdeal := hQkvzRefIdeal)
    ∧ quiescent_Rest (hRest := hRest)
    ∧ quiescent_RestIdeal (hRestIdeal := hRestIdeal)
    ∧ quiescent_RestRefIdeal (hRestRefIdeal := hRestRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_FfDown (hFfDown := hFfDown)
    ∧ quiescent_FfDownIdeal (hFfDownIdeal := hFfDownIdeal)
    ∧ quiescent_FfDownRefIdeal (hFfDownRefIdeal := hFfDownRefIdeal)
    ∧ quiescent_NormOne (hNormOne := hNormOne)
    ∧ quiescent_NormOneIdeal (hNormOneIdeal := hNormOneIdeal)
    ∧ quiescent_NormOneRefIdeal (hNormOneRefIdeal := hNormOneRefIdeal)
    ∧ quiescent_NormFinal (hNormFinal := hNormFinal)
    ∧ quiescent_NormFinalIdeal (hNormFinalIdeal := hNormFinalIdeal)
    ∧ quiescent_NormFinalRefIdeal (hNormFinalRefIdeal := hNormFinalRefIdeal)
    ∧ quiescent_Gdn (hGdn := hGdn)
    ∧ quiescent_GdnIdeal (hGdnIdeal := hGdnIdeal)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Qkvz_QkvzIdeal
    ∧ algebraic_QkvzIdeal_QkvzRefIdeal (hQkvzIdeal := hQkvzIdeal) (hQkvzRefIdeal := hQkvzRefIdeal)
    ∧ preserves_Rest_RestIdeal
    ∧ algebraic_RestIdeal_RestRefIdeal (hRestIdeal := hRestIdeal) (hRestRefIdeal := hRestRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FfUp_FfUpIdeal
    ∧ algebraic_FfUpIdeal_FfUpRefIdeal (hFfUpIdeal := hFfUpIdeal) (hFfUpRefIdeal := hFfUpRefIdeal)
    ∧ preserves_FfDown_FfDownIdeal
    ∧ algebraic_FfDownIdeal_FfDownRefIdeal (hFfDownIdeal := hFfDownIdeal) (hFfDownRefIdeal := hFfDownRefIdeal)
    ∧ preserves_NormOne_NormOneIdeal
    ∧ algebraic_NormOneIdeal_NormOneRefIdeal (hNormOneIdeal := hNormOneIdeal) (hNormOneRefIdeal := hNormOneRefIdeal)
    ∧ preserves_NormFinal_NormFinalIdeal
    ∧ algebraic_NormFinalIdeal_NormFinalRefIdeal (hNormFinalIdeal := hNormFinalIdeal) (hNormFinalRefIdeal := hNormFinalRefIdeal)
    ∧ preserves_Gdn_GdnIdeal
-- ==== Pre_finite_scores.lean ====
abbrev S2x4096x6784 : Shape := ⟨3, ![2, 4096, 6784]⟩
abbrev S32 : Shape := ⟨1, ![32]⟩
abbrev S2x4096x2304 : Shape := ⟨3, ![2, 4096, 2304]⟩
abbrev S_ : Shape := ⟨0, ![]⟩

class Facts : Prop where
  slices_S2x4096x6784_S2x4096x2304_0_0_0 : S2x4096x6784.Slices ![0, 0, 0] S2x4096x2304
  bcast_S_S2x4096x2304 : S_.BroadcastsInDim S2x4096x2304 (![] : Fin 0 → Fin S2x4096x2304.rank)
  bcast_S_S32 : S_.BroadcastsInDim S32 (![] : Fin 0 → Fin S32.rank)

variable [Facts]

def fn {F : FTy → Type} [FloatOps F] (main_arg0 : FVec F S2x4096x6784 .f32) (main_arg1 : FVec F S32 .f32) : IVec S2x4096x2304 1 × IVec S32 1 :=
  let main_v0 : FVec F S2x4096x2304 .f32 := (extractStridedSlice S2x4096x2304 ![0, 0, 0] · slices_S2x4096x6784_S2x4096x2304_0_0_0) main_arg0
  let main_v1 : FVec F S2x4096x2304 .f32 := Host.absf main_v0
  let main_cst : FVec F S_ .f32 := constant S_ .f32 0x7F800000#32
  let main_v2 : FVec F S2x4096x2304 .f32 := broadcastInDim S2x4096x2304 ![] bcast_S_S2x4096x2304 main_cst
  let main_v3 : IVec S2x4096x2304 1 := cmpf .olt main_v1 main_v2
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  (main_v3, main_v6)
-- ==== Swa.lean ====
abbrev S2x4096x6784 : Shape := ⟨3, ![2, 4096, 6784]⟩
abbrev S32 : Shape := ⟨1, ![32]⟩
abbrev S1x32 : Shape := ⟨2, ![1, 32]⟩
abbrev S2x4096x2048 : Shape := ⟨3, ![2, 4096, 2048]⟩
abbrev S1x128x2048 : Shape := ⟨3, ![1, 128, 2048]⟩
abbrev S1x128x256 : Shape := ⟨3, ![1, 128, 256]⟩
abbrev S128x128 : Shape := ⟨2, ![128, 128]⟩
abbrev S1x128x128 : Shape := ⟨3, ![1, 128, 128]⟩
abbrev S256x128 : Shape := ⟨2, ![256, 128]⟩
abbrev S256x256 : Shape := ⟨2, ![256, 256]⟩
abbrev S1x1 : Shape := ⟨2, ![1, 1]⟩
abbrev S128 : Shape := ⟨1, ![128]⟩
abbrev S1x128 : Shape := ⟨2, ![1, 128]⟩
abbrev S128x256 : Shape := ⟨2, ![128, 256]⟩
abbrev S64x256 : Shape := ⟨2, ![64, 256]⟩
abbrev S64x128 : Shape := ⟨2, ![64, 128]⟩

abbrev nBuf : Space → Nat
  | .hbm => 4
  | .vmem => 12
  | .smem => 1
  | _ => 0

abbrev bufTy : (tb : Table) → Fin (tcTables nBuf tb) → BufTy
  | .hbm, ⟨0, _⟩ => ⟨S2x4096x6784, .f32⟩
  | .hbm, ⟨1, _⟩ => ⟨S32, .f32⟩
  | .hbm, ⟨2, _⟩ => ⟨S1x32, .f32⟩
  | .hbm, ⟨3, _⟩ => ⟨S2x4096x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x2048, .bf16⟩
  | .local _ .vmem, ⟨11, _⟩ => ⟨S1x128x2048, .bf16⟩
  | .local _ .smem, ⟨0, _⟩ => ⟨S1x32, .f32⟩
  | _, _ => ⟨S2x4096x6784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  ![arg0.toNat, v1.toNat, c8_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let c0_i32_0 : BitVec 32 := 0#32
  ![arg0.toNat, v1.toNat, c9_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "slope1" => some (((Real.sqrt (Real.sqrt 2))⁻¹ : ℝ) : EReal)
  | "slope10" => some ((4⁻¹ * (Real.sqrt 2)⁻¹ : ℝ) : EReal)
  | "slope11" => some ((4⁻¹ * ((Real.sqrt 2)⁻¹ * (Real.sqrt (Real.sqrt 2))⁻¹) : ℝ) : EReal)
  | "slope13" => some ((8⁻¹ * (Real.sqrt (Real.sqrt 2))⁻¹ : ℝ) : EReal)
  | "slope14" => some ((8⁻¹ * (Real.sqrt 2)⁻¹ : ℝ) : EReal)
  | "slope15" => some ((8⁻¹ * ((Real.sqrt 2)⁻¹ * (Real.sqrt (Real.sqrt 2))⁻¹) : ℝ) : EReal)
  | "slope17" => some ((16⁻¹ * (Real.sqrt (Real.sqrt 2))⁻¹ : ℝ) : EReal)
  | "slope18" => some ((16⁻¹ * (Real.sqrt 2)⁻¹ : ℝ) : EReal)
  | "slope19" => some ((16⁻¹ * ((Real.sqrt 2)⁻¹ * (Real.sqrt (Real.sqrt 2))⁻¹) : ℝ) : EReal)
  | "slope2" => some (((Real.sqrt 2)⁻¹ : ℝ) : EReal)
  | "slope21" => some ((32⁻¹ * (Real.sqrt (Real.sqrt 2))⁻¹ : ℝ) : EReal)
  | "slope22" => some ((32⁻¹ * (Real.sqrt 2)⁻¹ : ℝ) : EReal)
  | "slope23" => some ((32⁻¹ * ((Real.sqrt 2)⁻¹ * (Real.sqrt (Real.sqrt 2))⁻¹) : ℝ) : EReal)
  | "slope25" => some ((64⁻¹ * (Real.sqrt (Real.sqrt 2))⁻¹ : ℝ) : EReal)
  | "slope26" => some ((64⁻¹ * (Real.sqrt 2)⁻¹ : ℝ) : EReal)
  | "slope27" => some ((64⁻¹ * ((Real.sqrt 2)⁻¹ * (Real.sqrt (Real.sqrt 2))⁻¹) : ℝ) : EReal)
  | "slope29" => some ((128⁻¹ * (Real.sqrt (Real.sqrt 2))⁻¹ : ℝ) : EReal)
  | "slope3" => some (((Real.sqrt 2)⁻¹ * (Real.sqrt (Real.sqrt 2))⁻¹ : ℝ) : EReal)
  | "slope30" => some ((128⁻¹ * (Real.sqrt 2)⁻¹ : ℝ) : EReal)
  | "slope31" => some ((128⁻¹ * ((Real.sqrt 2)⁻¹ * (Real.sqrt (Real.sqrt 2))⁻¹) : ℝ) : EReal)
  | "slope5" => some ((2⁻¹ * (Real.sqrt (Real.sqrt 2))⁻¹ : ℝ) : EReal)
  | "slope6" => some ((2⁻¹ * (Real.sqrt 2)⁻¹ : ℝ) : EReal)
  | "slope7" => some ((2⁻¹ * ((Real.sqrt 2)⁻¹ * (Real.sqrt (Real.sqrt 2))⁻¹) : ℝ) : EReal)
  | "slope9" => some ((4⁻¹ * (Real.sqrt (Real.sqrt 2))⁻¹ : ℝ) : EReal)
  | _ => none
-- ==== SwaRefIdeal.lean ====
abbrev S2x4096x6784 : Shape := ⟨3, ![2, 4096, 6784]⟩
abbrev S32 : Shape := ⟨1, ![32]⟩
abbrev S2x4096x2048 : Shape := ⟨3, ![2, 4096, 2048]⟩
abbrev S2x4096x256 : Shape := ⟨3, ![2, 4096, 256]⟩
abbrev S2x4096x4224 : Shape := ⟨3, ![2, 4096, 4224]⟩
abbrev S2x32x128x4x8x64 : Shape := ⟨6, ![2, 32, 128, 4, 8, 64]⟩
abbrev S2x32x128x4x64 : Shape := ⟨5, ![2, 32, 128, 4, 64]⟩
abbrev S_ : Shape := ⟨0, ![]⟩
abbrev S2x33x128x4x64 : Shape := ⟨5, ![2, 33, 128, 4, 64]⟩
abbrev S2x32x256x4x64 : Shape := ⟨5, ![2, 32, 256, 4, 64]⟩
abbrev S2x32x4x256x128x8 : Shape := ⟨6, ![2, 32, 4, 256, 128, 8]⟩
abbrev S2x32x4x8x128x256 : Shape := ⟨6, ![2, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S1x32x1x1x128x256 : Shape := ⟨6, ![1, 32, 1, 1, 128, 256]⟩
abbrev S1x1x4x8x128x256 : Shape := ⟨6, ![1, 1, 4, 8, 128, 256]⟩
abbrev S2x32x4x8x128 : Shape := ⟨5, ![2, 32, 4, 8, 128]⟩
abbrev S2x32x4x8x128x1 : Shape := ⟨6, ![2, 32, 4, 8, 128, 1]⟩
abbrev S1x1x4x8x1x1 : Shape := ⟨6, ![1, 1, 4, 8, 1, 1]⟩
abbrev S2x32x4x64x8x128 : Shape := ⟨6, ![2, 32, 4, 64, 8, 128]⟩

abbrev nBuf : Space → Nat
  | .hbm => 112
  | .vmem => 0
  | .smem => 0
  | _ => 0

abbrev bufTy : (tb : Table) → Fin (tcTables nBuf tb) → BufTy
  | .hbm, ⟨0, _⟩ => ⟨S2x4096x6784, .f32⟩
  | .hbm, ⟨1, _⟩ => ⟨S32, .f32⟩
  | .hbm, ⟨2, _⟩ => ⟨S2x4096x2048, .f32⟩
  | .hbm, ⟨3, _⟩ => ⟨S2x4096x256, .f32⟩
  | .hbm, ⟨4, _⟩ => ⟨S2x4096x256, .f32⟩
  | .hbm, ⟨5, _⟩ => ⟨S2x4096x4224, .f32⟩
  | .hbm, ⟨6, _⟩ => ⟨S2x32x128x4x8x64, .f32⟩
  | .hbm, ⟨7, _⟩ => ⟨S2x32x128x4x64, .f32⟩
  | .hbm, ⟨8, _⟩ => ⟨S_, .i32⟩
  | .hbm, ⟨9, _⟩ => ⟨S_, .f32⟩
  | .hbm, ⟨10, _⟩ => ⟨S2x33x128x4x64, .f32⟩
  | .hbm, ⟨11, _⟩ => ⟨S2x32x128x4x64, .f32⟩
  | .hbm, ⟨12, _⟩ => ⟨S2x32x256x4x64, .f32⟩
  | .hbm, ⟨13, _⟩ => ⟨S2x32x128x4x64, .f32⟩
  | .hbm, ⟨14, _⟩ => ⟨S_, .i32⟩
  | .hbm, ⟨15, _⟩ => ⟨S_, .f32⟩
  | .hbm, ⟨16, _⟩ => ⟨S2x33x128x4x64, .f32⟩
  | .hbm, ⟨17, _⟩ => ⟨S2x32x128x4x64, .f32⟩
  | .hbm, ⟨18, _⟩ => ⟨S2x32x256x4x64, .f32⟩
  | .hbm, ⟨19, _⟩ => ⟨S2x32x4x256x128x8, .f32⟩
  | .hbm, ⟨20, _⟩ => ⟨S2x32x4x8x128x256, .f32⟩
  | .hbm, ⟨21, _⟩ => ⟨S_, .f32⟩
  | .hbm, ⟨22, _⟩ => ⟨S2x32x4x8x128x256, .f32⟩
  | .hbm, ⟨23, _⟩ => ⟨S2x32x4x8x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S32, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i1⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x1x256, .i1⟩
  | .hbm, ⟨50, _⟩ => ⟨S32x1x256, .i1⟩
  | .hbm, ⟨51, _⟩ => ⟨S32x1x256, .i1⟩
  | .hbm, ⟨52, _⟩ => ⟨S32x1x256, .i1⟩
  | .hbm, ⟨53, _⟩ => ⟨S1x128x256, .i1⟩
  | .hbm, ⟨54, _⟩ => ⟨S32x128x256, .i1⟩
  | .hbm, ⟨55, _⟩ => ⟨S32x128x256, .i1⟩
  | .hbm, ⟨56, _⟩ => ⟨S32x128x256, .i1⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S4x8, .f32⟩
  | .hbm, ⟨71, _⟩ => ⟨S4x8x1x1, .f32⟩
  | .hbm, ⟨72, _⟩ => ⟨S4x8x1x1, .f32⟩
  | .hbm, ⟨73, _⟩ => ⟨S128x256, .f32⟩
  | .hbm, ⟨74, _⟩ => ⟨S1x1x128x256, .f32⟩
  | .hbm, ⟨75, _⟩ => ⟨S4x8x128x256, .f32⟩
  | .hbm, ⟨76, _⟩ => ⟨S4x8x128x256, .f32⟩
  | .hbm, ⟨77, _⟩ => ⟨S4x8x128x256, .f32⟩
  | .hbm, ⟨78, _⟩ => ⟨S1x32x1x1x128x256, .i1⟩
  | .hbm, ⟨79, _⟩ => ⟨S1x1x4x8x128x256, .f32⟩
  | .hbm, ⟨80, _⟩ => ⟨S2x32x4x8x128x256, .f32⟩
  | .hbm, ⟨81, _⟩ => ⟨S2x32x4x8x128x256, .f32⟩
  | .hbm, ⟨82, _⟩ => ⟨S_, .f32⟩
  | .hbm, ⟨83, _⟩ => ⟨S_, .f32⟩
  | .hbm, ⟨84, _⟩ => ⟨S2x32x4x8x128x256, .i1⟩
  | .hbm, ⟨85, _⟩ => ⟨S2x32x4x8x128x256, .f32⟩
  | .hbm, ⟨86, _⟩ => ⟨S2x32x4x8x128x256, .f32⟩
  | .hbm, ⟨87, _⟩ => ⟨S4x8, .f32⟩
  | .hbm, ⟨88, _⟩ => ⟨S4x8x1x1, .f32⟩
  | .hbm, ⟨89, _⟩ => ⟨S_, .f32⟩
  | .hbm, ⟨90, _⟩ => ⟨S2x32x4x8x128, .f32⟩
  | .hbm, ⟨91, _⟩ => ⟨S2x32x4x8x128x1, .f32⟩
  | .hbm, ⟨92, _⟩ => ⟨S1x1x4x8x1x1, .f32⟩
  | .hbm, ⟨93, _⟩ => ⟨S2x32x4x8x128x1, .f32⟩
  | .hbm, ⟨94, _⟩ => ⟨S2x32x4x8x128x1, .f32⟩
  | .hbm, ⟨95, _⟩ => ⟨S2x32x4x8x128x256, .f32⟩
  | .hbm, ⟨96, _⟩ => ⟨S2x32x4x8x128x256, .f32⟩
  | .hbm, ⟨97, _⟩ => ⟨S2x32x4x8x128x256, .f32⟩
  | .hbm, ⟨98, _⟩ => ⟨S_, .f32⟩
  | .hbm, ⟨99, _⟩ => ⟨S2x32x4x8x128, .f32⟩
  | .hbm, ⟨100, _⟩ => ⟨S2x32x4x8x128x1, .f32⟩
  | .hbm, ⟨101, _⟩ => ⟨S1x1x4x8x1x1, .f32⟩
  | .hbm, ⟨102, _⟩ => ⟨S2x32x4x8x128x1, .f32⟩
  | .hbm, ⟨103, _⟩ => ⟨S2x32x4x8x128x1, .f32⟩
  | .hbm, ⟨104, _⟩ => ⟨S2x32x4x8x128x1, .f32⟩
  | .hbm, ⟨105, _⟩ => ⟨S2x32x4x8x128x1, .f32⟩
  | .hbm, ⟨106, _⟩ => ⟨S2x32x4x8x128x256, .f32⟩
  | .hbm, ⟨107, _⟩ => ⟨S2x32x4x8x128x256, .f32⟩
  | .hbm, ⟨108, _⟩ => ⟨S2x32x4x64x8x128, .f32⟩
  | .hbm, ⟨109, _⟩ => ⟨S2x32x128x4x8x64, .f32⟩
  | .hbm, ⟨110, _⟩ => ⟨S2x4096x2048, .f32⟩
  | .hbm, ⟨111, _⟩ => ⟨S2x4096x2048, .bf16⟩
  | _, _ => ⟨S2x4096x6784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== Qkvz.lean ====
abbrev S8192x2048 : Shape := ⟨2, ![8192, 2048]⟩
abbrev S4x2048x14880 : Shape := ⟨3, ![4, 2048, 14880]⟩
abbrev S4x14880x2048 : Shape := ⟨3, ![4, 14880, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩
abbrev S1x256x2048 : Shape := ⟨3, ![1, 256, 2048]⟩
abbrev S256x2048 : Shape := ⟨2, ![256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x14880, .f32⟩
  | .hbm, ⟨2, _⟩ => ⟨S4x14880x2048, .f32⟩
  | .hbm, ⟨3, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvzRefIdeal.lean ====
abbrev S8192x2048 : Shape := ⟨2, ![8192, 2048]⟩
abbrev S4x2048x14880 : Shape := ⟨3, ![4, 2048, 14880]⟩
abbrev S1x2048x14880 : Shape := ⟨3, ![1, 2048, 14880]⟩
abbrev S2048x14880 : Shape := ⟨2, ![2048, 14880]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x14880, .f32⟩
  | .hbm, ⟨2, _⟩ => ⟨S8192x2048, .f32⟩
  | .hbm, ⟨3, _⟩ => ⟨S1x2048x14880, .f32⟩
  | .hbm, ⟨4, _⟩ => ⟨S2048x14880, .f32⟩
  | .hbm, ⟨5, _⟩ => ⟨S2048x8192, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rest.lean ====
abbrev S8192x2048 : Shape := ⟨2, ![8192, 2048]⟩
abbrev S4x2048x14880 : Shape := ⟨3, ![4, 2048, 14880]⟩
abbrev S4x14880x2048 : Shape := ⟨3, ![4, 14880, 2048]⟩
abbrev S8192x6784 : Shape := ⟨2, ![8192, 6784]⟩
abbrev S1024x2048 : Shape := ⟨2, ![1024, 2048]⟩
abbrev S1x1024x2048 : Shape := ⟨3, ![1, 1024, 2048]⟩
abbrev S1x32x2048 : Shape := ⟨3, ![1, 32, 2048]⟩
abbrev S1x128x2048 : Shape := ⟨3, ![1, 128, 2048]⟩
abbrev S1024x1024 : Shape := ⟨2, ![1024, 1024]⟩
abbrev S1x256x2048 : Shape := ⟨3, ![1, 256, 2048]⟩
abbrev S256x2048 : Shape := ⟨2, ![256, 2048]⟩
abbrev S1x224x2048 : Shape := ⟨3, ![1, 224, 2048]⟩
abbrev S224x2048 : Shape := ⟨2, ![224, 2048]⟩
abbrev S32x2048 : Shape := ⟨2, ![32, 2048]⟩
abbrev S128x2048 : Shape := ⟨2, ![128, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x14880, .f32⟩
  | .hbm, ⟨2, _⟩ => ⟨S4x14880x2048, .f32⟩
  | .hbm, ⟨3, _⟩ => ⟨S8192x6784, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x128x2048, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let c0_i32 : BitVec 32 := 0#32
  let c0_i32_0 : BitVec 32 := 0#32
  ![c3_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1024_i32 : BitVec 32 := 1024#32
  let v1 : BitVec 32 := Scalar.muli v0 c1024_i32
  let c8192_i32 : BitVec 32 := 8192#32
  let v2 : BitVec 32 := Scalar.addi c8192_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c464_i32 : BitVec 32 := 464#32
  let v20 : BitVec 32 := Scalar.minsi v19 c464_i32
  let c3_i32 : BitVec 32 := 3#32
  let c0_i32_5 : BitVec 32 := 0#32
  let c0_i32_6 : BitVec 32 := 0#32
  ![c3_i32.toNat, v20.toNat, c0_i32_5.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c64_i32 : BitVec 32 := 64#32
  let c0_i32 : BitVec 32 := 0#32
  let c0_i32_0 : BitVec 32 := 0#32
  ![c3_i32.toNat, c64_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RestRefIdeal.lean ====
abbrev S8192x2048 : Shape := ⟨2, ![8192, 2048]⟩
abbrev S4x2048x14880 : Shape := ⟨3, ![4, 2048, 14880]⟩
abbrev S1x2048x14880 : Shape := ⟨3, ![1, 2048, 14880]⟩
abbrev S2048x14880 : Shape := ⟨2, ![2048, 14880]⟩
abbrev S2048x6656 : Shape := ⟨2, ![2048, 6656]⟩
abbrev S2048x128 : Shape := ⟨2, ![2048, 128]⟩
abbrev S2048x6784 : Shape := ⟨2, ![2048, 6784]⟩
abbrev S8192x6784 : Shape := ⟨2, ![8192, 6784]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x14880, .f32⟩
  | .hbm, ⟨2, _⟩ => ⟨S1x2048x14880, .f32⟩
  | .hbm, ⟨3, _⟩ => ⟨S2048x14880, .f32⟩
  | .hbm, ⟨4, _⟩ => ⟨S8192x2048, .f32⟩
  | .hbm, ⟨5, _⟩ => ⟨S2048x6656, .f32⟩
  | .hbm, ⟨6, _⟩ => ⟨S2048x128, .f32⟩
  | .hbm, ⟨7, _⟩ => ⟨S2048x6784, .f32⟩
  | .hbm, ⟨8, _⟩ => ⟨S8192x6784, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Merge.lean ====
abbrev S8192x2048 : Shape := ⟨2, ![8192, 2048]⟩
abbrev S4x2048x2048 : Shape := ⟨3, ![4, 2048, 2048]⟩
abbrev S8192x6784 : Shape := ⟨2, ![8192, 6784]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .f32⟩
  | .hbm, ⟨3, _⟩ => ⟨S4x2048x2048, .f32⟩
  | .hbm, ⟨4, _⟩ => ⟨S8192x6784, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S4x2048x2048 : Shape := ⟨3, ![4, 2048, 2048]⟩
abbrev S8192x6784 : Shape := ⟨2, ![8192, 6784]⟩
abbrev S1x2048x2048 : Shape := ⟨3, ![1, 2048, 2048]⟩
abbrev S2048x2048 : Shape := ⟨2, ![2048, 2048]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .f32⟩
  | .hbm, ⟨3, _⟩ => ⟨S4x2048x2048, .f32⟩
  | .hbm, ⟨4, _⟩ => ⟨S8192x6784, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S8192x2048, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S4x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S4x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfUp.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfUpRefIdeal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfDown.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .f32⟩
  | .hbm, ⟨2, _⟩ => ⟨S8192x2048, .f32⟩
  | .hbm, ⟨3, _⟩ => ⟨S4x8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfDownRefIdeal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .f32⟩
  | .hbm, ⟨2, _⟩ => ⟨S8192x2048, .f32⟩
  | .hbm, ⟨3, _⟩ => ⟨S8192x8192, .f32⟩
  | .hbm, ⟨4, _⟩ => ⟨S1x8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormOne.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormOneRefIdeal.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormFinal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFinalRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gdn.lean ====
abbrev S2x4096x8192 : Shape := ⟨3, ![2, 4096, 8192]⟩
abbrev S2x4096x6784 : Shape := ⟨3, ![2, 4096, 6784]⟩
abbrev S4x4x6144 : Shape := ⟨3, ![4, 4, 6144]⟩
abbrev S4x16 : Shape := ⟨2, ![4, 16]⟩
abbrev S4x128 : Shape := ⟨2, ![4, 128]⟩
abbrev S1x4x6144 : Shape := ⟨3, ![1, 4, 6144]⟩
abbrev S4x6144 : Shape := ⟨2, ![4, 6144]⟩
abbrev S1x16 : Shape := ⟨2, ![1, 16]⟩
abbrev S16 : Shape := ⟨1, ![16]⟩
abbrev S1x128 : Shape := ⟨2, ![1, 128]⟩
abbrev S128 : Shape := ⟨1, ![128]⟩
abbrev S_ : Shape := ⟨0, ![]⟩
abbrev S2x128 : Shape := ⟨2, ![2, 128]⟩
abbrev S1 : Shape := ⟨1, ![1]⟩
abbrev S2 : Shape := ⟨1, ![2]⟩
abbrev S2x4096x2048 : Shape := ⟨3, ![2, 4096, 2048]⟩
abbrev S1x128x6144 : Shape := ⟨3, ![1, 128, 6144]⟩
abbrev S1x128x2048 : Shape := ⟨3, ![1, 128, 2048]⟩
abbrev S1x128x128 : Shape := ⟨3, ![1, 128, 128]⟩
abbrev S16x128x128 : Shape := ⟨3, ![16, 128, 128]⟩
abbrev S8x6144 : Shape := ⟨2, ![8, 6144]⟩
abbrev S1x64x128 : Shape := ⟨3, ![1, 64, 128]⟩
abbrev S64x128 : Shape := ⟨2, ![64, 128]⟩
abbrev S128x128 : Shape := ⟨2, ![128, 128]⟩
abbrev S64x256 : Shape := ⟨2, ![64, 256]⟩
abbrev S8x128 : Shape := ⟨2, ![8, 128]⟩
abbrev S56x128 : Shape := ⟨2, ![56, 128]⟩
abbrev S64 : Shape := ⟨1, ![64]⟩
abbrev S64x1 : Shape := ⟨2, ![64, 1]⟩
abbrev S1x1 : Shape := ⟨2, ![1, 1]⟩
abbrev S128x256 : Shape := ⟨2, ![128, 256]⟩
abbrev S64x384 : Shape := ⟨2, ![64, 384]⟩
abbrev S384x128 : Shape := ⟨2, ![384, 128]⟩
abbrev S128x384 : Shape := ⟨2, ![128, 384]⟩
abbrev S1x8x6144 : Shape := ⟨3, ![1, 8, 6144]⟩

abbrev nBuf : Space → Nat
  | .hbm => 30
  | .vmem => 13
  | .smem => 0
  | _ => 0

abbrev bufTy : (tb : Table) → Fin (tcTables nBuf tb) → BufTy
  | .hbm, ⟨0, _⟩ => ⟨S2x4096x8192, .f32⟩
  | .hbm, ⟨1, _⟩ => ⟨S2x4096x6784, .f32⟩
  | .hbm, ⟨2, _⟩ => ⟨S4x4x6144, .f32⟩
  | .hbm, ⟨3, _⟩ => ⟨S4x16, .f32⟩
  | .hbm, ⟨4, _⟩ => ⟨S4x16, .f32⟩
  | .hbm, ⟨5, _⟩ => ⟨S4x128, .f32⟩
  | .hbm, ⟨6, _⟩ => ⟨S1x4x6144, .f32⟩
  | .hbm, ⟨7, _⟩ => ⟨S4x6144, .f32⟩
  | .hbm, ⟨8, _⟩ => ⟨S1x16, .f32⟩
  | .hbm, ⟨9, _⟩ => ⟨S16, .f32⟩
  | .hbm, ⟨10, _⟩ => ⟨S1x16, .f32⟩
  | .hbm, ⟨11, _⟩ => ⟨S16, .f32⟩
  | .hbm, ⟨12, _⟩ => ⟨S1x128, .f32⟩
  | .hbm, ⟨13, _⟩ => ⟨S128, .f32⟩
  | .hbm, ⟨14, _⟩ => ⟨S_, .f32⟩
  | .hbm, ⟨15, _⟩ => ⟨S2x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S2x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S2x128, .f32⟩
  | .hbm, ⟨28, _⟩ => ⟨S1x128, .f32⟩
  | .hbm, ⟨29, _⟩ => ⟨S2x4096x2048, .bf16⟩
  | .local _ .vmem, ⟨0, _⟩ => ⟨S1x128x6144, .f32⟩
  | .local _ .vmem, ⟨1, _⟩ => ⟨S1x128x6144, .f32⟩
  | .local _ .vmem, ⟨2, _⟩ => ⟨S1x128x2048, .f32⟩
  | .local _ .vmem, ⟨3, _⟩ => ⟨S1x128x2048, .f32⟩
  | .local _ .vmem, ⟨4, _⟩ => ⟨S1x128x128, .f32⟩
  | .local _ .vmem, ⟨5, _⟩ => ⟨S1x128x128, .f32⟩
  | .local _ .vmem, ⟨6, _⟩ => ⟨S4x6144, .f32⟩
  | .local _ .vmem, ⟨7, _⟩ => ⟨S2x128, .f32⟩
  | .local _ .vmem, ⟨8, _⟩ => ⟨S1x128, .f32⟩
  | .local _ .vmem, ⟨9, _⟩ => ⟨S1x128x2048, .bf16⟩
  | .local _ .vmem, ⟨10, _⟩ => ⟨S1x128x2048, .bf16⟩
  | .local _ .vmem, ⟨11, _⟩ => ⟨S16x128x128, .f32⟩
  | .local _ .vmem, ⟨12, _⟩ => ⟨S8x6144, .f32⟩
  | _, _ => ⟨S2x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  v4
def k0_off1 (k0_t1 : Fin k0_t1_loop.trips) : Fin 3 → Nat :=
  let c0 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v6 : Index := Scalar.indexCast v5
  let c0_3 : Index := 0#32
  ![0, v6.toNat, 0]
def k0_off2 (k0_t1 : Fin k0_t1_loop.trips) : Fin 3 → Nat :=
  let c0_33 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v90 : Index := Scalar.indexCast v5
  let c0_34 : Index := 0#32
  ![0, v90.toNat, 0]
def k0_off3 (k0_t1 : Fin k0_t1_loop.trips) : Fin 3 → Nat :=
  let c0_48 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v143 : Index := Scalar.indexCast v5
  let c2048 : Index := 2048#32
  ![0, v143.toNat, 2048]
def k0_off4 (k0_t1 : Fin k0_t1_loop.trips) : Fin 3 → Nat :=
  let c0_63 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v196 : Index := Scalar.indexCast v5
  let c4096 : Index := 4096#32
  ![0, v196.toNat, 4096]
def k0_off5 (k0_t1 : Fin k0_t1_loop.trips) : Fin 3 → Nat :=
  let c0_83 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v286 : Index := Scalar.indexCast v5
  let c128 : Index := 128#32
  ![0, v286.toNat, 128]
def k0_off6 (k0_t1 : Fin k0_t1_loop.trips) : Fin 3 → Nat :=
  let c0_98 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v339 : Index := Scalar.indexCast v5
  let c2176 : Index := 2176#32
  ![0, v339.toNat, 2176]
def k0_off7 (k0_t1 : Fin k0_t1_loop.trips) : Fin 3 → Nat :=
  let c0_113 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v392 : Index := Scalar.indexCast v5
  let c4224 : Index := 4224#32
  ![0, v392.toNat, 4224]
def k0_off8 (k0_t1 : Fin k0_t1_loop.trips) : Fin 3 → Nat :=
  let c0_133 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v482 : Index := Scalar.indexCast v5
  let c256 : Index := 256#32
  ![0, v482.toNat, 256]
def k0_off9 (k0_t1 : Fin k0_t1_loop.trips) : Fin 3 → Nat :=
  let c0_148 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v535 : Index := Scalar.indexCast v5
  let c2304 : Index := 2304#32
  ![0, v535.toNat, 2304]
def k0_off10 (k0_t1 : Fin k0_t1_loop.trips) : Fin 3 → Nat :=
  let c0_163 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v588 : Index := Scalar.indexCast v5
  let c4352 : Index := 4352#32
  ![0, v588.toNat, 4352]
def k0_off11 (k0_t1 : Fin k0_t1_loop.trips) : Fin 3 → Nat :=
  let c0_183 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v678 : Index := Scalar.indexCast v5
  let c384 : Index := 384#32
  ![0, v678.toNat, 384]
def k0_off12 (k0_t1 : Fin k0_t1_loop.trips) : Fin 3 → Nat :=
  let c0_198 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v731 : Index := Scalar.indexCast v5
  let c2432 : Index := 2432#32
  ![0, v731.toNat, 2432]
def k0_off13 (k0_t1 : Fin k0_t1_loop.trips) : Fin 3 → Nat :=
  let c0_213 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v784 : Index := Scalar.indexCast v5
  let c4480 : Index := 4480#32
  ![0, v784.toNat, 4480]
def k0_off14 (k0_t1 : Fin k0_t1_loop.trips) : Fin 3 → Nat :=
  let c0_233 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v874 : Index := Scalar.indexCast v5
  let c512 : Index := 512#32
  ![0, v874.toNat, 512]
def k0_off15 (k0_t1 : Fin k0_t1_loop.trips) : Fin 3 → Nat :=
  let c0_248 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v927 : Index := Scalar.indexCast v5
  let c2560 : Index := 2560#32
  ![0, v927.toNat, 2560]
def k0_off16 (k0_t1 : Fin k0_t1_loop.trips) : Fin 3 → Nat :=
  let c0_263 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v980 : Index := Scalar.indexCast v5
  let c4608 : Index := 4608#32
  ![0, v980.toNat, 4608]
def k0_off17 (k0_t1 : Fin k0_t1_loop.trips) : Fin 3 → Nat :=
  let c0_283 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1070 : Index := Scalar.indexCast v5
  let c640 : Index := 640#32
  ![0, v1070.toNat, 640]
def k0_off18 (k0_t1 : Fin k0_t1_loop.trips) : Fin 3 → Nat :=
  let c0_298 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1123 : Index := Scalar.indexCast v5
  let c2688 : Index := 2688#32
  ![0, v1123.toNat, 2688]
def k0_off19 (k0_t1 : Fin k0_t1_loop.trips) : Fin 3 → Nat :=
  let c0_313 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1176 : Index := Scalar.indexCast v5
  let c4736 : Index := 4736#32
  ![0, v1176.toNat, 4736]
def k0_off20 (k0_t1 : Fin k0_t1_loop.trips) : Fin 3 → Nat :=
  let c0_333 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1266 : Index := Scalar.indexCast v5
  let c768 : Index := 768#32
  ![0, v1266.toNat, 768]
def k0_off21 (k0_t1 : Fin k0_t1_loop.trips) : Fin 3 → Nat :=
  let c0_348 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1319 : Index := Scalar.indexCast v5
  let c2816 : Index := 2816#32
  ![0, v1319.toNat, 2816]
def k0_off22 (k0_t1 : Fin k0_t1_loop.trips) : Fin 3 → Nat :=
  let c0_363 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1372 : Index := Scalar.indexCast v5
  let c4864 : Index := 4864#32
  ![0, v1372.toNat, 4864]
def k0_off23 (k0_t1 : Fin k0_t1_loop.trips) : Fin 3 → Nat :=
  let c0_383 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1462 : Index := Scalar.indexCast v5
  let c896 : Index := 896#32
  ![0, v1462.toNat, 896]
def k0_off24 (k0_t1 : Fin k0_t1_loop.trips) : Fin 3 → Nat :=
  let c0_398 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1515 : Index := Scalar.indexCast v5
  let c2944 : Index := 2944#32
  ![0, v1515.toNat, 2944]
def k0_off25 (k0_t1 : Fin k0_t1_loop.trips) : Fin 3 → Nat :=
  let c0_413 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1568 : Index := Scalar.indexCast v5
  let c4992 : Index := 4992#32
  ![0, v1568.toNat, 4992]
def k0_off26 (k0_t1 : Fin k0_t1_loop.trips) : Fin 3 → Nat :=
  let c0_433 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1658 : Index := Scalar.indexCast v5
  let c1024 : Index := 1024#32
  ![0, v1658.toNat, 1024]
def k0_off27 (k0_t1 : Fin k0_t1_loop.trips) : Fin 3 → Nat :=
  let c0_448 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1711 : Index := Scalar.indexCast v5
  let c3072 : Index := 3072#32
  ![0, v1711.toNat, 3072]
def k0_off28 (k0_t1 : Fin k0_t1_loop.trips) : Fin 3 → Nat :=
  let c0_463 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1764 : Index := Scalar.indexCast v5
  let c5120 : Index := 5120#32
  ![0, v1764.toNat, 5120]
def k0_off29 (k0_t1 : Fin k0_t1_loop.trips) : Fin 3 → Nat :=
  let c0_483 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1854 : Index := Scalar.indexCast v5
  let c1152 : Index := 1152#32
  ![0, v1854.toNat, 1152]
def k0_off30 (k0_t1 : Fin k0_t1_loop.trips) : Fin 3 → Nat :=
  let c0_498 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1907 : Index := Scalar.indexCast v5
  let c3200 : Index := 3200#32
  ![0, v1907.toNat, 3200]
def k0_off31 (k0_t1 : Fin k0_t1_loop.trips) : Fin 3 → Nat :=
  let c0_513 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v1960 : Index := Scalar.indexCast v5
  let c5248 : Index := 5248#32
  ![0, v1960.toNat, 5248]
def k0_off32 (k0_t1 : Fin k0_t1_loop.trips) : Fin 3 → Nat :=
  let c0_533 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2050 : Index := Scalar.indexCast v5
  let c1280 : Index := 1280#32
  ![0, v2050.toNat, 1280]
def k0_off33 (k0_t1 : Fin k0_t1_loop.trips) : Fin 3 → Nat :=
  let c0_548 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2103 : Index := Scalar.indexCast v5
  let c3328 : Index := 3328#32
  ![0, v2103.toNat, 3328]
def k0_off34 (k0_t1 : Fin k0_t1_loop.trips) : Fin 3 → Nat :=
  let c0_563 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2156 : Index := Scalar.indexCast v5
  let c5376 : Index := 5376#32
  ![0, v2156.toNat, 5376]
def k0_off35 (k0_t1 : Fin k0_t1_loop.trips) : Fin 3 → Nat :=
  let c0_583 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2246 : Index := Scalar.indexCast v5
  let c1408 : Index := 1408#32
  ![0, v2246.toNat, 1408]
def k0_off36 (k0_t1 : Fin k0_t1_loop.trips) : Fin 3 → Nat :=
  let c0_598 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2299 : Index := Scalar.indexCast v5
  let c3456 : Index := 3456#32
  ![0, v2299.toNat, 3456]
def k0_off37 (k0_t1 : Fin k0_t1_loop.trips) : Fin 3 → Nat :=
  let c0_613 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2352 : Index := Scalar.indexCast v5
  let c5504 : Index := 5504#32
  ![0, v2352.toNat, 5504]
def k0_off38 (k0_t1 : Fin k0_t1_loop.trips) : Fin 3 → Nat :=
  let c0_633 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2442 : Index := Scalar.indexCast v5
  let c1536 : Index := 1536#32
  ![0, v2442.toNat, 1536]
def k0_off39 (k0_t1 : Fin k0_t1_loop.trips) : Fin 3 → Nat :=
  let c0_648 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2495 : Index := Scalar.indexCast v5
  let c3584 : Index := 3584#32
  ![0, v2495.toNat, 3584]
def k0_off40 (k0_t1 : Fin k0_t1_loop.trips) : Fin 3 → Nat :=
  let c0_663 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2548 : Index := Scalar.indexCast v5
  let c5632 : Index := 5632#32
  ![0, v2548.toNat, 5632]
def k0_off41 (k0_t1 : Fin k0_t1_loop.trips) : Fin 3 → Nat :=
  let c0_683 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2638 : Index := Scalar.indexCast v5
  let c1664 : Index := 1664#32
  ![0, v2638.toNat, 1664]
def k0_off42 (k0_t1 : Fin k0_t1_loop.trips) : Fin 3 → Nat :=
  let c0_698 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2691 : Index := Scalar.indexCast v5
  let c3712 : Index := 3712#32
  ![0, v2691.toNat, 3712]
def k0_off43 (k0_t1 : Fin k0_t1_loop.trips) : Fin 3 → Nat :=
  let c0_713 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2744 : Index := Scalar.indexCast v5
  let c5760 : Index := 5760#32
  ![0, v2744.toNat, 5760]
def k0_off44 (k0_t1 : Fin k0_t1_loop.trips) : Fin 3 → Nat :=
  let c0_733 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2834 : Index := Scalar.indexCast v5
  let c1792 : Index := 1792#32
  ![0, v2834.toNat, 1792]
def k0_off45 (k0_t1 : Fin k0_t1_loop.trips) : Fin 3 → Nat :=
  let c0_748 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2887 : Index := Scalar.indexCast v5
  let c3840 : Index := 3840#32
  ![0, v2887.toNat, 3840]
def k0_off46 (k0_t1 : Fin k0_t1_loop.trips) : Fin 3 → Nat :=
  let c0_763 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v2940 : Index := Scalar.indexCast v5
  let c5888 : Index := 5888#32
  ![0, v2940.toNat, 5888]
def k0_off47 (k0_t1 : Fin k0_t1_loop.trips) : Fin 3 → Nat :=
  let c0_783 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v3030 : Index := Scalar.indexCast v5
  let c1920 : Index := 1920#32
  ![0, v3030.toNat, 1920]
def k0_off48 (k0_t1 : Fin k0_t1_loop.trips) : Fin 3 → Nat :=
  let c0_798 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v3083 : Index := Scalar.indexCast v5
  let c3968 : Index := 3968#32
  ![0, v3083.toNat, 3968]
def k0_off49 (k0_t1 : Fin k0_t1_loop.trips) : Fin 3 → Nat :=
  let c0_813 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v3136 : Index := Scalar.indexCast v5
  let c6016 : Index := 6016#32
  ![0, v3136.toNat, 6016]
def k0_off50 (k0_t1 : Fin k0_t1_loop.trips) : Fin 3 → Nat :=
  let c0_1121 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v4958 : Index := Scalar.indexCast v5
  let c0_1122 : Index := 0#32
  ![0, v4958.toNat, 0]
def k0_off51 (k0_t1 : Fin k0_t1_loop.trips) : Fin 3 → Nat :=
  let c0_1132 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v4992 : Index := Scalar.indexCast v5
  let c128_1133 : Index := 128#32
  ![0, v4992.toNat, 128]
def k0_off52 (k0_t1 : Fin k0_t1_loop.trips) : Fin 3 → Nat :=
  let c0_1143 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5026 : Index := Scalar.indexCast v5
  let c256_1144 : Index := 256#32
  ![0, v5026.toNat, 256]
def k0_off53 (k0_t1 : Fin k0_t1_loop.trips) : Fin 3 → Nat :=
  let c0_1154 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5060 : Index := Scalar.indexCast v5
  let c384_1155 : Index := 384#32
  ![0, v5060.toNat, 384]
def k0_off54 (k0_t1 : Fin k0_t1_loop.trips) : Fin 3 → Nat :=
  let c0_1165 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5094 : Index := Scalar.indexCast v5
  let c512_1166 : Index := 512#32
  ![0, v5094.toNat, 512]
def k0_off55 (k0_t1 : Fin k0_t1_loop.trips) : Fin 3 → Nat :=
  let c0_1176 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5128 : Index := Scalar.indexCast v5
  let c640_1177 : Index := 640#32
  ![0, v5128.toNat, 640]
def k0_off56 (k0_t1 : Fin k0_t1_loop.trips) : Fin 3 → Nat :=
  let c0_1187 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5162 : Index := Scalar.indexCast v5
  let c768_1188 : Index := 768#32
  ![0, v5162.toNat, 768]
def k0_off57 (k0_t1 : Fin k0_t1_loop.trips) : Fin 3 → Nat :=
  let c0_1198 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5196 : Index := Scalar.indexCast v5
  let c896_1199 : Index := 896#32
  ![0, v5196.toNat, 896]
def k0_off58 (k0_t1 : Fin k0_t1_loop.trips) : Fin 3 → Nat :=
  let c0_1209 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5230 : Index := Scalar.indexCast v5
  let c1024_1210 : Index := 1024#32
  ![0, v5230.toNat, 1024]
def k0_off59 (k0_t1 : Fin k0_t1_loop.trips) : Fin 3 → Nat :=
  let c0_1220 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5264 : Index := Scalar.indexCast v5
  let c1152_1221 : Index := 1152#32
  ![0, v5264.toNat, 1152]
def k0_off60 (k0_t1 : Fin k0_t1_loop.trips) : Fin 3 → Nat :=
  let c0_1231 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5298 : Index := Scalar.indexCast v5
  let c1280_1232 : Index := 1280#32
  ![0, v5298.toNat, 1280]
def k0_off61 (k0_t1 : Fin k0_t1_loop.trips) : Fin 3 → Nat :=
  let c0_1242 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5332 : Index := Scalar.indexCast v5
  let c1408_1243 : Index := 1408#32
  ![0, v5332.toNat, 1408]
def k0_off62 (k0_t1 : Fin k0_t1_loop.trips) : Fin 3 → Nat :=
  let c0_1253 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5366 : Index := Scalar.indexCast v5
  let c1536_1254 : Index := 1536#32
  ![0, v5366.toNat, 1536]
def k0_off63 (k0_t1 : Fin k0_t1_loop.trips) : Fin 3 → Nat :=
  let c0_1264 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5400 : Index := Scalar.indexCast v5
  let c1664_1265 : Index := 1664#32
  ![0, v5400.toNat, 1664]
def k0_off64 (k0_t1 : Fin k0_t1_loop.trips) : Fin 3 → Nat :=
  let c0_1275 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5434 : Index := Scalar.indexCast v5
  let c1792_1276 : Index := 1792#32
  ![0, v5434.toNat, 1792]
def k0_off65 (k0_t1 : Fin k0_t1_loop.trips) : Fin 3 → Nat :=
  let c0_1286 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v5468 : Index := Scalar.indexCast v5
  let c1920_1287 : Index := 1920#32
  ![0, v5468.toNat, 1920]
def k0_mult2 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c64_i32_1291 : BitVec 32 := 64#32
  let v5482 : BitVec 32 := Scalar.muli arg11 c64_i32_1291
  let c64_i32_1292 : BitVec 32 := 64#32
  let v5483 : BitVec 32 := Scalar.addi v5482 c64_i32_1292
  let c8_i32_1293 : BitVec 32 := 8#32
  let v5484 : BitVec 32 := Scalar.subi v5483 c8_i32_1293
  v5484
def k0_off66 (k0_t1 : Fin k0_t1_loop.trips) : Fin 3 → Nat :=
  let c0_1294 : Index := 0#32
  let c0_i32_1 : BitVec 32 := 0#32
  let c1_i32 : BitVec 32 := 1#32
  let arg11 : BitVec 32 := Scf.iv c0_i32_1 c1_i32 k0_t1
  let c64_i32_1291 : BitVec 32 := 64#32
  let v5482 : BitVec 32 := Scalar.muli arg11 c64_i32_1291
  let c64_i32_1292 : BitVec 32 := 64#32
  let v5483 : BitVec 32 := Scalar.addi v5482 c64_i32_1292
  let c8_i32_1293 : BitVec 32 := 8#32
  let v5484 : BitVec 32 := Scalar.subi v5483 c8_i32_1293
  let v5485 : BitVec 32 := v5484
  let v5486 : Index := Scalar.indexCast v5485
  let c0_1295 : Index := 0#32
  ![0, v5486.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.RestIdealBody.lean ====
/- The projection of the remaining columns, idealized: the body at a point, case by case. -/
module

public import proofs.«01_k».proof.Proof.Gen.RestIdeal.Frame
public import proofs.«01_k».proof.Proof.Gen.RestIdeal.Skeleton
public import Idealize.ShloMosaic.Lib.Pipeline.DatRel
public import Idealize.ShloMosaic.Lib.Pipeline.ArrRel

@[expose] public section

set_option maxRecDepth 16384

noncomputable section

namespace Cert.RestIdeal.Hand

open Cert.RestIdeal Cert.RestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

/-- The point is the first of a column block: it stores the weights. -/
abbrev cond0 (i : grid0.Coords) : Prop := (Scalar.cmpi .ne (Scalar.extui (Scalar.cmpi .eq (BitVec.ofNat 32 (i 1).val) 0#32)) 0#32) = 1#1
/-- The point is of the last column block. -/
abbrev cond1 (i : grid0.Coords) : Prop := (Scalar.cmpi .ne (Scalar.extui (Scalar.cmpi .eq (BitVec.ofNat 32 (i 0).val) 6#32)) 0#32) = 1#1

theorem hcond0 (t : Fin cfg0.N) : cond0 (grid0.coords t) ↔ t.val % 8 = 0 := by
  have ht : t.val < 56 := Nat.lt_of_lt_of_eq t.isLt N_0
  have e1 : (grid0.coords t 1).val = t.val / 1 % 8 := Pipeline.Grid.coords_val t 1 (by decide) rfl
  simp only [cond0, e1]
  word_cmp

theorem hcond1 (t : Fin cfg0.N) : cond1 (grid0.coords t) ↔ t.val / 8 % 7 = 6 := by
  have ht : t.val < 56 := Nat.lt_of_lt_of_eq t.isLt N_0
  have e0 : (grid0.coords t 0).val = t.val / 8 % 7 := Pipeline.Grid.coords_val t 0 (by decide) rfl
  simp only [cond1, e0]
  word_cmp

set_option maxHeartbeats 2000000 in
/-- The body at the first point of a column block, not the last block. The pieces that its stores leave in the result's buffer and in the scratch, with the triple of the body. -/
def bodyRunA (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1x32x2048 .f32) (harg4 : arg4.IsWhole) (arg5 : Memref sig .tc .vmem S1x128x2048 .f32) (harg5 : arg5.IsWhole)
    (arg6 : Memref sig .tc .vmem S1024x1024 .f32) (harg6 : arg6.IsWhole) (arg7 : Memref sig .tc .vmem S1024x2048 .bf16) (harg7 : arg7.IsWhole)
    (hc0 : cond0 i) (hc1 : ¬cond1 i)
    (x0 : Vec F S1024x2048 .bf16) (x1 : Vec F S1x1024x2048 .f32) (x2 : Vec F S1x32x2048 .f32) (x3 : Vec F S1x128x2048 .f32) :
    Σ' (L4 : List (View.Piece (Elt F) S1024x1024 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_in_proj_rest i arg2 harg2 arg3 harg3 arg4 harg4 arg5 harg5 arg6 harg6 arg7 harg7) K } := by
  refine ⟨?_, ?_, fun E K => ?run⟩
  case run =>
    simp only [cc0_in_proj_rest_eq_skeleton]; unfold cc0_in_proj_rest_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 2000000 in
/-- The body at the first point of the last column block. The pieces that its stores leave in the result's buffer and in the scratch, with the triple of the body. -/
def bodyRunB (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1x32x2048 .f32) (harg4 : arg4.IsWhole) (arg5 : Memref sig .tc .vmem S1x128x2048 .f32) (harg5 : arg5.IsWhole)
    (arg6 : Memref sig .tc .vmem S1024x1024 .f32) (harg6 : arg6.IsWhole) (arg7 : Memref sig .tc .vmem S1024x2048 .bf16) (harg7 : arg7.IsWhole)
    (hc0 : cond0 i) (hc1 : cond1 i)
    (x0 : Vec F S1024x2048 .bf16) (x1 : Vec F S1x1024x2048 .f32) (x2 : Vec F S1x32x2048 .f32) (x3 : Vec F S1x128x2048 .f32) :
    Σ' (L4 : List (View.Piece (Elt F) S1024x1024 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_in_proj_rest i arg2 harg2 arg3 harg3 arg4 harg4 arg5 harg5 arg6 harg6 arg7 harg7) K } := by
  refine ⟨?_, ?_, fun E K => ?run⟩
  case run =>
    simp only [cc0_in_proj_rest_eq_skeleton]; unfold cc0_in_proj_rest_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 2000000 in
/-- The body at a point that keeps the weights. The pieces that its stores leave in the result's buffer, with the triple of the body. -/
def bodyRunC (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1x32x2048 .f32) (harg4 : arg4.IsWhole) (arg5 : Memref sig .tc .vmem S1x128x2048 .f32) (harg5 : arg5.IsWhole)
    (arg6 : Memref sig .tc .vmem S1024x1024 .f32) (harg6 : arg6.IsWhole) (arg7 : Memref sig .tc .vmem S1024x2048 .bf16) (harg7 : arg7.IsWhole)
    (hc0 : ¬cond0 i)
    (x0 : Vec F S1024x2048 .bf16) (x1 : Vec F S1x1024x2048 .f32) (x2 : Vec F S1x32x2048 .f32) (x3 : Vec F S1x128x2048 .f32) (xs0 : Vec F S1024x2048 .bf16) :
    { L4 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0_in_proj_rest i arg2 harg2 arg3 harg3 arg4 harg4 arg5 harg5 arg6 harg6 arg7 harg7) K } := by
  refine ⟨?_, fun E K => ?run⟩
  case run =>
    simp only [cc0_in_proj_rest_eq_skeleton]; unfold cc0_in_proj_rest_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1
    obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.RestIdeal.Hand

end
-- ==== Proof.RestIdealRun.lean ====
/- The projection of the remaining columns, idealized: what each point leaves, the body at every point, the run and the frame. -/
module

public import proofs.«01_k».proof.Proof.RestIdealBody
public import Idealize.ShloMosaic.Lib.Claim

@[expose] public section

set_option maxRecDepth 16384

noncomputable section

namespace Cert.RestIdeal.Hand

open Cert.RestIdeal Cert.RestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of the result's window and the scratch, through which contents are stated. -/
abbrev VO : View sig .tc .vmem S1024x1024 .f32 := (Memref.whole cc0_stg4_0 : Memref sig .tc .vmem S1024x1024 .f32).view
abbrev scM : Memref sig .tc .vmem S1024x2048 .bf16 := Memref.whole cc0_scratch0
abbrev VS : View sig .tc .vmem S1024x2048 .bf16 := scM.view

/-- The windows' current buffers at a point. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)

/-- What window 1's buffer holds at a point: its block where the block lies in the weights, `d` elsewhere. -/
def X1 (c : Dev nD) (t : Fin cfg0.N) (d : (cfg0.win 1).block.Idx → Elt F (cfg0.win 1).elt) : (cfg0.win 1).block.Idx → Elt F (cfg0.win 1).elt :=
  (cfg0.win 1).fill (cfg0.grid.coords t) d (iblk m c 1 t)
/-- Some contents, where nothing says which. -/
def dflt1 : (cfg0.win 1).block.Idx → Elt F (cfg0.win 1).elt := fun _ => Classical.choice inferInstance
def dflt4 : (cfg0.win 4).block.Idx → Elt F (cfg0.win 4).elt := fun _ => Classical.choice inferInstance

section Cases

variable (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1x32x2048 .f32) (harg4 : arg4.IsWhole) (arg5 : Memref sig .tc .vmem S1x128x2048 .f32) (harg5 : arg5.IsWhole)
    (arg6 : Memref sig .tc .vmem S1024x1024 .f32) (harg6 : arg6.IsWhole) (arg7 : Memref sig .tc .vmem S1024x2048 .bf16) (harg7 : arg7.IsWhole)
    (x0 : Vec F S1024x2048 .bf16) (x1 : Vec F S1x1024x2048 .f32) (x2 : Vec F S1x32x2048 .f32) (x3 : Vec F S1x128x2048 .f32) (xs0 : Vec F S1024x2048 .bf16)

theorem coverA (hc0 : cond0 i) (hc1 : ¬cond1 i) (y : S1024x1024.Idx) :
    ∃ pc ∈ (bodyRunA c i arg2 harg2 arg3 harg3 arg4 harg4 arg5 harg5 arg6 harg6 arg7 harg7 hc0 hc1 x0 x1 x2 x3).1, y ∈ pc.1.set :=
  View.cover_of_tiledL (bodyRunA c i arg2 harg2 arg3 harg3 arg4 harg4 arg5 harg5 arg6 harg6 arg7 harg7 hc0 hc1 x0 x1 x2 x3).1 S1024x1024.size (by sl_kernel_rfl) y

theorem coverB (hc0 : cond0 i) (hc1 : cond1 i) (y : S1024x1024.Idx) :
    ∃ pc ∈ (bodyRunB c i arg2 harg2 arg3 harg3 arg4 harg4 arg5 harg5 arg6 harg6 arg7 harg7 hc0 hc1 x0 x1 x2 x3).1, y ∈ pc.1.set :=
  View.cover_of_tiledL (bodyRunB c i arg2 harg2 arg3 harg3 arg4 harg4 arg5 harg5 arg6 harg6 arg7 harg7 hc0 hc1 x0 x1 x2 x3).1 S1024x1024.size (by sl_kernel_rfl) y

theorem coverC (hc0 : ¬cond0 i) (y : S1024x1024.Idx) :
    ∃ pc ∈ (bodyRunC c i arg2 harg2 arg3 harg3 arg4 harg4 arg5 harg5 arg6 harg6 arg7 harg7 hc0 x0 x1 x2 x3 xs0).1, y ∈ pc.1.set :=
  View.cover_of_tiledL (bodyRunC c i arg2 harg2 arg3 harg3 arg4 harg4 arg5 harg5 arg6 harg6 arg7 harg7 hc0 x0 x1 x2 x3 xs0).1 S1024x1024.size (by sl_kernel_rfl) y

theorem scoverA (hc0 : cond0 i) (hc1 : ¬cond1 i) (y : S1024x2048.Idx) :
    ∃ pc ∈ (bodyRunA c i arg2 harg2 arg3 harg3 arg4 harg4 arg5 harg5 arg6 harg6 arg7 harg7 hc0 hc1 x0 x1 x2 x3).2.1, y ∈ pc.1.set :=
  View.cover_of_tiledBy (bodyRunA c i arg2 harg2 arg3 harg3 arg4 harg4 arg5 harg5 arg6 harg6 arg7 harg7 hc0 hc1 x0 x1 x2 x3).2.1 (![32, 2048] : Fin 2 → ℕ) (by sl_kernel_rfl) y

theorem scoverB (hc0 : cond0 i) (hc1 : cond1 i) (y : S1024x2048.Idx) :
    ∃ pc ∈ (bodyRunB c i arg2 harg2 arg3 harg3 arg4 harg4 arg5 harg5 arg6 harg6 arg7 harg7 hc0 hc1 x0 x1 x2 x3).2.1, y ∈ pc.1.set := by
  obtain ⟨pc, hpc, hy⟩ := View.cover_of_tiledBy (bodyRunB c i arg2 harg2 arg3 harg3 arg4 harg4 arg5 harg5 arg6 harg6 arg7 harg7 hc0 hc1 x0 x1 x2 x3).2.1.tail (![32, 2048] : Fin 2 → ℕ) (by sl_kernel_rfl) y
  exact ⟨pc, List.mem_of_mem_tail hpc, hy⟩

end Cases

/-- What a point leaves in the result's buffer and in the scratch, by case: the stored pieces read back. -/
def outA (c : Dev nD) (t : Fin cfg0.N) (hc0 : cond0 (grid0.coords t)) (hc1 : ¬cond1 (grid0.coords t)) (d : (cfg0.win 1).block.Idx → Elt F (cfg0.win 1).elt) : Vec F S1024x1024 .f32 :=
  VO.read (Elt F) (VO.writes (Elt F) VO.junk (bodyRunA c (grid0.coords t) (ms0 t) (hs0 t) (ms1 t) (hs1 t) (ms2 t) (hs2 t) (ms3 t) (hs3 t) (ms4 t) (hs4 t) scM (Memref.isWhole_whole _) hc0 hc1 (iblk m c 0 t) (X1 m c t d) (iblk m c 2 t) (X0_3 m c t)).1)
def soutA (c : Dev nD) (t : Fin cfg0.N) (hc0 : cond0 (grid0.coords t)) (hc1 : ¬cond1 (grid0.coords t)) (d : (cfg0.win 1).block.Idx → Elt F (cfg0.win 1).elt) : Vec F S1024x2048 .bf16 :=
  VS.read (Elt F) (VS.writes (Elt F) VS.junk (bodyRunA c (grid0.coords t) (ms0 t) (hs0 t) (ms1 t) (hs1 t) (ms2 t) (hs2 t) (ms3 t) (hs3 t) (ms4 t) (hs4 t) scM (Memref.isWhole_whole _) hc0 hc1 (iblk m c 0 t) (X1 m c t d) (iblk m c 2 t) (X0_3 m c t)).2.1)
def outB (c : Dev nD) (t : Fin cfg0.N) (hc0 : cond0 (grid0.coords t)) (hc1 : cond1 (grid0.coords t)) (d : (cfg0.win 1).block.Idx → Elt F (cfg0.win 1).elt) : Vec F S1024x1024 .f32 :=
  VO.read (Elt F) (VO.writes (Elt F) VO.junk (bodyRunB c (grid0.coords t) (ms0 t) (hs0 t) (ms1 t) (hs1 t) (ms2 t) (hs2 t) (ms3 t) (hs3 t) (ms4 t) (hs4 t) scM (Memref.isWhole_whole _) hc0 hc1 (iblk m c 0 t) (X1 m c t d) (iblk m c 2 t) (X0_3 m c t)).1)
def soutB (c : Dev nD) (t : Fin cfg0.N) (hc0 : cond0 (grid0.coords t)) (hc1 : cond1 (grid0.coords t)) (d : (cfg0.win 1).block.Idx → Elt F (cfg0.win 1).elt) : Vec F S1024x2048 .bf16 :=
  VS.read (Elt F) (VS.writes (Elt F) VS.junk (bodyRunB c (grid0.coords t) (ms0 t) (hs0 t) (ms1 t) (hs1 t) (ms2 t) (hs2 t) (ms3 t) (hs3 t) (ms4 t) (hs4 t) scM (Memref.isWhole_whole _) hc0 hc1 (iblk m c 0 t) (X1 m c t d) (iblk m c 2 t) (X0_3 m c t)).2.1)
def outC (c : Dev nD) (t : Fin cfg0.N) (hc0 : ¬cond0 (grid0.coords t)) (d : (cfg0.win 1).block.Idx → Elt F (cfg0.win 1).elt) (S : Vec F S1024x2048 .bf16) : Vec F S1024x1024 .f32 :=
  VO.read (Elt F) (VO.writes (Elt F) VO.junk (bodyRunC c (grid0.coords t) (ms0 t) (hs0 t) (ms1 t) (hs1 t) (ms2 t) (hs2 t) (ms3 t) (hs3 t) (ms4 t) (hs4 t) scM (Memref.isWhole_whole _) hc0 (iblk m c 0 t) (X1 m c t d) (iblk m c 2 t) (X0_3 m c t) S).1)

/-- What the scratch may hold after position `n`: what the first point of the column block left. -/
def ScOK (c : Dev nD) (n : ℕ) (S : Vec F S1024x2048 .bf16) : Prop :=
  ∃ t : Fin cfg0.N, t.val % 8 = 0 ∧ t.val / 8 = n / 8 ∧
    ((∃ hc0 hc1 d, S = soutA m c t hc0 hc1 d) ∨ (∃ hc0 hc1 d, S = soutB m c t hc0 hc1 d))

/-- What the result's buffer may hold after the body at a point. -/
def OutOK (c : Dev nD) (t : Fin cfg0.N) (X : Vec F S1024x1024 .f32) : Prop :=
  (∃ hc0 hc1 d, X = outA m c t hc0 hc1 d) ∨ (∃ hc0 hc1 d, X = outB m c t hc0 hc1 d)
    ∨ (∃ hc0 d S, ScOK m c t.val S ∧ X = outC m c t hc0 d S)

/-- The window whose contents are held to a predicate is the result's. -/
def fgt : Fin cfg0.W → Bool
  | ⟨0, _⟩ => false
  | ⟨1, _⟩ => false
  | ⟨2, _⟩ => false
  | ⟨3, _⟩ => false
  | ⟨4, _⟩ => true
/-- And the predicate. -/
def Rl (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun t X => OutOK m c t X

/-- The scratch as owned by the region, whole. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`. -/
def PhiS (c : Dev nD) : ℕ → sProp 𝕄
  | 0 => Pipeline.ΦA spec0 c
  | n + 1 => iprop(iprop(∃ S, ⌜ScOK m c n S⌝ ∗ owns (c : Thread nD τ) scM fullShare S) ∗ (∃ r, prngReg c r))

theorem PhiS_zero (c : Dev nD) : PhiS m c 0 = Pipeline.ΦA spec0 c := rfl
theorem PhiS_succ (c : Dev nD) (n : ℕ) :
    PhiS m c (n + 1) = iprop(iprop(∃ S, ⌜ScOK m c n S⌝ ∗ owns (c : Thread nD τ) scM fullShare S) ∗ (∃ r, prngReg c r)) := rfl

theorem PhiS_pos (c : Dev nD) (n : ℕ) (hz : n ≠ 0) :
    PhiS m c n = iprop(iprop(∃ S, ⌜ScOK m c (n - 1) S⌝ ∗ owns (c : Thread nD τ) scM fullShare S) ∗ (∃ r, prngReg c r)) := by
  cases n with
  | zero => exact absurd rfl hz
  | succ n => rfl

/-- The invariant gives up the scratch at some contents. -/
theorem PhiS_any (c : Dev nD) (n : ℕ) : PhiS m c n ⊢ Pipeline.ΦA spec0 c := by
  cases n with
  | zero => rw [PhiS_zero m c]
  | succ n =>
    rw [PhiS_succ m c, PhiA0_eq]
    iintro ⟨⟨%S, -, HS⟩, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X1 m c t dflt1
    | ⟨2, _⟩ => iblk m c 2 t
    | ⟨3, _⟩ => X0_3 m c t
    | ⟨4, _⟩ => dflt4
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = X1 m c t dflt1 := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X1 m c t d :=
  ((dats m 0 c).before_in_eq_fetched 1 rfl (fun _ => rfl)
      (fun t t' h => funext fun a => congrArg (fun n => Pipeline.Clip.of n ((cfg0.win 1).size a) (S4x14880x2048.size a)) (congrFun h a))
      (fun t => by rw [after0_1]; unfold X1; rw [Pipeline.Window.cut_fill]; unfold Dat.blockOf iblk; rw [A_eq]; try rfl) t d).trans
    (by unfold Dat.fetched X1; unfold Dat.blockOf iblk; rw [A_eq]; try rfl)
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d

/-- What the body is called with at a point, -/
def bodyPre (c : Dev nD) (t : Fin cfg0.N) : sProp 𝕄 :=
  iprop(PhiS m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ Y, ⌜((dats m 0 c).toRRel fgt (Rl m c)).Finds 4 t Y⌝ ∗ owns (c : Thread nD τ) (ms4 t) fullShare Y))

/-- and what it returns. -/
def bodyPost (c : Dev nD) (t : Fin cfg0.N) : sProp 𝕄 :=
  iprop(PhiS m c (t.val + 1) ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ owns (c : Thread nD τ) (ms2 t) fullShare ((dats m 0 c).after 2 t)
    ∗ (∃ d, owns (c : Thread nD τ) (ms3 t) fullShare ((cfg0.win 3).fill (cfg0.grid.coords t) d ((cfg0.win 3).cut (cfg0.grid.coords t) ((dats m 0 c).after 3 t))))
    ∗ (∃ X, ⌜Rl m c 4 t X⌝ ∗ owns (c : Thread nD τ) (ms4 t) fullShare X))

theorem fillcut1 (c : Dev nD) (t : Fin cfg0.N) (d) :
    (cfg0.win 1).fill (cfg0.grid.coords t) d ((cfg0.win 1).cut (cfg0.grid.coords t) ((dats m 0 c).after 1 t)) = X1 m c t d := by
  rw [after0_1]; unfold X1; rw [Pipeline.Window.cut_fill]

theorem fillcut3 (c : Dev nD) (t : Fin cfg0.N) (d) :
    (cfg0.win 3).fill (cfg0.grid.coords t) d ((cfg0.win 3).cut (cfg0.grid.coords t) ((dats m 0 c).after 3 t)) = X0_3 m c t := by
  rw [after0_3]; unfold X0_3; rw [Pipeline.Window.cut_fill]; exact fill0_3 t d dflt0_3 _

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, fillcut1, fillcut3]
  rw [show (dats m 0 c).owesAt () t.succ = (dats m 0 c).owesAt () t.castSucc from rfl, after0_0, after0_2, PhiS_succ]
  have hN : t.val < 56 := lt_of_lt_of_eq t.isLt (show cfg0.N = 56 from N_0)
  by_cases h0 : cond0 (grid0.coords t)
  · have hm : t.val % 8 = 0 := (hcond0 t).mp h0
    refine (sep_mono (PhiS_any m c t.val) .rfl).trans ?_
    rw [PhiA0_eq]
    by_cases h1 : cond1 (grid0.coords t)
    · iintro ⟨⟨HS0, Hg⟩, Ho, ⟨%d0, H0⟩, ⟨%d1, H1⟩, ⟨%d2, H2⟩, ⟨%d3, H3⟩, ⟨%d4, -, H4⟩⟩
      iapply ((bodyRunB c (grid0.coords t) _ _ _ _ _ _ _ _ _ _ _ _ h0 h1 (iblk m c 0 t) (X1 m c t d1) (iblk m c 2 t) (X0_3 m c t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · iexists (soutB m c t h0 h1 d1); isplitr
          · ipureintro; exact ⟨t, hm, rfl, Or.inr ⟨h0, h1, d1, rfl⟩⟩
          unfold owns; iexists _; isplitr
          swap; · iexact HS0
          ipureintro; exact View.read_writes_of_cover _ _ _ _ _ (scoverB c _ _ _ _ _ _ _ _ _ _ _ _ _ _ _ _ _ _ _)
        iexact Hg
      isplitl [Ho]; · iexact Ho
      isplitl [H0]; · iexact H0
      isplitl [H1]; · iexists d1; rw [fillcut1]; iexact H1
      isplitl [H2]; · iexact H2
      isplitl [H3]; · iexists dflt0_3; iexact H3
      iexists (outB m c t h0 h1 d1); isplitr
      · ipureintro; exact Or.inr (Or.inl ⟨h0, h1, d1, rfl⟩)
      unfold owns; iexists _; isplitr
      swap; · iexact H4
      ipureintro; exact View.read_writes_of_cover _ _ _ _ _ (coverB c _ _ _ _ _ _ _ _ _ _ _ _ _ _ _ _ _ _ _)
    · iintro ⟨⟨HS0, Hg⟩, Ho, ⟨%d0, H0⟩, ⟨%d1, H1⟩, ⟨%d2, H2⟩, ⟨%d3, H3⟩, ⟨%d4, -, H4⟩⟩
      iapply ((bodyRunA c (grid0.coords t) _ _ _ _ _ _ _ _ _ _ _ _ h0 h1 (iblk m c 0 t) (X1 m c t d1) (iblk m c 2 t) (X0_3 m c t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · iexists (soutA m c t h0 h1 d1); isplitr
          · ipureintro; exact ⟨t, hm, rfl, Or.inl ⟨h0, h1, d1, rfl⟩⟩
          unfold owns; iexists _; isplitr
          swap; · iexact HS0
          ipureintro; exact View.read_writes_of_cover _ _ _ _ _ (scoverA c _ _ _ _ _ _ _ _ _ _ _ _ _ _ _ _ _ _ _)
        iexact Hg
      isplitl [Ho]; · iexact Ho
      isplitl [H0]; · iexact H0
      isplitl [H1]; · iexists d1; rw [fillcut1]; iexact H1
      isplitl [H2]; · iexact H2
      isplitl [H3]; · iexists dflt0_3; iexact H3
      iexists (outA m c t h0 h1 d1); isplitr
      · ipureintro; exact Or.inl ⟨h0, h1, d1, rfl⟩
      unfold owns; iexists _; isplitr
      swap; · iexact H4
      ipureintro; exact View.read_writes_of_cover _ _ _ _ _ (coverA c _ _ _ _ _ _ _ _ _ _ _ _ _ _ _ _ _ _ _)
  · have hm : t.val % 8 ≠ 0 := fun h => h0 ((hcond0 t).mpr h)
    rw [PhiS_pos m c t.val (by omega)]
    iintro ⟨⟨⟨%S, %hS, HS0⟩, Hg⟩, Ho, ⟨%d0, H0⟩, ⟨%d1, H1⟩, ⟨%d2, H2⟩, ⟨%d3, H3⟩, ⟨%d4, -, H4⟩⟩
    have hS' : ScOK m c t.val S := by
      obtain ⟨t0, h1, h2, h3⟩ := hS
      exact ⟨t0, h1, by omega, h3⟩
    iapply ((bodyRunC c (grid0.coords t) _ _ _ _ _ _ _ _ _ _ _ _ h0 (iblk m c 0 t) (X1 m c t d1) (iblk m c 2 t) (X0_3 m c t) S).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexists S; isplitr
        · ipureintro; exact hS'
        iexact HS0
      iexact Hg
    isplitl [Ho]; · iexact Ho
    isplitl [H0]; · iexact H0
    isplitl [H1]; · iexists d1; rw [fillcut1]; iexact H1
    isplitl [H2]; · iexact H2
    isplitl [H3]; · iexists dflt0_3; iexact H3
    iexists (outC m c t h0 d1 S); isplitr
    · ipureintro; exact Or.inr (Or.inr ⟨h0, d1, S, hS', rfl⟩)
    unfold owns; iexists _; isplitr
    swap; · iexact H4
    ipureintro; exact View.read_writes_of_cover _ _ _ _ _ (coverC c _ _ _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c]

theorem hout (c : Dev nD) : (dats m 0 c).Φ (Fin.last cfg0.N) ⊢ Pipeline.ΦA spec0 c := by
  rw [show (dats m 0 c).Φ (Fin.last cfg0.N) = PhiS m c (Fin.last cfg0.N).val from rfl]
  exact PhiS_any m c _

/-- The data as relational. -/
abbrev rdat (c : Dev nD) : RDat τ (Elt F) Unit ℕ (UR sig nD τ) ℕ cfg0 c := (dats m 0 c).toRRel fgt (Rl m c)

set_option backward.isDefEq.respectTransparency.types false in
/-- The launch: every array at what the data say, every counter at zero. -/
theorem run_main_quiescent : θ_run defs (onTc (τ := τ) (main (F := F))) (s₀ m ρ) (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(RDat.FramePost.arr_in h.1 c 0 rfl).trans ((A_eq m c 0).trans (V_main_arg0 m c)),
      ((h.1 c).2 main_arg1 (Pipeline.mem_restRefs_of main_arg1 (by decide) (by decide))).trans (V_main_arg1 m c)⟩, h.2⟩) (run_main_quiescent m ρ)

end Cert.RestIdeal.Hand

end
-- ==== Proof.GdnIdealBody.lean ====
/- The gated delta rule: the body at one point, its inputs unchanged, its result and its scratch at some contents. -/
module

public import proofs.«01_k».proof.Proof.Gen.GdnIdeal.Frame.Runs

@[expose] public section

set_option maxRecDepth 16384

noncomputable section

namespace Cert.GdnIdeal.Hand

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole buffer at some contents. -/
abbrev some' {s : Shape} {e : EltTy} (c : Dev nD) (a : Memref sig .tc .vmem s e) : sProp 𝕄 :=
  iprop(∃ d, owns (c : Thread nD τ) a fullShare d)

theorem some_of {s : Shape} {e : EltTy} (c : Dev nD) (a : Memref sig .tc .vmem s e) (f : BufTy.Contents (Elt F) a.view.ty) :
    (iprop(a.view.loc (c : Thread nD τ) ↦[a.view.set]{fullShare} f) : sProp 𝕄) ⊢ some' (F := F) c a := by
  unfold some' owns
  iintro H
  iexists _
  iexists f
  isplitr
  · ipureintro; rfl
  iexact H

set_option maxHeartbeats 8000000 in
/-- The body at one point, its condition met. -/
theorem body_first (c : Dev nD) (i : grid0.Coords) (arg2 : Memref sig .tc .vmem S1x128x6144 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x6144 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128x2048 .bf16) (harg8 : arg8.IsWhole) (arg9 : Memref sig .tc .vmem S16x128x128 .f32) (harg9 : arg9.IsWhole) (arg10 : Memref sig .tc .vmem S8x6144 .f32) (harg10 : arg10.IsWhole)
    (hc0 : cond0_0 i) (x0 : Vec F S1x128x6144 .f32) (x1 : Vec F S1x128x2048 .f32) (x2 : Vec F S1x128x128 .f32) (x3 : Vec F S4x6144 .f32) (x4 : Vec F S2x128 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10) -∗ K ⟨⟩))
    ⊢ wp frame (wpE (defs₀ (F := F)) Variants.none c none) E (cc0_gdn i arg2 harg2 arg3 harg3 arg4 harg4 arg5 harg5 arg6 harg6 arg7 harg7 arg8 harg8 arg9 harg9 arg10 harg10) K := by
  simp only [cc0_gdn_eq_skeleton]; unfold cc0_gdn_skel
  unfold some' owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iapply some_of (F := F) c arg8; iexact H6
  isplitl [H7]
  · iapply some_of (F := F) c arg9; iexact H7
  iapply some_of (F := F) c arg10; iexact H8

set_option maxHeartbeats 8000000 in
/-- The body at one point, its condition not met. -/
theorem body_later (c : Dev nD) (i : grid0.Coords) (arg2 : Memref sig .tc .vmem S1x128x6144 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x6144 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128x2048 .bf16) (harg8 : arg8.IsWhole) (arg9 : Memref sig .tc .vmem S16x128x128 .f32) (harg9 : arg9.IsWhole) (arg10 : Memref sig .tc .vmem S8x6144 .f32) (harg10 : arg10.IsWhole)
    (hc0 : ¬cond0_0 i) (x0 : Vec F S1x128x6144 .f32) (x1 : Vec F S1x128x2048 .f32) (x2 : Vec F S1x128x128 .f32) (x3 : Vec F S4x6144 .f32) (x4 : Vec F S2x128 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10) -∗ K ⟨⟩))
    ⊢ wp frame (wpE (defs₀ (F := F)) Variants.none c none) E (cc0_gdn i arg2 harg2 arg3 harg3 arg4 harg4 arg5 harg5 arg6 harg6 arg7 harg7 arg8 harg8 arg9 harg9 arg10 harg10) K := by
  simp only [cc0_gdn_eq_skeleton]; unfold cc0_gdn_skel
  unfold some' owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iapply some_of (F := F) c arg8; iexact H6
  isplitl [H7]
  · iapply some_of (F := F) c arg9; iexact H7
  iapply some_of (F := F) c arg10; iexact H8

end Cert.GdnIdeal.Hand

end
-- ==== Proof.GdnIdealRun.lean ====
/- The gated delta rule: the body at every point, the run and the frame. -/
module

public import proofs.«01_k».proof.Proof.GdnIdealBody
public import Idealize.ShloMosaic.Lib.Pipeline.DatRel
public import Idealize.ShloMosaic.Lib.Pipeline.ArrRel
public import Idealize.ShloMosaic.Lib.Claim

@[expose] public section

set_option maxRecDepth 16384

noncomputable section

namespace Cert.GdnIdeal.Hand

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some contents, where nothing says which. -/
def dflt6 : (cfg0.win 6).block.Idx → Elt F (cfg0.win 6).elt := fun _ => Classical.choice inferInstance

/-- The window whose contents are not stated is the result's. -/
def fgt (w : Fin cfg0.W) : Bool := decide (w.val = 6)
/-- Nothing is said of them. -/
def Rl (_ : Dev nD) (w : Fin cfg0.W) (_ : Fin cfg0.N) (_ : (cfg0.win w).block.Idx → Elt F (cfg0.win w).elt) : Prop := True

/-- The pipeline's proof data: the inputs' blocks, the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dflt6
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, -/
def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel fgt (Rl c)).Finds 6 t Y⌝ ∗ owns (c : Thread nD τ) (ms0_6 t) fullShare Y))

/-- and what it returns. -/
def bodyPost (c : Dev nD) (t : Fin cfg0.N) : sProp 𝕄 :=
  iprop(Pipeline.ΦA spec0 c ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl c 6 t X⌝ ∗ owns (c : Thread nD τ) (ms0_6 t) fullShare X))

theorem fillcut0 (c : Dev nD) (t : Fin cfg0.N) (d) :
    (cfg0.win 0).fill (cfg0.grid.coords t) d ((cfg0.win 0).cut (cfg0.grid.coords t) ((dats m 0 c).after 0 t)) = X0_0 m c t := by
  rw [after0_0]; unfold X0_0; rw [Pipeline.Window.cut_fill]; exact fill0_0 t d dflt0_0 _

/-- The body in either case. -/
theorem body_any (c : Dev nD) (i : grid0.Coords) (arg2 : Memref sig .tc .vmem S1x128x6144 .f32) (harg2 : arg2.IsWhole) (arg3 : Memref sig .tc .vmem S1x128x2048 .f32) (harg3 : arg3.IsWhole) (arg4 : Memref sig .tc .vmem S1x128x128 .f32) (harg4 : arg4.IsWhole) (arg5 : Memref sig .tc .vmem S4x6144 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128x2048 .bf16) (harg8 : arg8.IsWhole) (arg9 : Memref sig .tc .vmem S16x128x128 .f32) (harg9 : arg9.IsWhole) (arg10 : Memref sig .tc .vmem S8x6144 .f32) (harg10 : arg10.IsWhole)
    (x0 : Vec F S1x128x6144 .f32) (x1 : Vec F S1x128x2048 .f32) (x2 : Vec F S1x128x128 .f32) (x3 : Vec F S4x6144 .f32) (x4 : Vec F S2x128 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ some' (F := F) c arg8 ∗ some' (F := F) c arg9 ∗ some' (F := F) c arg10) -∗ K ⟨⟩))
    ⊢ wp frame (wpE (defs₀ (F := F)) Variants.none c none) E (cc0_gdn i arg2 harg2 arg3 harg3 arg4 harg4 arg5 harg5 arg6 harg6 arg7 harg7 arg8 harg8 arg9 harg9 arg10 harg10) K := by
  by_cases h : cond0_0 i
  · exact body_first c i arg2 harg2 arg3 harg3 arg4 harg4 arg5 harg5 arg6 harg6 arg7 harg7 arg8 harg8 arg9 harg9 arg10 harg10 h x0 x1 x2 x3 x4 x5 E K
  · exact body_later c i arg2 harg2 arg3 harg3 arg4 harg4 arg5 harg5 arg6 harg6 arg7 harg7 arg8 harg8 arg9 harg9 arg10 harg10 h x0 x1 x2 x3 x4 x5 E K

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, fillcut0]
  rw [show (dats m 0 c).owesAt () t.succ = (dats m 0 c).owesAt () t.castSucc from rfl, after0_1, after0_2, after0_3, after0_4, after0_5, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, -, H6⟩⟩
  iapply (body_any c (grid0.coords t) _ _ _ _ _ _ _ _ _ _ _ _ _ _ _ _ _ _ (X0_0 m c t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, HS0, HS1⟩
  isplitl [HS0 HS1 Hg]
  · isplitl [HS0 HS1]
    · isplitl [HS0]; · iexact HS0
      iexact HS1
    iexact Hg
  isplitl [Ho]; · iexact Ho
  isplitl [H0]; · iexists dflt0_0; rw [fillcut0]; iexact H0
  isplitl [H1]; · iexact H1
  isplitl [H2]; · iexact H2
  isplitl [H3]; · iexact H3
  isplitl [H4]; · iexact H4
  isplitl [H5]; · iexact H5
  iexists e6; isplitr
  · ipureintro; exact trivial
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ fgt (Rl c) := fun t => by
  rw [bigSep_W0, bigSep_W0, defs₀_row]
  exact triple_restated (sound_body m c t) rfl .rfl fun _ => .rfl

/-- The data as relational. -/
abbrev rdat (c : Dev nD) : RDat τ (Elt F) Unit ℕ (UR sig nD τ) ℕ cfg0 c := (dats m 0 c).toRRel fgt (Rl c)

set_option backward.isDefEq.respectTransparency.types false in
/-- The launch: the arrays at what the data say, every counter at zero. -/
theorem run_main_quiescent : θ_run defs (onTc (τ := τ) (main (F := F))) (s₀ m ρ) (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(RDat.FramePost.arr_in h.1 c 1 rfl).trans ((A_eq m c 1).trans (V_main_arg0 m c)),
      (RDat.FramePost.arr_in h.1 c 2 rfl).trans ((A_eq m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

end Cert.GdnIdeal.Hand

end
-- ==== Proof.Frames.lean ====
/- The frames of every program: it runs, its arguments end unchanged and every semaphore counter ends at zero. -/
module

public import proofs.«01_k».proof.Defs
public import Idealize.ShloMosaic.Lib.Quiescent
public import proofs.«01_k».proof.Proof.Gen.Swa.Frame
public import proofs.«01_k».proof.Proof.Gen.SwaIdeal.Frame
public import proofs.«01_k».proof.Proof.Gen.SwaRefIdeal.Run
public import proofs.«01_k».proof.Proof.Gen.Qkvz.Frame
public import proofs.«01_k».proof.Proof.Gen.QkvzIdeal.Frame
public import proofs.«01_k».proof.Proof.Gen.QkvzRefIdeal.Run
public import proofs.«01_k».proof.Proof.RestRun
public import proofs.«01_k».proof.Proof.RestIdealRun
public import proofs.«01_k».proof.Proof.Gen.RestRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.FfUp.Frame
public import proofs.«01_k».proof.Proof.Gen.FfUpIdeal.Frame
public import proofs.«01_k».proof.Proof.Gen.FfUpRefIdeal.Run
public import proofs.«01_k».proof.Proof.Gen.FfDown.Frame
public import proofs.«01_k».proof.Proof.Gen.FfDownIdeal.Frame
public import proofs.«01_k».proof.Proof.Gen.FfDownRefIdeal.Run
public import proofs.«01_k».proof.Proof.Gen.NormOne.Frame
public import proofs.«01_k».proof.Proof.Gen.NormOneIdeal.Frame
public import proofs.«01_k».proof.Proof.Gen.NormOneRefIdeal.Run
public import proofs.«01_k».proof.Proof.Gen.NormFinal.Frame
public import proofs.«01_k».proof.Proof.Gen.NormFinalIdeal.Frame
public import proofs.«01_k».proof.Proof.Gen.NormFinalRefIdeal.Run
public import proofs.«01_k».proof.Proof.GdnRun
public import proofs.«01_k».proof.Proof.GdnIdealRun

@[expose] public section

set_option maxRecDepth 16384

noncomputable section

namespace Cert.Frames

open Idealize.ShloMosaic Idealize.SL.Sem

/-- The frame of `Swa`. -/
theorem swa : Cert.quiescent_Swa := fun m ρ _ => Cert.Swa.Gen.frame m ρ

/-- The frame of `SwaIdeal`. -/
theorem swaIdeal : Cert.quiescent_SwaIdeal := fun m ρ _ => Cert.SwaIdeal.Gen.frame m ρ

/-- The frame of `SwaRefIdeal`. -/
theorem swaRefIdeal : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)

/-- The frame of `Qkvz`. -/
theorem qkvz : Cert.quiescent_Qkvz := fun m ρ _ => Cert.Qkvz.Gen.frame m ρ

/-- The frame of `QkvzIdeal`. -/
theorem qkvzIdeal : Cert.quiescent_QkvzIdeal := fun m ρ _ => Cert.QkvzIdeal.Gen.frame m ρ

/-- The frame of `QkvzRefIdeal`. -/
theorem qkvzRefIdeal : Cert.quiescent_QkvzRefIdeal := fun m ρ _ =>
  (θ_run Cert.QkvzRefIdeal.defs _ _).mono (fun r h => ⟨fun c => (h c).2, sem_eq_zero_of_no_sems (by decide) r.2⟩)
    (Cert.QkvzRefIdeal.Value.run (F := Ideal) m ρ)

/-- The frame of `Rest`. -/
theorem rest : Cert.quiescent_Rest := fun m ρ _ => Cert.Rest.Hand.frame m ρ

/-- The frame of `RestIdeal`. -/
theorem restIdeal : Cert.quiescent_RestIdeal := fun m ρ _ => Cert.RestIdeal.Hand.frame m ρ

/-- The frame of `RestRefIdeal`. -/
theorem restRefIdeal : Cert.quiescent_RestRefIdeal := fun m ρ _ =>
  (θ_run Cert.RestRefIdeal.defs _ _).mono (fun r h => ⟨fun c => (h c).2, sem_eq_zero_of_no_sems (by decide) r.2⟩)
    (Cert.RestRefIdeal.Value.run (F := Ideal) m ρ)

/-- The frame of `Merge`. -/
theorem merge : Cert.quiescent_Merge := fun m ρ _ => Cert.Merge.Gen.frame m ρ

/-- The frame of `MergeIdeal`. -/
theorem mergeIdeal : Cert.quiescent_MergeIdeal := fun m ρ _ => Cert.MergeIdeal.Gen.frame m ρ

/-- The frame of `MergeRefIdeal`. -/
theorem mergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The frame of `OutProj`. -/
theorem outProj : Cert.quiescent_OutProj := fun m ρ _ => Cert.OutProj.Gen.frame m ρ

/-- The frame of `OutProjIdeal`. -/
theorem outProjIdeal : Cert.quiescent_OutProjIdeal := fun m ρ _ => Cert.OutProjIdeal.Gen.frame m ρ

/-- The frame of `OutProjRefIdeal`. -/
theorem outProjRefIdeal : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- The frame of `FfUp`. -/
theorem ffUp : Cert.quiescent_FfUp := fun m ρ _ => Cert.FfUp.Gen.frame m ρ

/-- The frame of `FfUpIdeal`. -/
theorem ffUpIdeal : Cert.quiescent_FfUpIdeal := fun m ρ _ => Cert.FfUpIdeal.Gen.frame m ρ

/-- The frame of `FfUpRefIdeal`. -/
theorem ffUpRefIdeal : Cert.quiescent_FfUpRefIdeal := fun m ρ _ =>
  (θ_run Cert.FfUpRefIdeal.defs _ _).mono (fun r h => ⟨fun c => (h c).2, sem_eq_zero_of_no_sems (by decide) r.2⟩)
    (Cert.FfUpRefIdeal.Value.run (F := Ideal) m ρ)

/-- The frame of `FfDown`. -/
theorem ffDown : Cert.quiescent_FfDown := fun m ρ _ => Cert.FfDown.Gen.frame m ρ

/-- The frame of `FfDownIdeal`. -/
theorem ffDownIdeal : Cert.quiescent_FfDownIdeal := fun m ρ _ => Cert.FfDownIdeal.Gen.frame m ρ

/-- The frame of `FfDownRefIdeal`. -/
theorem ffDownRefIdeal : Cert.quiescent_FfDownRefIdeal := fun m ρ _ =>
  (θ_run Cert.FfDownRefIdeal.defs _ _).mono (fun r h => ⟨fun c => (h c).2, sem_eq_zero_of_no_sems (by decide) r.2⟩)
    (Cert.FfDownRefIdeal.Value.run (F := Ideal) m ρ)

/-- The frame of `NormOne`. -/
theorem normOne : Cert.quiescent_NormOne := fun m ρ _ => Cert.NormOne.Gen.frame m ρ

/-- The frame of `NormOneIdeal`. -/
theorem normOneIdeal : Cert.quiescent_NormOneIdeal := fun m ρ _ => Cert.NormOneIdeal.Gen.frame m ρ

/-- The frame of `NormOneRefIdeal`. -/
theorem normOneRefIdeal : Cert.quiescent_NormOneRefIdeal := fun m ρ _ =>
  (θ_run Cert.NormOneRefIdeal.defs _ _).mono (fun r h => ⟨fun c => (h c).2, sem_eq_zero_of_no_sems (by decide) r.2⟩)
    (Cert.NormOneRefIdeal.Value.run (F := Ideal) m ρ)

/-- The frame of `NormFinal`. -/
theorem normFinal : Cert.quiescent_NormFinal := fun m ρ _ => Cert.NormFinal.Gen.frame m ρ

/-- The frame of `NormFinalIdeal`. -/
theorem normFinalIdeal : Cert.quiescent_NormFinalIdeal := fun m ρ _ => Cert.NormFinalIdeal.Gen.frame m ρ

/-- The frame of `NormFinalRefIdeal`. -/
theorem normFinalRefIdeal : Cert.quiescent_NormFinalRefIdeal := fun m ρ _ =>
  (θ_run Cert.NormFinalRefIdeal.defs _ _).mono (fun r h => ⟨fun c => (h c).2, sem_eq_zero_of_no_sems (by decide) r.2⟩)
    (Cert.NormFinalRefIdeal.Value.run (F := Ideal) m ρ)

/-- The frame of `Gdn`. -/
theorem gdn : Cert.quiescent_Gdn := fun m ρ _ => Cert.Gdn.Hand.frame m ρ

/-- The frame of `GdnIdeal`. -/
theorem gdnIdeal : Cert.quiescent_GdnIdeal := fun m ρ _ => Cert.GdnIdeal.Hand.frame m ρ

end Cert.Frames

end
-- ==== Proof.SwaHead.lean ====
/- One pair of query heads of the sliding-window attention, as the kernel computes it: the value that is stored for
   128 lanes of the output, as a function of the query, key and value tiles and of the two sinks. -/
module

public import proofs.«01_k».proof.Proof.Gen.SwaIdeal.Value

@[expose] public section

set_option maxRecDepth 16384

noncomputable section

namespace Cert.SwaHead

open Cert.SwaIdeal Cert.SwaIdeal.Gen Idealize.ShloMosaic Idealize.ShloMosaic.TcCoe Idealize.ShloMosaic.Tactic

variable {F : FTy → Type} [FloatOps F] [Named F]

/-- A tile of 128 rows without its leading axis of extent 1. -/
def rows (t : Vec F S1x128x128 .f32) : FVec F S128x128 .f32 := shapeCast S128x128 t shapeCasts_S1x128x128_S128x128

/-- The same tile with its lanes rotated by half a tile. -/
def turned (t : Vec F S1x128x128 .f32) : FVec F S128x128 .f32 := dynamicRotate 1 64#32 none (rows t) rotates_S128x128_d1

/-- The zero tile. -/
def zeros : FVec F S128x128 .f32 := broadcast S128x128 (Scalar.ofBits .f32 0x00000000#32)

/-- The keys of the key head in the lower lanes, once in the lower and once in the upper lanes. -/
def keysLow (t : Vec F S1x128x128 .f32) : FVec F S256x128 .bf16 :=
  truncf .bf16 (concatenate S256x128 0 [⟨S128x128, select k0_pay5 (rows t) zeros⟩, ⟨S128x128, select k0_pay5 zeros (turned t)⟩]
    concatenates_S128x128_S128x128_S256x128_d0) bitsLt_bf16_f32

/-- The keys of the key head in the upper lanes, once in the lower and once in the upper lanes. -/
def keysHigh (t : Vec F S1x128x128 .f32) : FVec F S256x128 .bf16 :=
  truncf .bf16 (concatenate S256x128 0 [⟨S128x128, select k0_pay5 (turned t) zeros⟩, ⟨S128x128, select k0_pay5 zeros (rows t)⟩]
    concatenates_S128x128_S128x128_S256x128_d0) bitsLt_bf16_f32

/-- Two query tiles, one over the other, scaled by 1/8. -/
def queries (a b : Vec F S1x128x128 .f32) : FVec F S256x128 .bf16 :=
  truncf .bf16 (mulf (concatenate S256x128 0 [⟨S128x128, rows a⟩, ⟨S128x128, rows b⟩] concatenates_S128x128_S128x128_S256x128_d0)
    (broadcast S256x128 (Scalar.ofBits .f32 0x3E000000#32))) bitsLt_bf16_f32

/-- The products of every key with every query. -/
def products (k q : FVec F S256x128 .bf16) : FVec F S256x256 .f32 :=
  matmul dot_S256x128_S256x128_S256x256_1_1_0_0_n_n none k q (constant S256x256 .f32 0x00000000#32)

/-- One head's logits: the current block's products where the key is not after the query and the previous block's
    elsewhere, less the slope times the distance. -/
def logits (i : grid0.Coords) (o : Fin 2 → ℕ) (h : S256x256.Slices o S128x128) (slope : F .f32) (cur prev : FVec F S256x256 .f32) :
    FVec F S128x128 .f32 :=
  subf (select k0_pay3 (extractStridedSlice S128x128 o cur h) (extractStridedSlice S128x128 o prev h))
    (mulf (broadcast S128x128 slope) (k0_pay4 i))

/-- One head's row maxima, the sink among them. -/
def top (s : FVec F S128x128 .f32) (sink : F .f32) : FVec F S1x128 .f32 :=
  maximumf (shapeCast S1x128 (multiReduction .maximumf [0] S128 s 0xFF800000#32 reduces_S128x128_S128 (.inl rfl) rfl) shapeCasts_S128_S1x128)
    (broadcast S1x128 sink)

/-- One head's exponentials. -/
def weights (s : FVec F S128x128 .f32) (sink : F .f32) : FVec F S128x128 .f32 :=
  exp (subf s (broadcastTo S128x128 (top s sink) broadcasts_S1x128_S128x128))

/-- One over one head's normalisers, the sink's exponential among the summands. -/
def recip (s : FVec F S128x128 .f32) (sink : F .f32) : FVec F S1x128 .f32 :=
  divf (broadcast S1x128 (Scalar.ofBits .f32 0x3F800000#32))
    (addf (shapeCast S1x128 (multiReduction .add [0] S128 (weights s sink) 0x00000000#32 reduces_S128x128_S128 (.inl rfl) rfl) shapeCasts_S128_S1x128)
      (exp (subf (broadcast S1x128 sink) (top s sink))))

/-- The exponentials of two heads side by side: the current block's keys over the previous block's. -/
def spread (p0 p1 : FVec F S128x128 .f32) : FVec F S256x256 .bf16 :=
  have z : FVec F S128x128 .bf16 := broadcast S128x128 (Scalar.ofBits .bf16 0x0000#16)
  have t0 : FVec F S128x128 .bf16 := truncf .bf16 p0 bitsLt_bf16_f32
  have t1 : FVec F S128x128 .bf16 := truncf .bf16 p1 bitsLt_bf16_f32
  concatenate S256x256 0
    [⟨S128x256, concatenate S128x256 1 [⟨S128x128, select k0_pay3 t0 z⟩, ⟨S128x128, select k0_pay3 t1 z⟩] concatenates_S128x128_S128x128_S128x256_d1⟩,
     ⟨S128x256, concatenate S128x256 1 [⟨S128x128, select k0_pay3 z t0⟩, ⟨S128x128, select k0_pay3 z t1⟩] concatenates_S128x128_S128x128_S128x256_d1⟩]
    concatenates_S128x256_S128x256_S256x256_d0

/-- The current block's values over the previous block's. -/
def values (c p : Vec F S1x128x128 .f32) : FVec F S256x128 .bf16 :=
  truncf .bf16 (concatenate S256x128 0 [⟨S128x128, rows c⟩, ⟨S128x128, rows p⟩] concatenates_S128x128_S128x128_S256x128_d0) bitsLt_bf16_f32

/-- The weighted sums of the values, before the normalisation. -/
def sums (v : FVec F S256x128 .bf16) (p : FVec F S256x256 .bf16) : FVec F S128x256 .f32 :=
  matmul dot_S256x128_S256x256_S128x256_0_0_1_1_n_n none v p (constant S128x256 .f32 0x00000000#32)

/-- The stored tile: the value head's rows of the sums, each head normalised, side by side. -/
def stored (o : Fin 2 → ℕ) (h : S128x256.Slices o S64x256) (r0 r1 : FVec F S1x128 .f32) (w : FVec F S128x256 .f32) : FVec F S1x128x128 .bf16 :=
  have x : FVec F S64x256 .f32 := extractStridedSlice S64x256 o w h
  shapeCast S1x128x128 (truncf .bf16 (transpose S128x128 [1, 0]
    (concatenate S128x128 0
      [⟨S64x128, mulf (extractStridedSlice S64x128 ![0, 0] x slices_S64x256_o0_0_S64x128) (broadcastTo S64x128 r0 broadcasts_S1x128_S64x128)⟩,
       ⟨S64x128, mulf (extractStridedSlice S64x128 ![0, 128] x slices_S64x256_o0_128_S64x128) (broadcastTo S64x128 r1 broadcasts_S1x128_S64x128)⟩]
      concatenates_S64x128_S64x128_S128x128_d0) transposes_S128x128_p1_0_S128x128) bitsLt_bf16_f32) shapeCasts_S128x128_S1x128x128

/-- A pair of heads from the keys (already spread over the lanes), the queries and the values. -/
def pair (i : grid0.Coords) (o0 o1 : Fin 2 → ℕ) (h0 : S256x256.Slices o0 S128x128) (h1 : S256x256.Slices o1 S128x128)
    (ov : Fin 2 → ℕ) (hv : S128x256.Slices ov S64x256) (c0 c1 s0 s1 : F .f32) (kc kp q : FVec F S256x128 .bf16) (v : FVec F S256x128 .bf16) :
    FVec F S1x128x128 .bf16 :=
  have l0 : FVec F S128x128 .f32 := logits i o0 h0 c0 (products kc q) (products kp q)
  have l1 : FVec F S128x128 .f32 := logits i o1 h1 c1 (products kc q) (products kp q)
  stored ov hv (recip l0 s0) (recip l1 s1) (sums v (spread (weights l0 s0) (weights l1 s1)))

/-- 128 lanes of a key or value block. -/
def tile256 (x : Vec F S1x128x256 .f32) (k : ℕ) (h : ∀ a, (![0, 0, k] : Fin 3 → ℕ) a + S1x128x128.size a ≤ S1x128x256.size a) : Vec F S1x128x128 .f32 :=
  View.ld x (Rect.unit (s := S1x128x256) ![0, 0, k] S1x128x128.size h)

/-- 128 lanes of a query block. -/
def tile2048 (x : Vec F S1x128x2048 .f32) (k : ℕ) (h : ∀ a, (![0, 0, k] : Fin 3 → ℕ) a + S1x128x128.size a ≤ S1x128x2048.size a) : Vec F S1x128x128 .f32 :=
  View.ld x (Rect.unit (s := S1x128x2048) ![0, 0, k] S1x128x128.size h)

/-- One head's sink. -/
def sink (x : Vec F S1x32 .f32) (k : ℕ) (h : ∀ a, (![0, k] : Fin 2 → ℕ) a + S1x1.size a ≤ S1x32.size a) : F .f32 :=
  View.ld x (Rect.unit (s := S1x32) ![0, k] S1x1.size h) (Shape.Idx.first (by rw [show (Rect.unit (s := S1x32) ![0, k] S1x1.size h).shape.numel = 1 from numel1_S1x1]; exact Nat.one_pos))

/-- The sixteen stored tiles, one per pair of heads, the last first. -/
def pieces (i : grid0.Coords) (x0 : Vec F S1x32 .f32) (x1 : Vec F S1x128x2048 .f32) (x2 x3 x4 x5 : Vec F S1x128x256 .f32) :
    List (View.Piece (Elt F) S1x128x2048 .bf16) := [
  ⟨Rect.unit (s := S1x128x2048) ![0, 0, 1920] S1x128x128.size inb_S1x128x2048_S1x128x128_0_0_1920,
    pair i ![0, 128] ![128, 128] slices_S256x256_o0_128_S128x128 slices_S256x256_o128_128_S128x128
      ![64, 0] slices_S128x256_o64_0_S64x256 (Named.named κ "slope31" 0x3B9837F0#32) (Scalar.ofBits .f32 0x3B800000#32) (sink x0 30 inb_S1x32_S1x1_0_30) (sink x0 31 inb_S1x32_S1x1_0_31)
      (keysHigh (tile256 x3 128 inb_S1x128x256_S1x128x128_0_0_128)) (keysHigh (tile256 x2 128 inb_S1x128x256_S1x128x128_0_0_128)) (queries (tile2048 x1 1792 inb_S1x128x2048_S1x128x128_0_0_1792) (tile2048 x1 1920 inb_S1x128x2048_S1x128x128_0_0_1920))
      (values (tile256 x5 128 inb_S1x128x256_S1x128x128_0_0_128) (tile256 x4 128 inb_S1x128x256_S1x128x128_0_0_128))⟩,
  ⟨Rect.unit (s := S1x128x2048) ![0, 0, 1792] S1x128x128.size inb_S1x128x2048_S1x128x128_0_0_1792,
    pair i ![0, 0] ![128, 0] slices_S256x256_o0_0_S128x128 slices_S256x256_o128_0_S128x128
      ![64, 0] slices_S128x256_o64_0_S64x256 (Named.named κ "slope29" 0x3BD744FD#32) (Named.named κ "slope30" 0x3BB504F3#32) (sink x0 28 inb_S1x32_S1x1_0_28) (sink x0 29 inb_S1x32_S1x1_0_29)
      (keysHigh (tile256 x3 128 inb_S1x128x256_S1x128x128_0_0_128)) (keysHigh (tile256 x2 128 inb_S1x128x256_S1x128x128_0_0_128)) (queries (tile2048 x1 1792 inb_S1x128x2048_S1x128x128_0_0_1792) (tile2048 x1 1920 inb_S1x128x2048_S1x128x128_0_0_1920))
      (values (tile256 x5 128 inb_S1x128x256_S1x128x128_0_0_128) (tile256 x4 128 inb_S1x128x256_S1x128x128_0_0_128))⟩,
  ⟨Rect.unit (s := S1x128x2048) ![0, 0, 1664] S1x128x128.size inb_S1x128x2048_S1x128x128_0_0_1664,
    pair i ![0, 128] ![128, 128] slices_S256x256_o0_128_S128x128 slices_S256x256_o128_128_S128x128
      ![64, 0] slices_S128x256_o64_0_S64x256 (Named.named κ "slope27" 0x3C1837F0#32) (Scalar.ofBits .f32 0x3C000000#32) (sink x0 26 inb_S1x32_S1x1_0_26) (sink x0 27 inb_S1x32_S1x1_0_27)
      (keysHigh (tile256 x3 128 inb_S1x128x256_S1x128x128_0_0_128)) (keysHigh (tile256 x2 128 inb_S1x128x256_S1x128x128_0_0_128)) (queries (tile2048 x1 1536 inb_S1x128x2048_S1x128x128_0_0_1536) (tile2048 x1 1664 inb_S1x128x2048_S1x128x128_0_0_1664))
      (values (tile256 x5 128 inb_S1x128x256_S1x128x128_0_0_128) (tile256 x4 128 inb_S1x128x256_S1x128x128_0_0_128))⟩,
  ⟨Rect.unit (s := S1x128x2048) ![0, 0, 1536] S1x128x128.size inb_S1x128x2048_S1x128x128_0_0_1536,
    pair i ![0, 0] ![128, 0] slices_S256x256_o0_0_S128x128 slices_S256x256_o128_0_S128x128
      ![64, 0] slices_S128x256_o64_0_S64x256 (Named.named κ "slope25" 0x3C5744FD#32) (Named.named κ "slope26" 0x3C3504F3#32) (sink x0 24 inb_S1x32_S1x1_0_24) (sink x0 25 inb_S1x32_S1x1_0_25)
      (keysHigh (tile256 x3 128 inb_S1x128x256_S1x128x128_0_0_128)) (keysHigh (tile256 x2 128 inb_S1x128x256_S1x128x128_0_0_128)) (queries (tile2048 x1 1536 inb_S1x128x2048_S1x128x128_0_0_1536) (tile2048 x1 1664 inb_S1x128x2048_S1x128x128_0_0_1664))
      (values (tile256 x5 128 inb_S1x128x256_S1x128x128_0_0_128) (tile256 x4 128 inb_S1x128x256_S1x128x128_0_0_128))⟩,
  ⟨Rect.unit (s := S1x128x2048) ![0, 0, 1408] S1x128x128.size inb_S1x128x2048_S1x128x128_0_0_1408,
    pair i ![0, 128] ![128, 128] slices_S256x256_o0_128_S128x128 slices_S256x256_o128_128_S128x128
      ![0, 0] slices_S128x256_o0_0_S64x256 (Named.named κ "slope23" 0x3C9837F0#32) (Scalar.ofBits .f32 0x3C800000#32) (sink x0 22 inb_S1x32_S1x1_0_22) (sink x0 23 inb_S1x32_S1x1_0_23)
      (keysLow (tile256 x3 128 inb_S1x128x256_S1x128x128_0_0_128)) (keysLow (tile256 x2 128 inb_S1x128x256_S1x128x128_0_0_128)) (queries (tile2048 x1 1280 inb_S1x128x2048_S1x128x128_0_0_1280) (tile2048 x1 1408 inb_S1x128x2048_S1x128x128_0_0_1408))
      (values (tile256 x5 128 inb_S1x128x256_S1x128x128_0_0_128) (tile256 x4 128 inb_S1x128x256_S1x128x128_0_0_128))⟩,
  ⟨Rect.unit (s := S1x128x2048) ![0, 0, 1280] S1x128x128.size inb_S1x128x2048_S1x128x128_0_0_1280,
    pair i ![0, 0] ![128, 0] slices_S256x256_o0_0_S128x128 slices_S256x256_o128_0_S128x128
      ![0, 0] slices_S128x256_o0_0_S64x256 (Named.named κ "slope21" 0x3CD744FD#32) (Named.named κ "slope22" 0x3CB504F3#32) (sink x0 20 inb_S1x32_S1x1_0_20) (sink x0 21 inb_S1x32_S1x1_0_21)
      (keysLow (tile256 x3 128 inb_S1x128x256_S1x128x128_0_0_128)) (keysLow (tile256 x2 128 inb_S1x128x256_S1x128x128_0_0_128)) (queries (tile2048 x1 1280 inb_S1x128x2048_S1x128x128_0_0_1280) (tile2048 x1 1408 inb_S1x128x2048_S1x128x128_0_0_1408))
      (values (tile256 x5 128 inb_S1x128x256_S1x128x128_0_0_128) (tile256 x4 128 inb_S1x128x256_S1x128x128_0_0_128))⟩,
  ⟨Rect.unit (s := S1x128x2048) ![0, 0, 1152] S1x128x128.size inb_S1x128x2048_S1x128x128_0_0_1152,
    pair i ![0, 128] ![128, 128] slices_S256x256_o0_128_S128x128 slices_S256x256_o128_128_S128x128
      ![0, 0] slices_S128x256_o0_0_S64x256 (Named.named κ "slope19" 0x3D1837F0#32) (Scalar.ofBits .f32 0x3D000000#32) (sink x0 18 inb_S1x32_S1x1_0_18) (sink x0 19 inb_S1x32_S1x1_0_19)
      (keysLow (tile256 x3 128 inb_S1x128x256_S1x128x128_0_0_128)) (keysLow (tile256 x2 128 inb_S1x128x256_S1x128x128_0_0_128)) (queries (tile2048 x1 1024 inb_S1x128x2048_S1x128x128_0_0_1024) (tile2048 x1 1152 inb_S1x128x2048_S1x128x128_0_0_1152))
      (values (tile256 x5 128 inb_S1x128x256_S1x128x128_0_0_128) (tile256 x4 128 inb_S1x128x256_S1x128x128_0_0_128))⟩,
  ⟨Rect.unit (s := S1x128x2048) ![0, 0, 1024] S1x128x128.size inb_S1x128x2048_S1x128x128_0_0_1024,
    pair i ![0, 0] ![128, 0] slices_S256x256_o0_0_S128x128 slices_S256x256_o128_0_S128x128
      ![0, 0] slices_S128x256_o0_0_S64x256 (Named.named κ "slope17" 0x3D5744FD#32) (Named.named κ "slope18" 0x3D3504F3#32) (sink x0 16 inb_S1x32_S1x1_0_16) (sink x0 17 inb_S1x32_S1x1_0_17)
      (keysLow (tile256 x3 128 inb_S1x128x256_S1x128x128_0_0_128)) (keysLow (tile256 x2 128 inb_S1x128x256_S1x128x128_0_0_128)) (queries (tile2048 x1 1024 inb_S1x128x2048_S1x128x128_0_0_1024) (tile2048 x1 1152 inb_S1x128x2048_S1x128x128_0_0_1152))
      (values (tile256 x5 128 inb_S1x128x256_S1x128x128_0_0_128) (tile256 x4 128 inb_S1x128x256_S1x128x128_0_0_128))⟩,
  ⟨Rect.unit (s := S1x128x2048) ![0, 0, 896] S1x128x128.size inb_S1x128x2048_S1x128x128_0_0_896,
    pair i ![0, 128] ![128, 128] slices_S256x256_o0_128_S128x128 slices_S256x256_o128_128_S128x128
      ![64, 0] slices_S128x256_o64_0_S64x256 (Named.named κ "slope15" 0x3D9837F0#32) (Scalar.ofBits .f32 0x3D800000#32) (sink x0 14 inb_S1x32_S1x1_0_14) (sink x0 15 inb_S1x32_S1x1_0_15)
      (keysHigh (tile256 x3 0 inb_S1x128x256_S1x128x128_0_0_0)) (keysHigh (tile256 x2 0 inb_S1x128x256_S1x128x128_0_0_0)) (queries (tile2048 x1 768 inb_S1x128x2048_S1x128x128_0_0_768) (tile2048 x1 896 inb_S1x128x2048_S1x128x128_0_0_896))
      (values (tile256 x5 0 inb_S1x128x256_S1x128x128_0_0_0) (tile256 x4 0 inb_S1x128x256_S1x128x128_0_0_0))⟩,
  ⟨Rect.unit (s := S1x128x2048) ![0, 0, 768] S1x128x128.size inb_S1x128x2048_S1x128x128_0_0_768,
    pair i ![0, 0] ![128, 0] slices_S256x256_o0_0_S128x128 slices_S256x256_o128_0_S128x128
      ![64, 0] slices_S128x256_o64_0_S64x256 (Named.named κ "slope13" 0x3DD744FD#32) (Named.named κ "slope14" 0x3DB504F3#32) (sink x0 12 inb_S1x32_S1x1_0_12) (sink x0 13 inb_S1x32_S1x1_0_13)
      (keysHigh (tile256 x3 0 inb_S1x128x256_S1x128x128_0_0_0)) (keysHigh (tile256 x2 0 inb_S1x128x256_S1x128x128_0_0_0)) (queries (tile2048 x1 768 inb_S1x128x2048_S1x128x128_0_0_768) (tile2048 x1 896 inb_S1x128x2048_S1x128x128_0_0_896))
      (values (tile256 x5 0 inb_S1x128x256_S1x128x128_0_0_0) (tile256 x4 0 inb_S1x128x256_S1x128x128_0_0_0))⟩,
  ⟨Rect.unit (s := S1x128x2048) ![0, 0, 640] S1x128x128.size inb_S1x128x2048_S1x128x128_0_0_640,
    pair i ![0, 128] ![128, 128] slices_S256x256_o0_128_S128x128 slices_S256x256_o128_128_S128x128
      ![64, 0] slices_S128x256_o64_0_S64x256 (Named.named κ "slope11" 0x3E1837F0#32) (Scalar.ofBits .f32 0x3E000000#32) (sink x0 10 inb_S1x32_S1x1_0_10) (sink x0 11 inb_S1x32_S1x1_0_11)
      (keysHigh (tile256 x3 0 inb_S1x128x256_S1x128x128_0_0_0)) (keysHigh (tile256 x2 0 inb_S1x128x256_S1x128x128_0_0_0)) (queries (tile2048 x1 512 inb_S1x128x2048_S1x128x128_0_0_512) (tile2048 x1 640 inb_S1x128x2048_S1x128x128_0_0_640))
      (values (tile256 x5 0 inb_S1x128x256_S1x128x128_0_0_0) (tile256 x4 0 inb_S1x128x256_S1x128x128_0_0_0))⟩,
  ⟨Rect.unit (s := S1x128x2048) ![0, 0, 512] S1x128x128.size inb_S1x128x2048_S1x128x128_0_0_512,
    pair i ![0, 0] ![128, 0] slices_S256x256_o0_0_S128x128 slices_S256x256_o128_0_S128x128
      ![64, 0] slices_S128x256_o64_0_S64x256 (Named.named κ "slope9" 0x3E5744FD#32) (Named.named κ "slope10" 0x3E3504F3#32) (sink x0 8 inb_S1x32_S1x1_0_8) (sink x0 9 inb_S1x32_S1x1_0_9)
      (keysHigh (tile256 x3 0 inb_S1x128x256_S1x128x128_0_0_0)) (keysHigh (tile256 x2 0 inb_S1x128x256_S1x128x128_0_0_0)) (queries (tile2048 x1 512 inb_S1x128x2048_S1x128x128_0_0_512) (tile2048 x1 640 inb_S1x128x2048_S1x128x128_0_0_640))
      (values (tile256 x5 0 inb_S1x128x256_S1x128x128_0_0_0) (tile256 x4 0 inb_S1x128x256_S1x128x128_0_0_0))⟩,
  ⟨Rect.unit (s := S1x128x2048) ![0, 0, 384] S1x128x128.size inb_S1x128x2048_S1x128x128_0_0_384,
    pair i ![0, 128] ![128, 128] slices_S256x256_o0_128_S128x128 slices_S256x256_o128_128_S128x128
      ![0, 0] slices_S128x256_o0_0_S64x256 (Named.named κ "slope7" 0x3E9837F0#32) (Scalar.ofBits .f32 0x3E800000#32) (sink x0 6 inb_S1x32_S1x1_0_6) (sink x0 7 inb_S1x32_S1x1_0_7)
      (keysLow (tile256 x3 0 inb_S1x128x256_S1x128x128_0_0_0)) (keysLow (tile256 x2 0 inb_S1x128x256_S1x128x128_0_0_0)) (queries (tile2048 x1 256 inb_S1x128x2048_S1x128x128_0_0_256) (tile2048 x1 384 inb_S1x128x2048_S1x128x128_0_0_384))
      (values (tile256 x5 0 inb_S1x128x256_S1x128x128_0_0_0) (tile256 x4 0 inb_S1x128x256_S1x128x128_0_0_0))⟩,
  ⟨Rect.unit (s := S1x128x2048) ![0, 0, 256] S1x128x128.size inb_S1x128x2048_S1x128x128_0_0_256,
    pair i ![0, 0] ![128, 0] slices_S256x256_o0_0_S128x128 slices_S256x256_o128_0_S128x128
      ![0, 0] slices_S128x256_o0_0_S64x256 (Named.named κ "slope5" 0x3ED744FD#32) (Named.named κ "slope6" 0x3EB504F3#32) (sink x0 4 inb_S1x32_S1x1_0_4) (sink x0 5 inb_S1x32_S1x1_0_5)
      (keysLow (tile256 x3 0 inb_S1x128x256_S1x128x128_0_0_0)) (keysLow (tile256 x2 0 inb_S1x128x256_S1x128x128_0_0_0)) (queries (tile2048 x1 256 inb_S1x128x2048_S1x128x128_0_0_256) (tile2048 x1 384 inb_S1x128x2048_S1x128x128_0_0_384))
      (values (tile256 x5 0 inb_S1x128x256_S1x128x128_0_0_0) (tile256 x4 0 inb_S1x128x256_S1x128x128_0_0_0))⟩,
  ⟨Rect.unit (s := S1x128x2048) ![0, 0, 128] S1x128x128.size inb_S1x128x2048_S1x128x128_0_0_128,
    pair i ![0, 128] ![128, 128] slices_S256x256_o0_128_S128x128 slices_S256x256_o128_128_S128x128
      ![0, 0] slices_S128x256_o0_0_S64x256 (Named.named κ "slope3" 0x3F1837F0#32) (Scalar.ofBits .f32 0x3F000000#32) (sink x0 2 inb_S1x32_S1x1_0_2) (sink x0 3 inb_S1x32_S1x1_0_3)
      (keysLow (tile256 x3 0 inb_S1x128x256_S1x128x128_0_0_0)) (keysLow (tile256 x2 0 inb_S1x128x256_S1x128x128_0_0_0)) (queries (tile2048 x1 0 inb_S1x128x2048_S1x128x128_0_0_0) (tile2048 x1 128 inb_S1x128x2048_S1x128x128_0_0_128))
      (values (tile256 x5 0 inb_S1x128x256_S1x128x128_0_0_0) (tile256 x4 0 inb_S1x128x256_S1x128x128_0_0_0))⟩,
  ⟨Rect.unit (s := S1x128x2048) ![0, 0, 0] S1x128x128.size inb_S1x128x2048_S1x128x128_0_0_0,
    pair i ![0, 0] ![128, 0] slices_S256x256_o0_0_S128x128 slices_S256x256_o128_0_S128x128
      ![0, 0] slices_S128x256_o0_0_S64x256 (Named.named κ "slope1" 0x3F5744FD#32) (Named.named κ "slope2" 0x3F3504F3#32) (sink x0 0 inb_S1x32_S1x1_0_0) (sink x0 1 inb_S1x32_S1x1_0_1)
      (keysLow (tile256 x3 0 inb_S1x128x256_S1x128x128_0_0_0)) (keysLow (tile256 x2 0 inb_S1x128x256_S1x128x128_0_0_0)) (queries (tile2048 x1 0 inb_S1x128x2048_S1x128x128_0_0_0) (tile2048 x1 128 inb_S1x128x2048_S1x128x128_0_0_128))
      (values (tile256 x5 0 inb_S1x128x256_S1x128x128_0_0_0) (tile256 x4 0 inb_S1x128x256_S1x128x128_0_0_0))⟩]

set_option maxHeartbeats 4000000 in
/-- The kernel's stores are these sixteen tiles. -/
theorem run_eq (c : Dev nD) (i : grid0.Coords) (arg2 : Memref sig .tc .smem S1x32 .f32) (harg2 : arg2.IsWhole) (arg3 : Memref sig .tc .vmem S1x128x2048 .f32) (harg3 : arg3.IsWhole)
    (arg4 : Memref sig .tc .vmem S1x128x256 .f32) (harg4 : arg4.IsWhole) (arg5 : Memref sig .tc .vmem S1x128x256 .f32) (harg5 : arg5.IsWhole)
    (arg6 : Memref sig .tc .vmem S1x128x256 .f32) (harg6 : arg6.IsWhole) (arg7 : Memref sig .tc .vmem S1x128x256 .f32) (harg7 : arg7.IsWhole)
    (arg8 : Memref sig .tc .vmem S1x128x2048 .bf16) (harg8 : arg8.IsWhole) (x0 : Vec F S1x32 .f32) (x1 : Vec F S1x128x2048 .f32) (x2 x3 x4 x5 : Vec F S1x128x256 .f32) :
    (kernelRun0_A c i arg2 harg2 arg3 harg3 arg4 harg4 arg5 harg5 arg6 harg6 arg7 harg7 arg8 harg8 x0 x1 x2 x3 x4 x5).1 = pieces i x0 x1 x2 x3 x4 x5 := by
  unfold kernelRun0_A
  dsimp only
  sl_unfold_words
  simp only [View.readAt_eq_ld]
  rw [show View.read (Elt F) arg2.view (harg2.unread x0) = x0 from harg2.read_unread x0, show View.read (Elt F) arg3.view (harg3.unread x1) = x1 from harg3.read_unread x1,
    show View.read (Elt F) arg4.view (harg4.unread x2) = x2 from harg4.read_unread x2, show View.read (Elt F) arg5.view (harg5.unread x3) = x3 from harg5.read_unread x3,
    show View.read (Elt F) arg6.view (harg6.unread x4) = x4 from harg6.read_unread x4, show View.read (Elt F) arg7.view (harg7.unread x5) = x5 from harg7.read_unread x5]
  unfold pieces tile256 tile2048 sink
  repeat (refine congrArg₂ List.cons ?_ ?_; · rfl)
  rfl

end Cert.SwaHead

end
-- ==== Proof.SwaHeadSpec.lean ====
/- One query row of one head of the banded attention, over the extended reals: the 128 keys of the folded band, each
   the current block's key where it is not after the query and the previous block's key elsewhere. -/
module

public import Idealize.ShloMosaic.PureOps.Ideal

@[expose] public section

noncomputable section

namespace Cert.SwaHeadSpec

open Idealize.ShloMosaic

/-- The distance from query `r` back to folded key `j`; infinite where the key would lie before the first block. -/
def dist (b : ℕ) (r j : Fin 128) : EReal :=
  if b = 0 ∧ ¬ j ≤ r then ⊤ else ((((if j ≤ r then (r.val : ℤ) - j.val else (r.val : ℤ) + 128 - j.val) : ℤ) : ℝ) : EReal)

/-- The logit of folded key `j`: the current block's product `sc j` or the previous block's `sp j`, less the slope
    times the distance. -/
def logit (b : ℕ) (slope : EReal) (sc sp : Fin 128 → EReal) (r j : Fin 128) : EReal :=
  (if j ≤ r then sc j else sp j) - slope * dist b r j

/-- The largest logit, the sink among them. -/
def top (l : Fin 128 → EReal) (s : EReal) : EReal := max (Finset.univ.fold max ⊥ l) s

/-- The exponential of a logit less the largest. -/
def weight (l : Fin 128 → EReal) (s : EReal) (j : Fin 128) : EReal := Ideal.exp (l j - top l s)

/-- One over the normaliser. -/
def recip (l : Fin 128 → EReal) (s : EReal) : EReal := Ideal.div 1 (∑ j, weight l s j + Ideal.exp (s - top l s))

/-- The row's output in one value coordinate: the weighted sum of the current block's values and the previous
    block's, normalised. -/
def row (b : ℕ) (slope s : EReal) (sc sp vc vp : Fin 128 → EReal) (r : Fin 128) : EReal :=
  (∑ j, vc j * (if j ≤ r then weight (logit b slope sc sp r) s j else 0)
    + ∑ j, vp j * (if j ≤ r then 0 else weight (logit b slope sc sp r) s j)) * recip (logit b slope sc sp r) s

end Cert.SwaHeadSpec

end
-- ==== Proof.SwaPair.lean ====
/- The tile that a pair of heads stores, read at an index over the extended reals: `SwaHeadSpec.row` of the head the
   lane belongs to. -/
module

public import proofs.«01_k».proof.Proof.SwaHead
public import proofs.«01_k».proof.Proof.SwaHeadSpec
public import Idealize.ShloMosaic.Lib.Pointwise

@[expose] public section

set_option maxRecDepth 16384

noncomputable section

namespace Cert.SwaPair

open Cert.SwaIdeal Cert.SwaIdeal.Gen Cert.SwaHead Idealize.ShloMosaic Idealize.ShloMosaic.TcCoe Idealize.ShloMosaic.Tactic

/-- A choice by a one-bit word is a choice by whether the word is 1. -/
theorem select_ite {α : Type} (c : BitVec 1) (x y : α) : Scalar.select c x y = if c = 1#1 then x else y := rfl

/-- The printed comparison of a lane with 64. -/
theorem lane_lt : ∀ l : Fin 128, (IntOp.cmpi CmpIPredicate.slt (BitVec.ofNat 32 l.val) 64#32 = 1#1) ↔ (l.val < 64) := by decide +kernel

/-- The printed comparison of a key with a query. -/
theorem key_le : ∀ j r : Fin 128, (IntOp.cmpi CmpIPredicate.sle (BitVec.ofNat 32 j.val) (BitVec.ofNat 32 r.val) = 1#1) ↔ (j ≤ r) := by decide +kernel

/-- A choice by that comparison of a lane. -/
theorem select_lane {α : Type} (l : Fin 128) (x y : α) :
    Scalar.select (IntOp.cmpi CmpIPredicate.slt (BitVec.ofNat 32 l.val) 64#32) x y = if l.val < 64 then x else y := by
  by_cases h : l.val < 64
  · rw [if_pos h, select_ite, if_pos ((lane_lt l).mpr h)]
  · rw [if_neg h, select_ite, if_neg (fun h' => h ((lane_lt l).mp h'))]

/-- A choice by that comparison of a key with a query. -/
theorem select_key {α : Type} (j r : Fin 128) (x y : α) :
    Scalar.select (IntOp.cmpi CmpIPredicate.sle (BitVec.ofNat 32 j.val) (BitVec.ofNat 32 r.val)) x y = if j ≤ r then x else y := by
  by_cases h : j ≤ r
  · rw [if_pos h, select_ite, if_pos ((key_le j r).mpr h)]
  · rw [if_neg h, select_ite, if_neg (fun h' => h ((key_le j r).mp h'))]

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The printed distances are `SwaHeadSpec.dist`. -/
theorem dist_apply (i : grid0.Coords) (j r : Fin 128) : k0_pay4 (F := Ideal) i (ix2 j r) = SwaHeadSpec.dist (i 1).val r j := by
  pointwise [k0_pay4, k0_pay3]
  have hx : (IntOp.andi (Scalar.cmpi CmpIPredicate.eq (BitVec.ofNat 32 (i 1).val) 0#32)
      (IntOp.xori (IntOp.cmpi CmpIPredicate.sle (BitVec.ofNat 32 j.val) (BitVec.ofNat 32 r.val)) 1#1) = 1#1) ↔ ((i 1).val = 0 ∧ ¬ j ≤ r) := by
    have h1 : (Scalar.cmpi CmpIPredicate.eq (BitVec.ofNat 32 (i 1).val) 0#32 = 1#1) ↔ (i 1).val = 0 :=
      (by decide +kernel : ∀ b : Fin 32, (Scalar.cmpi CmpIPredicate.eq (BitVec.ofNat 32 b.val) 0#32 = 1#1) ↔ b.val = 0) (i 1)
    have h2 := key_le j r
    rw [← h1, ← h2]
    exact (by decide : ∀ a b : BitVec 1, (IntOp.andi a (IntOp.xori b 1#1) = 1#1) ↔ (a = 1#1 ∧ ¬ b = 1#1)) _ _
  have hd : ∀ j r : Fin 128, (IntOp.subi (BitVec.ofNat 32 r.val) (BitVec.ofNat 32 j.val)).toInt = (r.val : ℤ) - j.val ∧
      (IntOp.addi (IntOp.subi (BitVec.ofNat 32 r.val) (BitVec.ofNat 32 j.val)) 128#32).toInt = (r.val : ℤ) + 128 - j.val := by decide +kernel
  rw [select_key, select_ite, SwaHeadSpec.dist, ofBits_top]
  by_cases h : (i 1).val = 0 ∧ ¬ j ≤ r
  · rw [if_pos (hx.mpr h), if_pos h]
  · rw [if_neg (fun h' => h (hx.mp h')), if_neg h]
    show (((BitVec.toInt _ : ℤ) : ℝ) : EReal) = _
    split
    · rw [(hd j r).1]
    · rw [(hd j r).2]

/-- A product of the keys' matrix with the queries', at an index. -/
theorem products_apply (k q : FVec Ideal S256x128 .bf16) (i j : Fin 256) :
    products k q (ix2 i j) = ∑ l : Fin 128, k (ix2 i l) * q (ix2 j l) := by
  pointwise [products]

/-- A logit of the first head of a pair. -/
theorem logits_apply (i : grid0.Coords) (A P : ℕ) (hA : A ≤ 128) (hP : P ≤ 128) (h : S256x256.Slices ![A, P] S128x128) (slope : EReal)
    (kc kp q : FVec Ideal S256x128 .bf16) (j r : Fin 128) :
    logits (F := Ideal) i ![A, P] h slope (products kc q) (products kp q) (ix2 j r)
      = SwaHeadSpec.logit (i 1).val slope
          (fun j => ∑ l : Fin 128, kc (ix2 (⟨A + j.val, by omega⟩ : Fin 256) l) * q (ix2 (⟨P + r.val, by omega⟩ : Fin 256) l))
          (fun j => ∑ l : Fin 128, kp (ix2 (⟨A + j.val, by omega⟩ : Fin 256) l) * q (ix2 (⟨P + r.val, by omega⟩ : Fin 256) l)) r j := by
  pointwise [logits, k0_pay3]
  rw [select_key, dist_apply, SwaHeadSpec.logit]
  congr 1
  split
  · exact products_apply kc q _ _
  · exact products_apply kp q _ _

/-- A head's reciprocal normaliser, at an index. -/
theorem recip_apply (p : FVec Ideal S128x128 .f32) (s : EReal) (r : Fin 128) :
    recip (F := Ideal) p s (ix2 0 r) = SwaHeadSpec.recip (fun j => p (ix2 j r)) s := by
  pointwise [recip, weights, top]
  rw [ofBits_bot]
  rfl

/-- A head's exponential, at an index. -/
theorem weights_apply (p : FVec Ideal S128x128 .f32) (s : EReal) (j r : Fin 128) :
    weights (F := Ideal) p s (ix2 j r) = SwaHeadSpec.weight (fun j => p (ix2 j r)) s j := by
  pointwise [weights, top]
  rw [ofBits_bot]
  rfl

/-- A weighted sum of the values, at an index of the first head. -/
theorem sums_first (v : FVec Ideal S256x128 .bf16) (p0 p1 : FVec Ideal S128x128 .f32) (e r : Fin 128) (c : Fin 256) (hc : c.val = r.val) :
    sums v (spread p0 p1) (ix2 e c)
      = ∑ j : Fin 128, v (ix2 (⟨j.val, by omega⟩ : Fin 256) e) * (if j ≤ r then p0 (ix2 j r) else 0)
        + ∑ j : Fin 128, v (ix2 (⟨128 + j.val, by omega⟩ : Fin 256) e) * (if j ≤ r then 0 else p0 (ix2 j r)) := by
  rw [show c = ⟨r.val, Nat.lt_of_lt_of_le r.isLt (by decide)⟩ from Fin.ext hc]
  pointwise [sums, spread, k0_pay3]
  simp only [select_key, Fin.is_lt, ↓reduceDIte, Nat.add_sub_cancel_left, Fin.eta]
  simp only [mul_ite, mul_zero]

/-- A weighted sum of the values, at an index of the second head. -/
theorem sums_second (v : FVec Ideal S256x128 .bf16) (p0 p1 : FVec Ideal S128x128 .f32) (e r : Fin 128) (c : Fin 256) (hc : c.val = 128 + r.val) :
    sums v (spread p0 p1) (ix2 e c)
      = ∑ j : Fin 128, v (ix2 (⟨j.val, by omega⟩ : Fin 256) e) * (if j ≤ r then p1 (ix2 j r) else 0)
        + ∑ j : Fin 128, v (ix2 (⟨128 + j.val, by omega⟩ : Fin 256) e) * (if j ≤ r then 0 else p1 (ix2 j r)) := by
  have hb : 128 + r.val < 256 := hc ▸ c.isLt
  rw [show c = ⟨128 + r.val, hb⟩ from Fin.ext hc]
  have hn : ¬ (128 + r.val < 128) := by omega
  pointwise [sums, spread, k0_pay3]
  simp only [hn, select_key, ↓reduceDIte, Nat.add_sub_cancel_left, Fin.eta]
  simp only [mul_ite, mul_zero]

/-- The stored tile at a lane of the first head. -/
theorem stored_first (R : ℕ) (hR : R ≤ 64) (h : S128x256.Slices ![R, 0] S64x256) (r0 r1 : FVec Ideal S1x128 .f32) (w : FVec Ideal S128x256 .f32)
    (r : Fin 128) (d : Fin 64) :
    stored ![R, 0] h r0 r1 w (ix3 0 r (⟨d.val, by omega⟩ : Fin 128))
      = w (ix2 (⟨R + d.val, by omega⟩ : Fin 128) (⟨r.val, by omega⟩ : Fin 256)) * r0 (ix2 0 r) := by
  pointwise [stored]

/-- The stored tile at a lane of the second head. -/
theorem stored_second (R : ℕ) (hR : R ≤ 64) (h : S128x256.Slices ![R, 0] S64x256) (r0 r1 : FVec Ideal S1x128 .f32) (w : FVec Ideal S128x256 .f32)
    (r : Fin 128) (d : Fin 64) :
    stored ![R, 0] h r0 r1 w (ix3 0 r (⟨64 + d.val, by omega⟩ : Fin 128))
      = w (ix2 (⟨R + d.val, by omega⟩ : Fin 128) (⟨128 + r.val, by omega⟩ : Fin 256)) * r1 (ix2 0 r) := by
  have hn : ¬ (64 + d.val < 64) := by omega
  pointwise [stored]

/-- The tile of a pair at a lane of its first head. -/
theorem pair_first (i : grid0.Coords) (P R : ℕ) (hP : P ≤ 128) (hR : R ≤ 64) (h0 : S256x256.Slices ![0, P] S128x128) (h1 : S256x256.Slices ![128, P] S128x128)
    (hv : S128x256.Slices ![R, 0] S64x256) (c0 c1 s0 s1 : EReal) (kc kp q v : FVec Ideal S256x128 .bf16) (r : Fin 128) (d : Fin 64) :
    pair (F := Ideal) i ![0, P] ![128, P] h0 h1 ![R, 0] hv c0 c1 s0 s1 kc kp q v (ix3 0 r (⟨d.val, by omega⟩ : Fin 128))
      = SwaHeadSpec.row (i 1).val c0 s0
          (fun j => ∑ l : Fin 128, kc (ix2 (⟨0 + j.val, by omega⟩ : Fin 256) l) * q (ix2 (⟨P + r.val, by omega⟩ : Fin 256) l))
          (fun j => ∑ l : Fin 128, kp (ix2 (⟨0 + j.val, by omega⟩ : Fin 256) l) * q (ix2 (⟨P + r.val, by omega⟩ : Fin 256) l))
          (fun j => v (ix2 (⟨j.val, by omega⟩ : Fin 256) (⟨R + d.val, by omega⟩ : Fin 128)))
          (fun j => v (ix2 (⟨128 + j.val, by omega⟩ : Fin 256) (⟨R + d.val, by omega⟩ : Fin 128))) r := by
  unfold pair
  rw [stored_first R hR, sums_first v _ _ _ r _ rfl, recip_apply]
  simp only [weights_apply, logits_apply i 0 P (by omega) hP]
  rfl

/-- The tile of a pair at a lane of its second head. -/
theorem pair_second (i : grid0.Coords) (P R : ℕ) (hP : P ≤ 128) (hR : R ≤ 64) (h0 : S256x256.Slices ![0, P] S128x128) (h1 : S256x256.Slices ![128, P] S128x128)
    (hv : S128x256.Slices ![R, 0] S64x256) (c0 c1 s0 s1 : EReal) (kc kp q v : FVec Ideal S256x128 .bf16) (r : Fin 128) (d : Fin 64) :
    pair (F := Ideal) i ![0, P] ![128, P] h0 h1 ![R, 0] hv c0 c1 s0 s1 kc kp q v (ix3 0 r (⟨64 + d.val, by omega⟩ : Fin 128))
      = SwaHeadSpec.row (i 1).val c1 s1
          (fun j => ∑ l : Fin 128, kc (ix2 (⟨128 + j.val, by omega⟩ : Fin 256) l) * q (ix2 (⟨P + r.val, by omega⟩ : Fin 256) l))
          (fun j => ∑ l : Fin 128, kp (ix2 (⟨128 + j.val, by omega⟩ : Fin 256) l) * q (ix2 (⟨P + r.val, by omega⟩ : Fin 256) l))
          (fun j => v (ix2 (⟨j.val, by omega⟩ : Fin 256) (⟨R + d.val, by omega⟩ : Fin 128)))
          (fun j => v (ix2 (⟨128 + j.val, by omega⟩ : Fin 256) (⟨R + d.val, by omega⟩ : Fin 128))) r := by
  unfold pair
  rw [stored_second R hR, sums_second v _ _ _ r _ rfl, recip_apply]
  simp only [weights_apply, logits_apply i 128 P le_rfl hP]
  rfl

/-! ## The keys over the lanes -/

theorem sum_lanes (f : Fin 128 → EReal) :
    ∑ l : Fin 128, f l = ∑ d : Fin 64, f ⟨d.val, by omega⟩ + ∑ d : Fin 64, f ⟨64 + d.val, by omega⟩ :=
  Fin.sum_univ_two_halves 64 64 rfl f

/-- The low key head against the lower lanes. -/
theorem keysLow_first (t : Vec Ideal S1x128x128 .f32) (f : Fin 128 → EReal) (j : Fin 128) (hj : 0 + j.val < 256) :
    ∑ l : Fin 128, keysLow t (ix2 (⟨0 + j.val, hj⟩ : Fin 256) l) * f l
      = ∑ d : Fin 64, t (ix3 0 j (⟨0 + d.val, by omega⟩ : Fin 128)) * f ⟨d.val, by omega⟩ := by
  have h : ∀ l : Fin 128, keysLow t (ix2 (⟨0 + j.val, hj⟩ : Fin 256) l) = if l.val < 64 then t (ix3 0 j l) else 0 := fun l => by
    have e : (⟨0 + j.val, hj⟩ : Fin 256) = ⟨j.val, by omega⟩ := Fin.ext (by simp)
    rw [e]
    pointwise [keysLow, rows, turned, zeros, k0_pay5]
    exact select_lane _ _ _
  simp only [sum_lanes, h]
  simp

/-- The low key head against the upper lanes. -/
theorem keysLow_second (t : Vec Ideal S1x128x128 .f32) (f : Fin 128 → EReal) (j : Fin 128) (hj : 128 + j.val < 256) :
    ∑ l : Fin 128, keysLow t (ix2 (⟨128 + j.val, hj⟩ : Fin 256) l) * f l
      = ∑ d : Fin 64, t (ix3 0 j (⟨0 + d.val, by omega⟩ : Fin 128)) * f ⟨64 + d.val, by omega⟩ := by
  have h : ∀ l : Fin 128, keysLow t (ix2 (⟨128 + j.val, hj⟩ : Fin 256) l)
      = if l.val < 64 then 0 else t (ix3 0 j ⟨(l.val + 128 - 64) % 128, by omega⟩) := fun l => by
    pointwise [keysLow, rows, turned, zeros, k0_pay5]
    exact select_lane _ _ _
  simp only [sum_lanes, h]
  simp
  refine Finset.sum_congr rfl fun d _ => ?_
  congr 4
  omega

/-- The high key head against the lower lanes. -/
theorem keysHigh_first (t : Vec Ideal S1x128x128 .f32) (f : Fin 128 → EReal) (j : Fin 128) (hj : 0 + j.val < 256) :
    ∑ l : Fin 128, keysHigh t (ix2 (⟨0 + j.val, hj⟩ : Fin 256) l) * f l
      = ∑ d : Fin 64, t (ix3 0 j (⟨64 + d.val, by omega⟩ : Fin 128)) * f ⟨d.val, by omega⟩ := by
  have h : ∀ l : Fin 128, keysHigh t (ix2 (⟨0 + j.val, hj⟩ : Fin 256) l)
      = if l.val < 64 then t (ix3 0 j ⟨(l.val + 128 - 64) % 128, by omega⟩) else 0 := fun l => by
    have e : (⟨0 + j.val, hj⟩ : Fin 256) = ⟨j.val, by omega⟩ := Fin.ext (by simp)
    rw [e]
    pointwise [keysHigh, rows, turned, zeros, k0_pay5]
    exact select_lane _ _ _
  simp only [sum_lanes, h]
  simp
  refine Finset.sum_congr rfl fun d _ => ?_
  congr 4
  omega

/-- The high key head against the upper lanes. -/
theorem keysHigh_second (t : Vec Ideal S1x128x128 .f32) (f : Fin 128 → EReal) (j : Fin 128) (hj : 128 + j.val < 256) :
    ∑ l : Fin 128, keysHigh t (ix2 (⟨128 + j.val, hj⟩ : Fin 256) l) * f l
      = ∑ d : Fin 64, t (ix3 0 j (⟨64 + d.val, by omega⟩ : Fin 128)) * f ⟨64 + d.val, by omega⟩ := by
  have h : ∀ l : Fin 128, keysHigh t (ix2 (⟨128 + j.val, hj⟩ : Fin 256) l)
      = if l.val < 64 then 0 else t (ix3 0 j l) := fun l => by
    pointwise [keysHigh, rows, turned, zeros, k0_pay5]
    exact select_lane _ _ _
  simp only [sum_lanes, h]
  simp

/-- A query row of the first of two tiles, scaled. -/
theorem queries_first (a b : Vec Ideal S1x128x128 .f32) (r l : Fin 128) (h : 0 + r.val < 256) :
    queries a b (ix2 (⟨0 + r.val, h⟩ : Fin 256) l) = a (ix3 0 r l) * Ideal.ofBits .f32 0x3E000000#32 := by
  have e : (⟨0 + r.val, h⟩ : Fin 256) = ⟨r.val, by omega⟩ := Fin.ext (by simp)
  rw [e]
  pointwise [queries, rows]

/-- A query row of the second of two tiles, scaled. -/
theorem queries_second (a b : Vec Ideal S1x128x128 .f32) (r l : Fin 128) (h : 128 + r.val < 256) :
    queries a b (ix2 (⟨128 + r.val, h⟩ : Fin 256) l) = b (ix3 0 r l) * Ideal.ofBits .f32 0x3E000000#32 := by
  pointwise [queries, rows]

/-- A row of the current block's values. -/
theorem values_first (a b : Vec Ideal S1x128x128 .f32) (j l : Fin 128) :
    values a b (ix2 (⟨j.val, by omega⟩ : Fin 256) l) = a (ix3 0 j l) := by
  pointwise [values, rows]

/-- A row of the previous block's values. -/
theorem values_second (a b : Vec Ideal S1x128x128 .f32) (j l : Fin 128) :
    values a b (ix2 (⟨128 + j.val, by omega⟩ : Fin 256) l) = b (ix3 0 j l) := by
  pointwise [values, rows]

end Cert.SwaPair

end
-- ==== Proof.SwaRef.lean ====
/- The reference of the banded attention, read at an index. -/
module

public import proofs.«01_k».proof.Proof.SwaPair
public import proofs.«01_k».proof.Proof.Gen.SwaRefIdeal.Read
public import Idealize.ShloMosaic.Lib.Pointwise

@[expose] public section

set_option maxRecDepth 16384

noncomputable section

namespace Cert.SwaRef

open Cert.SwaRefIdeal Cert.SwaRefIdeal.Gen Cert.SwaRefIdeal.Read Idealize.ShloMosaic Idealize.ShloMosaic.Pointwise

variable (x : S2x4096x6784.Idx → EReal) (s : S32.Idx → EReal)

/-- The queries. -/
theorem queries_apply (b : Fin 2) (n : Fin 32) (r : Fin 128) (g : Fin 4) (u : Fin 8) (e : Fin 64) :
    val_main_v4 (F := Ideal) x (ix6 b n r g u e)
      = x (ix3 b (⟨128 * n.val + r.val, by omega⟩ : Fin 4096) (⟨64 * (8 * g.val + u.val) + e.val, by omega⟩ : Fin 6784)) := by
  pointwise [val_main_v4, val_main_v0]
  exact congrArg x (funext fun a => Fin.ext (by match a with | ⟨0, _⟩ => rfl | ⟨1, _⟩ => show n.val * 128 + r.val = 128 * n.val + r.val; omega | ⟨2, _⟩ => show g.val * 512 + u.val * 64 + e.val = 64 * (8 * g.val + u.val) + e.val; omega))

/-- The keys: a row of the current block. -/
theorem keys_high (b : Fin 2) (n : Fin 32) (j : Fin 128) (g : Fin 4) (e : Fin 64) :
    val_main_v8 (F := Ideal) x (ix5 b n (⟨128 + j.val, by omega⟩ : Fin 256) g e)
      = x (ix3 b (⟨128 * n.val + j.val, by omega⟩ : Fin 4096) (⟨2048 + (64 * g.val + e.val), by omega⟩ : Fin 6784)) := by
  pointwise [val_main_v8, val_main_v7, val_main_v6, val_main_v5, val_main_v1]
  exact congrArg x (funext fun a => Fin.ext (by match a with | ⟨0, _⟩ => rfl | ⟨1, _⟩ => show n.val * 128 + j.val = 128 * n.val + j.val; omega | ⟨2, _⟩ => show 2048 + (g.val * 64 + e.val) = 2048 + (64 * g.val + e.val); omega))

/-- The keys: a row of the previous block. -/
theorem keys_low (b : Fin 2) (n : Fin 32) (hn : n.val ≠ 0) (j : Fin 128) (g : Fin 4) (e : Fin 64) :
    val_main_v8 (F := Ideal) x (ix5 b n (⟨j.val, by omega⟩ : Fin 256) g e)
      = x (ix3 b (⟨128 * (n.val - 1) + j.val, by omega⟩ : Fin 4096) (⟨2048 + (64 * g.val + e.val), by omega⟩ : Fin 6784)) := by
  pointwise [val_main_v8, val_main_v7, val_main_v6, val_main_v5, val_main_v1]
  rw [dif_pos ⟨by omega, by omega⟩]
  exact congrArg x (funext fun a => Fin.ext (by match a with | ⟨0, _⟩ => rfl | ⟨1, _⟩ => show (n.val - 1) * 128 + j.val = 128 * (n.val - 1) + j.val; omega | ⟨2, _⟩ => show 2048 + (g.val * 64 + e.val) = 2048 + (64 * g.val + e.val); omega))

/-- The values: a row of the current block. -/
theorem values_high (b : Fin 2) (n : Fin 32) (j : Fin 128) (g : Fin 4) (e : Fin 64) :
    val_main_v12 (F := Ideal) x (ix5 b n (⟨128 + j.val, by omega⟩ : Fin 256) g e)
      = x (ix3 b (⟨128 * n.val + j.val, by omega⟩ : Fin 4096) (⟨2304 + (64 * g.val + e.val), by omega⟩ : Fin 6784)) := by
  pointwise [val_main_v12, val_main_v11, val_main_v10, val_main_v9, val_main_v2]
  exact congrArg x (funext fun a => Fin.ext (by match a with | ⟨0, _⟩ => rfl | ⟨1, _⟩ => show n.val * 128 + j.val = 128 * n.val + j.val; omega | ⟨2, _⟩ => show 2304 + (g.val * 64 + e.val) = 2304 + (64 * g.val + e.val); omega))

/-- The values: a row of the previous block. -/
theorem values_low (b : Fin 2) (n : Fin 32) (hn : n.val ≠ 0) (j : Fin 128) (g : Fin 4) (e : Fin 64) :
    val_main_v12 (F := Ideal) x (ix5 b n (⟨j.val, by omega⟩ : Fin 256) g e)
      = x (ix3 b (⟨128 * (n.val - 1) + j.val, by omega⟩ : Fin 4096) (⟨2304 + (64 * g.val + e.val), by omega⟩ : Fin 6784)) := by
  pointwise [val_main_v12, val_main_v11, val_main_v10, val_main_v9, val_main_v2]
  rw [dif_pos ⟨by omega, by omega⟩]
  exact congrArg x (funext fun a => Fin.ext (by match a with | ⟨0, _⟩ => rfl | ⟨1, _⟩ => show (n.val - 1) * 128 + j.val = 128 * (n.val - 1) + j.val; omega | ⟨2, _⟩ => show 2304 + (g.val * 64 + e.val) = 2304 + (64 * g.val + e.val); omega))

/-- A scaled product of a key with a query. -/
theorem products_apply (b : Fin 2) (n : Fin 32) (g : Fin 4) (u : Fin 8) (r : Fin 128) (j : Fin 256) :
    val_main_v16 (F := Ideal) x (ix6 b n g u r j)
      = (∑ e : Fin 64, val_main_v8 (F := Ideal) x (ix5 b n j g e) * val_main_v4 (F := Ideal) x (ix6 b n r g u e)) * Ideal.ofBits .f32 0x3E000000#32 := by
  pointwise [val_main_v16, val_main_v15, val_main_v14, val_main_v13, val_main_cst]

/-- A masked logit. -/
theorem masked_apply (b : Fin 2) (n : Fin 32) (g : Fin 4) (u : Fin 8) (r : Fin 128) (j : Fin 256) :
    val_main_v66 (F := Ideal) x (ix6 b n g u r j) = if val_main_v44 (F := Ideal) (ix3 n r j) = 1#1 then
      val_main_v16 (F := Ideal) x (ix6 b n g u r j) + val_main_v64 (F := Ideal) (ix6 b n g u r j) else ⊥ := by
  pointwise [val_main_v66, val_main_v65, val_main_call2_v2, val_main_call2_v1, val_main_call2_v0, val_main_cst_10, val_main_v62]
  show Scalar.select _ _ (Ideal.ofBits .f32 0xFF800000#32) = _
  rw [SwaPair.ofBits_bot, SwaPair.select_ite]

/-- The largest of a row's masked logits. -/
theorem rowtop_apply (b : Fin 2) (n : Fin 32) (g : Fin 4) (u : Fin 8) (r : Fin 128) :
    val_main_v69 (F := Ideal) x (ix5 b n g u r) = Finset.univ.fold max ⊥ fun j : Fin 256 => val_main_v66 (F := Ideal) x (ix6 b n g u r j) := by
  unfold val_main_v69
  generalize val_main_v66 (F := Ideal) x = y
  have hr : S2x32x4x8x128x256.Reduces [5] S2x32x4x8x128 := by decide
  have h0 : val_main_cst_11 (F := Ideal) (Shape.Idx.first h_S_) = ⊥ := SwaPair.ofBits_bot
  refine (Host.reduce_eq_fold_single (α := EReal) max y _ reducesTo_S2x32x4x8x128x256_S2x32x4x8x128_d5 hr h_S_ (ix5 b n g u r)).trans ?_
  rw [h0]
  have hf : (y ∘ hr.lift (ix5 b n g u r)) = fun j : Fin 256 => y (ix6 b n g u r j) := by
    funext j
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  rw [hf]
  rfl

/-- A row's sink. -/
theorem sink_apply (b : Fin 2) (n : Fin 32) (g : Fin 4) (u : Fin 8) (r : Fin 128) :
    val_main_v72 (F := Ideal) s (ix6 b n g u r 0) = s (ix1 (⟨8 * g.val + u.val, by omega⟩ : Fin 32)) := by
  pointwise [val_main_v72, val_main_v71, val_main_v68, val_main_v67]
  exact congrArg s (funext fun a => Fin.ext (by match a with | ⟨0, _⟩ => show g.val * 8 + u.val = 8 * g.val + u.val; omega))

/-- The largest logit, the sink among them. -/
theorem top_apply (b : Fin 2) (n : Fin 32) (g : Fin 4) (u : Fin 8) (r : Fin 128) :
    val_main_v73 (F := Ideal) x s (ix6 b n g u r 0)
      = max (Finset.univ.fold max ⊥ fun j : Fin 256 => val_main_v66 (F := Ideal) x (ix6 b n g u r j)) (s (ix1 (⟨8 * g.val + u.val, by omega⟩ : Fin 32))) := by
  have h : val_main_v70 (F := Ideal) x (ix6 b n g u r 0) = val_main_v69 (F := Ideal) x (ix5 b n g u r) := by
    rw [val_main_v70_apply]
    generalize val_main_v69 (F := Ideal) x = y
    exact congrArg y (funext fun a => Fin.ext (by match a with | ⟨0, _⟩ => rfl | ⟨1, _⟩ => rfl | ⟨2, _⟩ => rfl | ⟨3, _⟩ => rfl | ⟨4, _⟩ => rfl))
  rw [val_main_v73_apply, h, sink_apply, rowtop_apply]
  rfl

/-- An exponential. -/
theorem exps_apply (b : Fin 2) (n : Fin 32) (g : Fin 4) (u : Fin 8) (r : Fin 128) (j : Fin 256) :
    val_main_v76 (F := Ideal) x s (ix6 b n g u r j)
      = Ideal.exp (val_main_v66 (F := Ideal) x (ix6 b n g u r j) - val_main_v73 (F := Ideal) x s (ix6 b n g u r 0)) := by
  pointwise [val_main_v76, val_main_v75, val_main_v74]

/-- The sum of a row's exponentials. -/
theorem rowsum_apply (b : Fin 2) (n : Fin 32) (g : Fin 4) (u : Fin 8) (r : Fin 128) :
    val_main_v77 (F := Ideal) x s (ix5 b n g u r) = ∑ j : Fin 256, val_main_v76 (F := Ideal) x s (ix6 b n g u r j) := by
  have h0 : val_main_cst_12 (F := Ideal) (Shape.Idx.first h_S_) = 0 := by
    show Ideal.ofBits .f32 0x00000000#32 = 0
    simp [Ideal.ofBits, Ideal.ieee]
  rw [val_main_v77_apply, h0, zero_add]
  refine Finset.sum_congr rfl fun j _ => ?_
  exact congrArg (val_main_v76 (F := Ideal) x s) (funext fun a => Fin.ext (by match a with | ⟨0, _⟩ => rfl | ⟨1, _⟩ => rfl | ⟨2, _⟩ => rfl | ⟨3, _⟩ => rfl | ⟨4, _⟩ => rfl | ⟨5, _⟩ => rfl))

/-- The normaliser. -/
theorem norm_apply (b : Fin 2) (n : Fin 32) (g : Fin 4) (u : Fin 8) (r : Fin 128) :
    val_main_v83 (F := Ideal) x s (ix6 b n g u r 0)
      = ∑ j : Fin 256, val_main_v76 (F := Ideal) x s (ix6 b n g u r j)
        + Ideal.exp (s (ix1 (⟨8 * g.val + u.val, by omega⟩ : Fin 32)) - val_main_v73 (F := Ideal) x s (ix6 b n g u r 0)) := by
  rw [← rowsum_apply]
  pointwise [val_main_v83, val_main_v82, val_main_v81, val_main_v80, val_main_v79, val_main_v78, val_main_v68, val_main_v67]
  exact congrArg (fun z => _ + Ideal.exp (z - _)) (congrArg s (funext fun a => Fin.ext (by match a with | ⟨0, _⟩ => show g.val * 8 + u.val = 8 * g.val + u.val; omega)))

/-- The attention's result. -/
theorem result_apply (b : Fin 2) (n : Fin 32) (g : Fin 4) (u : Fin 8) (r : Fin 128) (d : Fin 64) :
    val_main_v89 (F := Ideal) x s (ix3 b (⟨128 * n.val + r.val, by omega⟩ : Fin 4096) (⟨64 * (8 * g.val + u.val) + d.val, by omega⟩ : Fin 2048))
      = ∑ j : Fin 256, val_main_v12 (F := Ideal) x (ix5 b n j g d)
          * Ideal.div (val_main_v76 (F := Ideal) x s (ix6 b n g u r j)) (val_main_v83 (F := Ideal) x s (ix6 b n g u r 0)) := by
  pointwise [val_main_v89, val_main_v88, val_main_v87, val_main_v86, val_main_v85, val_main_v84]

end Cert.SwaRef

end
-- ==== Proof.SwaSlope.lean ====
/- The slopes of the 32 heads: the constants of the kernel are the powers `2 ^ (-8 (1 + h) / 32)` of the reference. -/
module

public import proofs.«01_k».proof.Proof.SwaHead
public import Idealize.ShloMosaic.PureOps.IdealRules

@[expose] public section

noncomputable section

namespace Cert.SwaSlope

open Cert.SwaIdeal Idealize.ShloMosaic

/-- The slope of head `h`. -/
def slope (h : ℕ) : EReal := (((2 : ℝ) ^ ((-8 * (1 + (h : ℝ))) / 32) : ℝ) : EReal)

/-- The reciprocal of the fourth root of two. -/
def a : ℝ := (Real.sqrt (Real.sqrt 2))⁻¹

theorem a_sq : a ^ 2 = (Real.sqrt 2)⁻¹ := by
  unfold a
  rw [inv_pow, Real.sq_sqrt (Real.sqrt_nonneg _)]

theorem a_four : a ^ 4 = 2⁻¹ := by
  rw [show (4 : ℕ) = 2 * 2 from rfl, pow_mul, a_sq, inv_pow, Real.sq_sqrt (by norm_num)]

theorem a_eq : a = (2 : ℝ) ^ (-(1 / 4) : ℝ) := by
  unfold a
  rw [Real.sqrt_eq_rpow, Real.sqrt_eq_rpow, ← Real.rpow_mul (by norm_num), ← Real.rpow_neg (by norm_num)]
  norm_num

/-- A head's slope is a power of `a`. -/
theorem slope_eq (h : ℕ) : slope h = ((a ^ (h + 1) : ℝ) : EReal) := by
  unfold slope
  rw [a_eq, ← Real.rpow_natCast, ← Real.rpow_mul (by norm_num)]
  congr 2
  push_cast
  ring

theorem slope_of {x : ℝ} {h : ℕ} (hx : x = a ^ (h + 1)) : ((x : ℝ) : EReal) = slope h := by
  rw [slope_eq, hx]

theorem slope_1 : (Named.named (F := Ideal) κ "slope1" 0x3F5744FD#32 : Ideal .f32) = slope 0 := by
  rw [show (Named.named (F := Ideal) κ "slope1" 0x3F5744FD#32 : Ideal .f32) = (((Real.sqrt (Real.sqrt 2))⁻¹ : ℝ) : EReal) from IdealRules.named_const.ideal_named_scalar _ _ _ _ rfl]
  refine slope_of ?_
  rw [show (Real.sqrt (Real.sqrt 2))⁻¹ = a from rfl]
  ring

theorem slope_2 : (Named.named (F := Ideal) κ "slope2" 0x3F3504F3#32 : Ideal .f32) = slope 1 := by
  rw [show (Named.named (F := Ideal) κ "slope2" 0x3F3504F3#32 : Ideal .f32) = (((Real.sqrt 2)⁻¹ : ℝ) : EReal) from IdealRules.named_const.ideal_named_scalar _ _ _ _ rfl]
  refine slope_of ?_
  rw [← a_sq]

theorem slope_3 : (Named.named (F := Ideal) κ "slope3" 0x3F1837F0#32 : Ideal .f32) = slope 2 := by
  rw [show (Named.named (F := Ideal) κ "slope3" 0x3F1837F0#32 : Ideal .f32) = (((Real.sqrt 2)⁻¹ * (Real.sqrt (Real.sqrt 2))⁻¹ : ℝ) : EReal) from IdealRules.named_const.ideal_named_scalar _ _ _ _ rfl]
  refine slope_of ?_
  rw [← a_sq, show (Real.sqrt (Real.sqrt 2))⁻¹ = a from rfl]
  ring

theorem slope_4 : (Scalar.ofBits (F := Ideal) .f32 0x3F000000#32 : Ideal .f32) = slope 3 := by
  rw [show (Scalar.ofBits (F := Ideal) .f32 0x3F000000#32 : Ideal .f32) = ((2⁻¹ : ℝ) : EReal) by
    show Ideal.ofBits .f32 0x3F000000#32 = _
    simp [Ideal.ofBits, Ideal.ieee, -EReal.coe_mul]
    norm_num]
  refine slope_of ?_
  rw [show (2⁻¹ : ℝ) = (a ^ 4) ^ 1 by rw [a_four]; norm_num]
  ring

theorem slope_5 : (Named.named (F := Ideal) κ "slope5" 0x3ED744FD#32 : Ideal .f32) = slope 4 := by
  rw [show (Named.named (F := Ideal) κ "slope5" 0x3ED744FD#32 : Ideal .f32) = ((2⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (2⁻¹ : ℝ) = (a ^ 4) ^ 1 by rw [a_four]; norm_num]
  ring

theorem slope_6 : (Named.named (F := Ideal) κ "slope6" 0x3EB504F3#32 : Ideal .f32) = slope 5 := by
  rw [show (Named.named (F := Ideal) κ "slope6" 0x3EB504F3#32 : Ideal .f32) = ((2⁻¹ * (Real.sqrt 2)⁻¹ : ℝ) : EReal) from IdealRules.named_const.ideal_named_scalar _ _ _ _ rfl]
  refine slope_of ?_
  rw [← a_sq]
  rw [show (2⁻¹ : ℝ) = (a ^ 4) ^ 1 by rw [a_four]; norm_num]
  ring

theorem slope_7 : (Named.named (F := Ideal) κ "slope7" 0x3E9837F0#32 : Ideal .f32) = slope 6 := by
  rw [show (Named.named (F := Ideal) κ "slope7" 0x3E9837F0#32 : Ideal .f32) = ((2⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (2⁻¹ : ℝ) = (a ^ 4) ^ 1 by rw [a_four]; norm_num]
  ring

theorem slope_8 : (Scalar.ofBits (F := Ideal) .f32 0x3E800000#32 : Ideal .f32) = slope 7 := by
  rw [show (Scalar.ofBits (F := Ideal) .f32 0x3E800000#32 : Ideal .f32) = ((4⁻¹ : ℝ) : EReal) by
    show Ideal.ofBits .f32 0x3E800000#32 = _
    simp [Ideal.ofBits, Ideal.ieee, -EReal.coe_mul]
    norm_num]
  refine slope_of ?_
  rw [show (4⁻¹ : ℝ) = (a ^ 4) ^ 2 by rw [a_four]; norm_num]
  ring

theorem slope_9 : (Named.named (F := Ideal) κ "slope9" 0x3E5744FD#32 : Ideal .f32) = slope 8 := by
  rw [show (Named.named (F := Ideal) κ "slope9" 0x3E5744FD#32 : Ideal .f32) = ((4⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (4⁻¹ : ℝ) = (a ^ 4) ^ 2 by rw [a_four]; norm_num]
  ring

theorem slope_10 : (Named.named (F := Ideal) κ "slope10" 0x3E3504F3#32 : Ideal .f32) = slope 9 := by
  rw [show (Named.named (F := Ideal) κ "slope10" 0x3E3504F3#32 : Ideal .f32) = ((4⁻¹ * (Real.sqrt 2)⁻¹ : ℝ) : EReal) from IdealRules.named_const.ideal_named_scalar _ _ _ _ rfl]
  refine slope_of ?_
  rw [← a_sq]
  rw [show (4⁻¹ : ℝ) = (a ^ 4) ^ 2 by rw [a_four]; norm_num]
  ring

theorem slope_11 : (Named.named (F := Ideal) κ "slope11" 0x3E1837F0#32 : Ideal .f32) = slope 10 := by
  rw [show (Named.named (F := Ideal) κ "slope11" 0x3E1837F0#32 : Ideal .f32) = ((4⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (4⁻¹ : ℝ) = (a ^ 4) ^ 2 by rw [a_four]; norm_num]
  ring

theorem slope_12 : (Scalar.ofBits (F := Ideal) .f32 0x3E000000#32 : Ideal .f32) = slope 11 := by
  rw [show (Scalar.ofBits (F := Ideal) .f32 0x3E000000#32 : Ideal .f32) = ((8⁻¹ : ℝ) : EReal) by
    show Ideal.ofBits .f32 0x3E000000#32 = _
    simp [Ideal.ofBits, Ideal.ieee, -EReal.coe_mul]
    norm_num]
  refine slope_of ?_
  rw [show (8⁻¹ : ℝ) = (a ^ 4) ^ 3 by rw [a_four]; norm_num]
  ring

theorem slope_13 : (Named.named (F := Ideal) κ "slope13" 0x3DD744FD#32 : Ideal .f32) = slope 12 := by
  rw [show (Named.named (F := Ideal) κ "slope13" 0x3DD744FD#32 : Ideal .f32) = ((8⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (8⁻¹ : ℝ) = (a ^ 4) ^ 3 by rw [a_four]; norm_num]
  ring

theorem slope_14 : (Named.named (F := Ideal) κ "slope14" 0x3DB504F3#32 : Ideal .f32) = slope 13 := by
  rw [show (Named.named (F := Ideal) κ "slope14" 0x3DB504F3#32 : Ideal .f32) = ((8⁻¹ * (Real.sqrt 2)⁻¹ : ℝ) : EReal) from IdealRules.named_const.ideal_named_scalar _ _ _ _ rfl]
  refine slope_of ?_
  rw [← a_sq]
  rw [show (8⁻¹ : ℝ) = (a ^ 4) ^ 3 by rw [a_four]; norm_num]
  ring

theorem slope_15 : (Named.named (F := Ideal) κ "slope15" 0x3D9837F0#32 : Ideal .f32) = slope 14 := by
  rw [show (Named.named (F := Ideal) κ "slope15" 0x3D9837F0#32 : Ideal .f32) = ((8⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (8⁻¹ : ℝ) = (a ^ 4) ^ 3 by rw [a_four]; norm_num]
  ring

theorem slope_16 : (Scalar.ofBits (F := Ideal) .f32 0x3D800000#32 : Ideal .f32) = slope 15 := by
  rw [show (Scalar.ofBits (F := Ideal) .f32 0x3D800000#32 : Ideal .f32) = ((16⁻¹ : ℝ) : EReal) by
    show Ideal.ofBits .f32 0x3D800000#32 = _
    simp [Ideal.ofBits, Ideal.ieee, -EReal.coe_mul]
    norm_num]
  refine slope_of ?_
  rw [show (16⁻¹ : ℝ) = (a ^ 4) ^ 4 by rw [a_four]; norm_num]
  ring

theorem slope_17 : (Named.named (F := Ideal) κ "slope17" 0x3D5744FD#32 : Ideal .f32) = slope 16 := by
  rw [show (Named.named (F := Ideal) κ "slope17" 0x3D5744FD#32 : Ideal .f32) = ((16⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (16⁻¹ : ℝ) = (a ^ 4) ^ 4 by rw [a_four]; norm_num]
  ring

theorem slope_18 : (Named.named (F := Ideal) κ "slope18" 0x3D3504F3#32 : Ideal .f32) = slope 17 := by
  rw [show (Named.named (F := Ideal) κ "slope18" 0x3D3504F3#32 : Ideal .f32) = ((16⁻¹ * (Real.sqrt 2)⁻¹ : ℝ) : EReal) from IdealRules.named_const.ideal_named_scalar _ _ _ _ rfl]
  refine slope_of ?_
  rw [← a_sq]
  rw [show (16⁻¹ : ℝ) = (a ^ 4) ^ 4 by rw [a_four]; norm_num]
  ring

theorem slope_19 : (Named.named (F := Ideal) κ "slope19" 0x3D1837F0#32 : Ideal .f32) = slope 18 := by
  rw [show (Named.named (F := Ideal) κ "slope19" 0x3D1837F0#32 : Ideal .f32) = ((16⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (16⁻¹ : ℝ) = (a ^ 4) ^ 4 by rw [a_four]; norm_num]
  ring

theorem slope_20 : (Scalar.ofBits (F := Ideal) .f32 0x3D000000#32 : Ideal .f32) = slope 19 := by
  rw [show (Scalar.ofBits (F := Ideal) .f32 0x3D000000#32 : Ideal .f32) = ((32⁻¹ : ℝ) : EReal) by
    show Ideal.ofBits .f32 0x3D000000#32 = _
    simp [Ideal.ofBits, Ideal.ieee, -EReal.coe_mul]
    norm_num]
  refine slope_of ?_
  rw [show (32⁻¹ : ℝ) = (a ^ 4) ^ 5 by rw [a_four]; norm_num]
  ring

theorem slope_21 : (Named.named (F := Ideal) κ "slope21" 0x3CD744FD#32 : Ideal .f32) = slope 20 := by
  rw [show (Named.named (F := Ideal) κ "slope21" 0x3CD744FD#32 : Ideal .f32) = ((32⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (32⁻¹ : ℝ) = (a ^ 4) ^ 5 by rw [a_four]; norm_num]
  ring

theorem slope_22 : (Named.named (F := Ideal) κ "slope22" 0x3CB504F3#32 : Ideal .f32) = slope 21 := by
  rw [show (Named.named (F := Ideal) κ "slope22" 0x3CB504F3#32 : Ideal .f32) = ((32⁻¹ * (Real.sqrt 2)⁻¹ : ℝ) : EReal) from IdealRules.named_const.ideal_named_scalar _ _ _ _ rfl]
  refine slope_of ?_
  rw [← a_sq]
  rw [show (32⁻¹ : ℝ) = (a ^ 4) ^ 5 by rw [a_four]; norm_num]
  ring

theorem slope_23 : (Named.named (F := Ideal) κ "slope23" 0x3C9837F0#32 : Ideal .f32) = slope 22 := by
  rw [show (Named.named (F := Ideal) κ "slope23" 0x3C9837F0#32 : Ideal .f32) = ((32⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (32⁻¹ : ℝ) = (a ^ 4) ^ 5 by rw [a_four]; norm_num]
  ring

theorem slope_24 : (Scalar.ofBits (F := Ideal) .f32 0x3C800000#32 : Ideal .f32) = slope 23 := by
  rw [show (Scalar.ofBits (F := Ideal) .f32 0x3C800000#32 : Ideal .f32) = ((64⁻¹ : ℝ) : EReal) by
    show Ideal.ofBits .f32 0x3C800000#32 = _
    simp [Ideal.ofBits, Ideal.ieee, -EReal.coe_mul]
    norm_num]
  refine slope_of ?_
  rw [show (64⁻¹ : ℝ) = (a ^ 4) ^ 6 by rw [a_four]; norm_num]
  ring

theorem slope_25 : (Named.named (F := Ideal) κ "slope25" 0x3C5744FD#32 : Ideal .f32) = slope 24 := by
  rw [show (Named.named (F := Ideal) κ "slope25" 0x3C5744FD#32 : Ideal .f32) = ((64⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (64⁻¹ : ℝ) = (a ^ 4) ^ 6 by rw [a_four]; norm_num]
  ring

theorem slope_26 : (Named.named (F := Ideal) κ "slope26" 0x3C3504F3#32 : Ideal .f32) = slope 25 := by
  rw [show (Named.named (F := Ideal) κ "slope26" 0x3C3504F3#32 : Ideal .f32) = ((64⁻¹ * (Real.sqrt 2)⁻¹ : ℝ) : EReal) from IdealRules.named_const.ideal_named_scalar _ _ _ _ rfl]
  refine slope_of ?_
  rw [← a_sq]
  rw [show (64⁻¹ : ℝ) = (a ^ 4) ^ 6 by rw [a_four]; norm_num]
  ring

theorem slope_27 : (Named.named (F := Ideal) κ "slope27" 0x3C1837F0#32 : Ideal .f32) = slope 26 := by
  rw [show (Named.named (F := Ideal) κ "slope27" 0x3C1837F0#32 : Ideal .f32) = ((64⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (64⁻¹ : ℝ) = (a ^ 4) ^ 6 by rw [a_four]; norm_num]
  ring

theorem slope_28 : (Scalar.ofBits (F := Ideal) .f32 0x3C000000#32 : Ideal .f32) = slope 27 := by
  rw [show (Scalar.ofBits (F := Ideal) .f32 0x3C000000#32 : Ideal .f32) = ((128⁻¹ : ℝ) : EReal) by
    show Ideal.ofBits .f32 0x3C000000#32 = _
    simp [Ideal.ofBits, Ideal.ieee, -EReal.coe_mul]
    norm_num]
  refine slope_of ?_
  rw [show (128⁻¹ : ℝ) = (a ^ 4) ^ 7 by rw [a_four]; norm_num]
  ring

theorem slope_29 : (Named.named (F := Ideal) κ "slope29" 0x3BD744FD#32 : Ideal .f32) = slope 28 := by
  rw [show (Named.named (F := Ideal) κ "slope29" 0x3BD744FD#32 : Ideal .f32) = ((128⁻¹ * (Real.sqrt (Real.sqrt 2))⁻¹ : ℝ) : EReal) from IdealRules.named_const.ideal_named_scalar _ _ _ _ rfl]
  refine slope_of ?_
  rw [show (Real.sqrt (Real.sqrt 2))⁻¹ = a from rfl]
  rw [show (128⁻¹ : ℝ) = (a ^ 4) ^ 7 by rw [a_four]; norm_num]
  ring

theorem slope_30 : (Named.named (F := Ideal) κ "slope30" 0x3BB504F3#32 : Ideal .f32) = slope 29 := by
  rw [show (Named.named (F := Ideal) κ "slope30" 0x3BB504F3#32 : Ideal .f32) = ((128⁻¹ * (Real.sqrt 2)⁻¹ : ℝ) : EReal) from IdealRules.named_const.ideal_named_scalar _ _ _ _ rfl]
  refine slope_of ?_
  rw [← a_sq]
  rw [show (128⁻¹ : ℝ) = (a ^ 4) ^ 7 by rw [a_four]; norm_num]
  ring

theorem slope_31 : (Named.named (F := Ideal) κ "slope31" 0x3B9837F0#32 : Ideal .f32) = slope 30 := by
  rw [show (Named.named (F := Ideal) κ "slope31" 0x3B9837F0#32 : Ideal .f32) = ((128⁻¹ * ((Real.sqrt 2)⁻¹ * (Real.sqrt (Real.sqrt 2))⁻¹) : ℝ) : EReal) from IdealRules.named_const.ideal_named_scalar _ _ _ _ rfl]
  refine slope_of ?_
  rw [← a_sq, show (Real.sqrt (Real.sqrt 2))⁻¹ = a from rfl]
  rw [show (128⁻¹ : ℝ) = (a ^ 4) ^ 7 by rw [a_four]; norm_num]
  ring

theorem slope_32 : (Scalar.ofBits (F := Ideal) .f32 0x3B800000#32 : Ideal .f32) = slope 31 := by
  rw [show (Scalar.ofBits (F := Ideal) .f32 0x3B800000#32 : Ideal .f32) = ((256⁻¹ : ℝ) : EReal) by
    show Ideal.ofBits .f32 0x3B800000#32 = _
    simp [Ideal.ofBits, Ideal.ieee, -EReal.coe_mul]
    norm_num]
  refine slope_of ?_
  rw [show (256⁻¹ : ℝ) = (a ^ 4) ^ 8 by rw [a_four]; norm_num]
  ring

end Cert.SwaSlope

end
-- ==== Proof.SwaBias.lean ====
/- The bias and the mask of the banded attention's reference, read at an index. -/
module

public import proofs.«01_k».proof.Proof.SwaSlope
public import proofs.«01_k».proof.Proof.Gen.SwaRefIdeal.Read
public import Idealize.ShloMosaic.Lib.Pointwise

@[expose] public section

set_option maxRecDepth 16384

noncomputable section

namespace Cert.SwaBias

open Cert.SwaRefIdeal Cert.SwaRefIdeal.Read Idealize.ShloMosaic Idealize.ShloMosaic.Pointwise

/-- The reference's power is the slope. -/
theorem power (h : Fin 32) :
    Ideal.pow (Ideal.ofBits .f32 0x40000000#32) (Ideal.div (Ideal.ofBits .f32 0xC1000000#32 * (Ideal.ofBits .f32 0x3F800000#32 + ((((BitVec.ofNat 32 h.val).toInt : ℤ) : ℝ) : EReal))) (Ideal.ofBits .f32 0x42000000#32))
      = SwaSlope.slope h.val := by
  have h1 : (BitVec.ofNat 32 h.val).toInt = (h.val : ℤ) := (by decide : ∀ h : Fin 32, (BitVec.ofNat 32 h.val).toInt = (h.val : ℤ)) h
  have e2 : Ideal.ofBits .f32 0x40000000#32 = ((2 : ℝ) : EReal) := by simp [Ideal.ofBits, Ideal.ieee, -EReal.coe_mul]; norm_num
  have e8 : Ideal.ofBits .f32 0xC1000000#32 = ((-8 : ℝ) : EReal) := by simp [Ideal.ofBits, Ideal.ieee, -EReal.coe_mul]; norm_num
  have e1 : Ideal.ofBits .f32 0x3F800000#32 = ((1 : ℝ) : EReal) := by simp [Ideal.ofBits, Ideal.ieee, -EReal.coe_mul]; norm_num
  have e32 : Ideal.ofBits .f32 0x42000000#32 = ((32 : ℝ) : EReal) := by simp [Ideal.ofBits, Ideal.ieee, -EReal.coe_mul]; norm_num
  rw [h1, e2, e8, e1, e32, Ideal.div_coe (by norm_num), ← EReal.coe_add, ← EReal.coe_mul, ← EReal.coe_mul, Ideal.pow_coe_coe, SwaSlope.slope]
  congr 2
  push_cast
  ring

/-- The distance between a query and a key, as the words compute it. -/
theorem distance : ∀ (r : Fin 128) (j : Fin 256), (IntOp.subi (IntOp.addi (BitVec.ofNat 32 r.val) 128#32) (BitVec.ofNat 32 j.val)).toInt = (r.val : ℤ) + 128 - j.val := by
  decide +kernel

/-- The bias is minus the slope times the distance. -/
theorem bias_apply (g : Fin 4) (u : Fin 8) (r : Fin 128) (j : Fin 256) (b : Fin 2) (n : Fin 32) :
    val_main_v64 (F := Ideal) (ix6 b n g u r j) = -(SwaSlope.slope (8 * g.val + u.val)) * ((((r.val : ℤ) + 128 - j.val : ℤ) : ℝ) : EReal) := by
  pointwise [val_main_v64, val_main_v63, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v25, val_main_v24, val_main_v23, val_main_v22, val_main_v21, val_main_v20,
    val_main_v19, val_main_v18, val_main_v17, val_main_c_1, val_main_cst_6, val_main_cst_7, val_main_cst_8, val_main_cst_9]
  have hp := power ⟨8 * g.val + u.val, by omega⟩
  have hg : g.val * 8 + u.val = 8 * g.val + u.val := by omega
  have hd := distance r j
  have h1 : Ideal.ofBits .f32 0x3F800000#32 = 1 := by
    rw [show Ideal.ofBits .f32 0x3F800000#32 = ((1 : ℝ) : EReal) by simp [Ideal.ofBits, Ideal.ieee, -EReal.coe_mul]; norm_num]
    rfl
  rw [hg]
  rw [h1] at hp
  show -Ideal.pow (Ideal.ofBits .f32 0x40000000#32) (Ideal.div (Ideal.ofBits .f32 0xC1000000#32 * (1 + ((((BitVec.ofNat 32 (8 * g.val + u.val)).toInt : ℤ) : ℝ) : EReal))) (Ideal.ofBits .f32 0x42000000#32))
    * ((((IntOp.subi (IntOp.addi (BitVec.ofNat 32 r.val) 128#32) (BitVec.ofNat 32 j.val)).toInt : ℤ) : ℝ) : EReal) = _
  rw [hd]
  exact congrArg (fun z => -z * _) hp

/-- The mask's word. -/
def word (n : Fin 32) (r : Fin 128) (j : Fin 256) : BitVec 1 :=
  IntOp.andi (IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32))
    (IntOp.ori (IntOp.cmpi .sgt (BitVec.ofNat 32 n.val) 0#32) (IntOp.cmpi .sge (BitVec.ofNat 32 j.val) 128#32))

/-- The mask is the word. -/
theorem mask_apply (n : Fin 32) (r : Fin 128) (j : Fin 256) : val_main_v44 (F := Ideal) (ix3 n r j) = word n r j := by
  pointwise [val_main_v44, val_main_v43, val_main_v42, val_main_v41, val_main_v40,
    val_main_v39, val_main_v38, val_main_v37, val_main_v36, val_main_v35, val_main_v34, val_main_v33, val_main_v32, val_main_v31, val_main_v30, val_main_v29, val_main_v28, val_main_v27, val_main_v26,
    val_main_v25, val_main_v24, val_main_v23, val_main_v22, val_main_v21, val_main_v20,
    val_main_v19, val_main_v18, val_main_v17, val_main_c_1, val_main_c_2, val_main_c_3, val_main_c_4, val_main_c_5]
  rfl

/-- The word is 1 exactly in the band of the 128 keys up to the query, and after the first block's padding. -/
theorem word_eq (n : Fin 32) (r : Fin 128) (j : Fin 256) : word n r j = 1#1 ↔ (r.val < j.val ∧ j.val ≤ r.val + 128) ∧ (n.val ≠ 0 ∨ 128 ≤ j.val) := by
  have h1 : ∀ (r : Fin 128) (j : Fin 256), IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32) = 1#1 ↔ (r.val < j.val ∧ j.val ≤ r.val + 128) := by decide +kernel
  have h2 : ∀ n : Fin 32, IntOp.cmpi .sgt (BitVec.ofNat 32 n.val) 0#32 = 1#1 ↔ n.val ≠ 0 := by decide +kernel
  have h3 : ∀ j : Fin 256, IntOp.cmpi .sge (BitVec.ofNat 32 j.val) 128#32 = 1#1 ↔ 128 ≤ j.val := by decide +kernel
  rw [← h1, ← h2, ← h3]
  exact (by decide : ∀ a b c : BitVec 1, IntOp.andi a (IntOp.ori b c) = 1#1 ↔ a = 1#1 ∧ (b = 1#1 ∨ c = 1#1)) _ _ _

end Cert.SwaBias

end
-- ==== Proof.SwaBand.lean ====
/- The band of 256 keys and its fold into 128: a row of the reference's attention over the extended reals. -/
module

public import proofs.«01_k».proof.Proof.SwaHeadSpec
public import Mathlib.Algebra.BigOperators.Fin

@[expose] public section

noncomputable section

namespace Cert.SwaBand

open Idealize.ShloMosaic Cert.SwaHeadSpec

/-- The key of the previous block, of the 256. -/
def low (j : Fin 128) : Fin 256 := ⟨j.val, by omega⟩
/-- The key of the current block, of the 256. -/
def high (j : Fin 128) : Fin 256 := ⟨128 + j.val, by omega⟩

/-- A sum over the band is the sum over its two blocks. -/
theorem sum_band (f : Fin 256 → EReal) : ∑ k, f k = ∑ j, f (low j) + ∑ j, f (high j) :=
  Fin.sum_univ_add (a := 128) (b := 128) f

theorem fold_max {n : ℕ} (l : Fin n → EReal) (z : EReal) : Finset.univ.fold max ⊥ l ≤ z ↔ ∀ j, l j ≤ z := by
  rw [Finset.fold_max_le]
  exact ⟨fun h j => h.2 j (Finset.mem_univ j), fun h => ⟨bot_le, fun j _ => h j⟩⟩

/-- The largest over the band is the largest over the folded keys. -/
theorem fold_band (L : Fin 256 → EReal) (l : Fin 128 → EReal) (r : Fin 128)
    (hlow : ∀ j, L (low j) = if j ≤ r then ⊥ else l j) (hhigh : ∀ j, L (high j) = if j ≤ r then l j else ⊥) :
    Finset.univ.fold max ⊥ L = Finset.univ.fold max ⊥ l := by
  refine le_antisymm ((fold_max _ _).mpr fun k => ?_) ((fold_max _ _).mpr fun j => ?_)
  · have hl := (fold_max l _).mp le_rfl
    by_cases hk : k.val < 128
    · obtain ⟨j, rfl⟩ : ∃ j, k = low j := ⟨⟨k.val, hk⟩, rfl⟩
      rw [hlow]
      split
      · exact bot_le
      · exact hl _
    · obtain ⟨j, rfl⟩ : ∃ j, k = high j := ⟨⟨k.val - 128, by omega⟩, Fin.ext (by show k.val = 128 + (k.val - 128); omega)⟩
      rw [hhigh]
      split
      · exact hl _
      · exact bot_le
  · have hL := (fold_max L _).mp le_rfl
    by_cases h : j ≤ r
    · have := hL (high j)
      rwa [hhigh, if_pos h] at this
    · have := hL (low j)
      rwa [hlow, if_neg h] at this

/-- The largest of finitely many values under a real, the sink being a real, is a real. -/
theorem top_real (l : Fin 128 → EReal) (s : ℝ) (hl : ∀ j, l j ≠ ⊤) : ∃ M : ℝ, top l s = (M : EReal) := by
  have h1 : top l s ≠ ⊤ := by
    have : top l (s : EReal) < ⊤ := by
      rw [top, max_lt_iff]
      refine ⟨?_, EReal.coe_lt_top s⟩
      rw [Finset.fold_max_lt]
      exact ⟨bot_lt_top, fun j _ => lt_top_iff_ne_top.mpr (hl j)⟩
    exact this.ne
  have h2 : top l s ≠ ⊥ := by
    have : (⊥ : EReal) < top l (s : EReal) := lt_of_lt_of_le (EReal.bot_lt_coe s) (le_max_right _ _)
    exact this.ne'
  exact ⟨(top l s).toReal, (EReal.coe_toReal h1 h2).symm⟩

/-- The exponential of a value other than plus infinity less a real is a nonnegative real. -/
theorem exp_real (a : EReal) (M : ℝ) (ha : a ≠ ⊤) : ∃ w : ℝ, 0 ≤ w ∧ Ideal.exp (a - M) = (w : EReal) := by
  induction a using EReal.rec with
  | bot => exact ⟨0, le_rfl, by rw [EReal.bot_sub]; rfl⟩
  | coe a => exact ⟨Real.exp (a - M), (Real.exp_pos _).le, by rw [← EReal.coe_sub]; rfl⟩
  | top => exact absurd rfl ha

/-- A finite sum of extended reals times a nonnegative real. -/
theorem sum_mul {n : ℕ} (f : Fin n → EReal) (c : ℝ) (hc : 0 ≤ c) : (∑ j, f j) * (c : EReal) = ∑ j, f j * (c : EReal) := by
  have key : ∀ S : Finset (Fin n), (∑ j ∈ S, f j) * (c : EReal) = ∑ j ∈ S, f j * (c : EReal) := by
    intro S
    induction S using Finset.induction_on with
    | empty => simp
    | insert a S ha ih =>
      rw [Finset.sum_insert ha, Finset.sum_insert ha, EReal.right_distrib_of_nonneg_of_ne_top (by exact_mod_cast hc) (EReal.coe_ne_top c), ih]
  exact key _

theorem sum_real {n : ℕ} (f : Fin n → EReal) (h : ∀ j, ∃ w : ℝ, 0 ≤ w ∧ f j = (w : EReal)) : ∃ w : ℝ, 0 ≤ w ∧ ∑ j, f j = (w : EReal) := by
  choose w hw hf using h
  refine ⟨∑ j, w j, Finset.sum_nonneg fun j _ => hw j, ?_⟩
  rw [Finset.sum_congr rfl fun j _ => hf j]
  have key : ∀ S : Finset (Fin n), ∑ j ∈ S, (w j : EReal) = ((∑ j ∈ S, w j : ℝ) : EReal) := by
    intro S
    induction S using Finset.induction_on with
    | empty => simp
    | insert a S ha ih => rw [Finset.sum_insert ha, Finset.sum_insert ha, ih, EReal.coe_add]
  exact key _

/-- A row of the reference: the 256 keys of the band, `L` their masked logits and `V` their values, is the folded row.
    The logits are below plus infinity and the sink is a real; a previous block's value is read only when its logit is
    above minus infinity. -/
theorem row_eq (L V : Fin 256 → EReal) (b : ℕ) (slope : EReal) (s : ℝ) (sc sp vc vp : Fin 128 → EReal) (r : Fin 128)
    (hl : ∀ j, logit b slope sc sp r j ≠ ⊤)
    (hlow : ∀ j, L (low j) = if j ≤ r then ⊥ else logit b slope sc sp r j)
    (hhigh : ∀ j, L (high j) = if j ≤ r then logit b slope sc sp r j else ⊥)
    (hvc : ∀ j, V (high j) = vc j) (hvp : ∀ j, V (low j) = vp j ∨ logit b slope sc sp r j = ⊥ ∨ j ≤ r) :
    ∑ k, V k * Ideal.div (Ideal.exp (L k - max (Finset.univ.fold max ⊥ L) s))
        (∑ k, Ideal.exp (L k - max (Finset.univ.fold max ⊥ L) s) + Ideal.exp (s - max (Finset.univ.fold max ⊥ L) s))
      = row b slope s sc sp vc vp r := by
  unfold row
  rw [fold_band L (logit b slope sc sp r) r hlow hhigh]
  generalize logit b slope sc sp r = l at *
  have htop : max (Finset.univ.fold max ⊥ l) (s : EReal) = top l s := rfl
  obtain ⟨M, hM⟩ := top_real l s hl
  rw [htop, hM]
  have hbot : Ideal.exp (⊥ - (M : EReal)) = 0 := by rw [EReal.bot_sub]; rfl
  have hw : ∀ j, weight l s j = Ideal.exp (l j - M) := fun j => by rw [weight, hM]
  have hpl : ∀ j, Ideal.exp (L (low j) - M) = if j ≤ r then 0 else weight l s j := fun j => by
    rw [hlow, hw]
    split
    · exact hbot
    · rfl
  have hph : ∀ j, Ideal.exp (L (high j) - M) = if j ≤ r then weight l s j else 0 := fun j => by
    rw [hhigh, hw]
    split
    · rfl
    · exact hbot
  have hsum : ∑ k, Ideal.exp (L k - M) = ∑ j, weight l s j := by
    rw [sum_band, ← Finset.sum_add_distrib]
    refine Finset.sum_congr rfl fun j _ => ?_
    rw [hpl, hph]
    split <;> simp
  obtain ⟨W, hW0, hW⟩ := sum_real (weight l s) fun j => by rw [hw]; exact exp_real _ _ (hl j)
  have hE : Ideal.exp ((s : EReal) - M) = ((Real.exp (s - M) : ℝ) : EReal) := by rw [← EReal.coe_sub]; rfl
  have hN : 0 < W + Real.exp (s - M) := add_pos_of_nonneg_of_pos hW0 (Real.exp_pos _)
  have hrec : recip l s = ((1 / (W + Real.exp (s - M)) : ℝ) : EReal) := by
    rw [recip, hM, hW, hE, ← EReal.coe_add, Ideal.div_coe hN.ne', one_mul]
  have hr0 : (0 : ℝ) ≤ 1 / (W + Real.exp (s - M)) := by positivity
  rw [hsum, hW, hE, ← EReal.coe_add, hrec]
  simp only [Ideal.div_coe hN.ne', ← mul_assoc]
  rw [← sum_mul _ _ hr0, sum_band, add_comm]
  congr 2
  · refine Finset.sum_congr rfl fun j _ => ?_
    rw [hvc, hph]
  · refine Finset.sum_congr rfl fun j _ => ?_
    rw [hpl]
    rcases hvp j with h | h | h
    · rw [h]
    · rw [hw, h, hbot]
      simp
    · rw [if_pos h, mul_zero, mul_zero]

end Cert.SwaBand

end
-- ==== Proof.SwaBlock.lean ====
/- The block of the banded attention that one grid point leaves: the sixteen stored tiles are one function of the
   point's blocks. -/
module

public import proofs.«01_k».proof.Proof.SwaPair
public import proofs.«01_k».proof.Proof.SwaSlope
public import proofs.«01_k».proof.Proof.Gen.SwaIdeal.Value
public import Idealize.ShloMosaic.Lib.Pipeline.ReadBack

@[expose] public section

set_option maxRecDepth 16384

noncomputable section

namespace Cert.SwaBlock

open Cert.SwaIdeal Cert.SwaIdeal.Gen Cert.SwaHead Cert.SwaPair Idealize.ShloMosaic Idealize.ShloMosaic.Pointwise

/-- The score scale of the kernel, one eighth. -/
def eighth : EReal := Ideal.ofBits .f32 0x3E000000#32

/-- Head `h` of query row `r` in value coordinate `d`, of the blocks one grid point holds. -/
def head (b : ℕ) (x0 : Vec Ideal S1x32 .f32) (x1 : Vec Ideal S1x128x2048 .f32) (x2 x3 x4 x5 : Vec Ideal S1x128x256 .f32)
    (r : Fin 128) (h : Fin 32) (d : Fin 64) : EReal :=
  SwaHeadSpec.row b (SwaSlope.slope h) (x0 (ix2 0 h))
    (fun j => ∑ e : Fin 64, x3 (ix3 0 j (⟨64 * (h.val / 8) + e.val, by omega⟩ : Fin 256)) * (x1 (ix3 0 r (⟨64 * h.val + e.val, by omega⟩ : Fin 2048)) * eighth))
    (fun j => ∑ e : Fin 64, x2 (ix3 0 j (⟨64 * (h.val / 8) + e.val, by omega⟩ : Fin 256)) * (x1 (ix3 0 r (⟨64 * h.val + e.val, by omega⟩ : Fin 2048)) * eighth))
    (fun j => x5 (ix3 0 j (⟨64 * (h.val / 8) + d.val, by omega⟩ : Fin 256)))
    (fun j => x4 (ix3 0 j (⟨64 * (h.val / 8) + d.val, by omega⟩ : Fin 256))) r

/-- The whole block: lane `c` is coordinate `c % 64` of head `c / 64`. -/
def block (b : ℕ) (x0 : Vec Ideal S1x32 .f32) (x1 : Vec Ideal S1x128x2048 .f32) (x2 x3 x4 x5 : Vec Ideal S1x128x256 .f32)
    (y : S1x128x2048.Idx) : EReal :=
  head b x0 x1 x2 x3 x4 x5 (y 1) (⟨(y 2).val / 64, Nat.div_lt_of_lt_mul (y 2).isLt⟩ : Fin 32)
    (⟨(y 2).val % 64, Nat.mod_lt _ (by decide)⟩ : Fin 64)

/-! ## The tiles of the blocks -/

theorem tile256_apply (x : Vec Ideal S1x128x256 .f32) (k : ℕ) (h) (hk : k ≤ 128) (j l : Fin 128) :
    tile256 x k h (ix3 0 j l) = x (ix3 0 j (⟨k + l.val, by omega⟩ : Fin 256)) := by
  pointwise [tile256]

theorem tile2048_apply (x : Vec Ideal S1x128x2048 .f32) (k : ℕ) (h) (hk : k ≤ 1920) (j l : Fin 128) :
    tile2048 x k h (ix3 0 j l) = x (ix3 0 j (⟨k + l.val, by omega⟩ : Fin 2048)) := by
  pointwise [tile2048]

theorem sink_apply (x : Vec Ideal S1x32 .f32) (k : ℕ) (h) (hk : k < 32) :
    sink (F := Ideal) x k h = x (ix2 0 (⟨k, hk⟩ : Fin 32)) := by
  refine congrArg x (funext fun a => ?_)
  fin_cases a
  · rfl
  · exact Fin.ext (by simp [Rect.emb, Shape.Idx.first])

/-- An index of a tile is a row and a lane. -/
theorem exists_row_lane (x : S1x128x128.Idx) : ∃ r c : Fin 128, x = ix3 0 r c :=
  ⟨x 1, x 2, (eq_ix3 (n0 := 1) (n1 := 128) (n2 := 128) x).trans
    (congrArg (fun a : Fin 1 => ix3 (n0 := 1) (n1 := 128) (n2 := 128) a (x 1) (x 2)) (Subsingleton.elim (α := Fin 1) _ _))⟩

/-! ## One stored tile -/

/-- The tile of the heads `2 n` and `2 n + 1`, at an index. -/
theorem tile_at (i : grid0.Coords) (x0 : Vec Ideal S1x32 .f32) (x1 : Vec Ideal S1x128x2048 .f32) (x2 x3 x4 x5 : Vec Ideal S1x128x256 .f32)
    (n P R o col : ℕ) (hn : n < 16) (hP : P ≤ 128) (hR : R ≤ 64) (ho : o = 128 * n) (hcol : col ≤ 128) (hcR : col + R = 64 * (n / 4))
    (h0 : S256x256.Slices ![0, P] S128x128) (h1 : S256x256.Slices ![128, P] S128x128) (hv : S128x256.Slices ![R, 0] S64x256)
    (c0 c1 s0 s1 : EReal) (hc0 : c0 = SwaSlope.slope (2 * n)) (hc1 : c1 = SwaSlope.slope (2 * n + 1))
    (hs0 : s0 = x0 (ix2 0 (⟨2 * n, by omega⟩ : Fin 32))) (hs1 : s1 = x0 (ix2 0 (⟨2 * n + 1, by omega⟩ : Fin 32)))
    (K : Vec Ideal S1x128x128 .f32 → FVec Ideal S256x128 .bf16)
    (hK0 : ∀ (t : Vec Ideal S1x128x128 .f32) (f : Fin 128 → EReal) (j : Fin 128) (hj : 0 + j.val < 256),
      ∑ l : Fin 128, K t (ix2 (⟨0 + j.val, hj⟩ : Fin 256) l) * f l
        = ∑ d : Fin 64, t (ix3 0 j (⟨R + d.val, by omega⟩ : Fin 128)) * f ⟨d.val, by omega⟩)
    (hK1 : ∀ (t : Vec Ideal S1x128x128 .f32) (f : Fin 128 → EReal) (j : Fin 128) (hj : 128 + j.val < 256),
      ∑ l : Fin 128, K t (ix2 (⟨128 + j.val, hj⟩ : Fin 256) l) * f l
        = ∑ d : Fin 64, t (ix3 0 j (⟨R + d.val, by omega⟩ : Fin 128)) * f ⟨64 + d.val, by omega⟩)
    (Q : FVec Ideal S256x128 .bf16)
    (hQ : ∀ (r l : Fin 128) (h : P + r.val < 256), Q (ix2 (⟨P + r.val, h⟩ : Fin 256) l) = x1 (ix3 0 r (⟨o + l.val, by omega⟩ : Fin 2048)) * eighth)
    (hx : ∀ a, (![0, 0, col] : Fin 3 → ℕ) a + S1x128x128.size a ≤ S1x128x256.size a)
    (ha : ∀ a, (![0, 0, o] : Fin 3 → ℕ) a + S1x128x128.size a ≤ S1x128x2048.size a)
    (x : (Rect.unit (s := S1x128x2048) ![0, 0, o] S1x128x128.size ha).shape.Idx) :
    pair (F := Ideal) i ![0, P] ![128, P] h0 h1 ![R, 0] hv c0 c1 s0 s1 (K (tile256 x3 col hx)) (K (tile256 x2 col hx)) Q
        (values (tile256 x5 col hx) (tile256 x4 col hx)) x
      = block (i 1).val x0 x1 x2 x3 x4 x5 ((Rect.unit (s := S1x128x2048) ![0, 0, o] S1x128x128.size ha).emb x) := by
  obtain ⟨r, c, rfl⟩ := exists_row_lane x
  have e1 : ((Rect.unit (s := S1x128x2048) ![0, 0, o] S1x128x128.size ha).emb (ix3 0 r c) 1 : Fin 128) = r :=
    Fin.ext (show 0 + 1 * r.val = r.val by omega)
  have e2 : ((Rect.unit (s := S1x128x2048) ![0, 0, o] S1x128x128.size ha).emb (ix3 0 r c) 2).val = o + c.val :=
    show o + 1 * c.val = o + c.val by omega
  have hb := c.isLt
  unfold block
  by_cases hc : c.val < 64
  · obtain ⟨d, hd⟩ : ∃ d : Fin 64, d.val = c.val := ⟨⟨c.val, hc⟩, rfl⟩
    obtain ⟨cv, hcv⟩ := c
    dsimp only at hd e2
    subst hd
    have e3 : ((Rect.unit (s := S1x128x2048) ![0, 0, o] S1x128x128.size ha).emb (ix3 0 r (⟨d.val, by omega⟩ : Fin 128)) 2).val / 64 = 2 * n := by
      rw [e2]; show (o + d.val) / 64 = _; omega
    have e4 : ((Rect.unit (s := S1x128x2048) ![0, 0, o] S1x128x128.size ha).emb (ix3 0 r (⟨d.val, by omega⟩ : Fin 128)) 2).val % 64 = d.val := by
      rw [e2]; show (o + d.val) % 64 = _; omega
    refine (pair_first i P R hP hR h0 h1 hv c0 c1 s0 s1 _ _ _ _ r d).trans ?_
    refine Eq.trans ?_ (congr (congr (congrArg (head (i 1).val x0 x1 x2 x3 x4 x5) e1.symm)
      (Fin.ext e3.symm : (⟨2 * n, by omega⟩ : Fin 32) = _)) (Fin.ext e4.symm : d = _))
    unfold head
    simp only [hK0, hQ, values_first, values_second, tile256_apply _ _ _ hcol]
    rw [hc0, hs0]
    congr 1
    · funext j
      refine Finset.sum_congr rfl fun e _ => ?_
      exact congrArg₂ (· * ·) (congrArg x3 (congrArg (ix3 0 j) (Fin.ext (by dsimp only; omega))))
        (congrArg (· * eighth) (congrArg x1 (congrArg (ix3 0 r) (Fin.ext (by dsimp only; omega)))))
    · funext j
      refine Finset.sum_congr rfl fun e _ => ?_
      exact congrArg₂ (· * ·) (congrArg x2 (congrArg (ix3 0 j) (Fin.ext (by dsimp only; omega))))
        (congrArg (· * eighth) (congrArg x1 (congrArg (ix3 0 r) (Fin.ext (by dsimp only; omega)))))
    · funext j
      congr 2
      apply Fin.ext; dsimp only; omega
    · funext j
      congr 2
      apply Fin.ext; dsimp only; omega
  · obtain ⟨d, hd⟩ : ∃ d : Fin 64, 64 + d.val = c.val := ⟨⟨c.val - 64, by omega⟩, by show 64 + (c.val - 64) = c.val; omega⟩
    obtain ⟨cv, hcv⟩ := c
    dsimp only at hd e2
    subst hd
    have e3 : ((Rect.unit (s := S1x128x2048) ![0, 0, o] S1x128x128.size ha).emb (ix3 0 r (⟨64 + d.val, by omega⟩ : Fin 128)) 2).val / 64 = 2 * n + 1 := by
      rw [e2]; show (o + (64 + d.val)) / 64 = _; omega
    have e4 : ((Rect.unit (s := S1x128x2048) ![0, 0, o] S1x128x128.size ha).emb (ix3 0 r (⟨64 + d.val, by omega⟩ : Fin 128)) 2).val % 64 = d.val := by
      rw [e2]; show (o + (64 + d.val)) % 64 = _; omega
    refine (pair_second i P R hP hR h0 h1 hv c0 c1 s0 s1 _ _ _ _ r d).trans ?_
    refine Eq.trans ?_ (congr (congr (congrArg (head (i 1).val x0 x1 x2 x3 x4 x5) e1.symm)
      (Fin.ext e3.symm : (⟨2 * n + 1, by omega⟩ : Fin 32) = _)) (Fin.ext e4.symm : d = _))
    unfold head
    simp only [hK1, hQ, values_first, values_second, tile256_apply _ _ _ hcol]
    rw [hc1, hs1]
    congr 1
    · funext j
      refine Finset.sum_congr rfl fun e _ => ?_
      exact congrArg₂ (· * ·) (congrArg x3 (congrArg (ix3 0 j) (Fin.ext (by dsimp only; omega))))
        (congrArg (· * eighth) (congrArg x1 (congrArg (ix3 0 r) (Fin.ext (by dsimp only; omega)))))
    · funext j
      refine Finset.sum_congr rfl fun e _ => ?_
      exact congrArg₂ (· * ·) (congrArg x2 (congrArg (ix3 0 j) (Fin.ext (by dsimp only; omega))))
        (congrArg (· * eighth) (congrArg x1 (congrArg (ix3 0 r) (Fin.ext (by dsimp only; omega)))))
    · funext j
      congr 2
      apply Fin.ext; dsimp only; omega
    · funext j
      congr 2
      apply Fin.ext; dsimp only; omega

theorem queries_at_first (x1 : Vec Ideal S1x128x2048 .f32) (o o' : ℕ) (h h') (ho : o ≤ 1920) (r l : Fin 128) (hr : 0 + r.val < 256) :
    queries (tile2048 x1 o h) (tile2048 x1 o' h') (ix2 (⟨0 + r.val, hr⟩ : Fin 256) l) = x1 (ix3 0 r (⟨o + l.val, by omega⟩ : Fin 2048)) * eighth := by
  rw [queries_first, tile2048_apply _ _ _ ho]
  rfl

theorem queries_at_second (x1 : Vec Ideal S1x128x2048 .f32) (o o' : ℕ) (h h') (ho' : o' ≤ 1920) (r l : Fin 128) (hr : 128 + r.val < 256) :
    queries (tile2048 x1 o h) (tile2048 x1 o' h') (ix2 (⟨128 + r.val, hr⟩ : Fin 256) l) = x1 (ix3 0 r (⟨o' + l.val, by omega⟩ : Fin 2048)) * eighth := by
  rw [queries_second, tile2048_apply _ _ _ ho']
  rfl

theorem piecesOf_cons {s : Shape} {e : EltTy} (G : s.Idx → Elt Ideal e) (p : View.Piece (Elt Ideal) s e) (L : List (View.Piece (Elt Ideal) s e))
    (h : ∀ x, p.2 x = G (p.1.emb x)) (h' : View.PiecesOf G L) : View.PiecesOf G (p :: L) := ⟨h, h'⟩

/-- The stored tiles are blocks of `block`. -/
theorem pieces_of (i : grid0.Coords) (x0 : Vec Ideal S1x32 .f32) (x1 : Vec Ideal S1x128x2048 .f32) (x2 x3 x4 x5 : Vec Ideal S1x128x256 .f32) :
    View.PiecesOf (Val := Elt Ideal) (s := S1x128x2048) (e := .bf16) (block (i 1).val x0 x1 x2 x3 x4 x5) (pieces (F := Ideal) i x0 x1 x2 x3 x4 x5) := by
  unfold pieces
  refine piecesOf_cons _ _ _ (tile_at i x0 x1 x2 x3 x4 x5 15 128 64 1920 128 (by decide) (by decide) (by decide) rfl (by decide) rfl _ _ _ _ _ _ _ SwaSlope.slope_31 SwaSlope.slope_32
      (sink_apply _ _ _ (by decide)) (sink_apply _ _ _ (by decide)) keysHigh keysHigh_first keysHigh_second _ (queries_at_second x1 1792 1920 inb_S1x128x2048_S1x128x128_0_0_1792 inb_S1x128x2048_S1x128x128_0_0_1920 (by decide))
      inb_S1x128x256_S1x128x128_0_0_128 inb_S1x128x2048_S1x128x128_0_0_1920) ?_
  refine piecesOf_cons _ _ _ (tile_at i x0 x1 x2 x3 x4 x5 14 0 64 1792 128 (by decide) (by decide) (by decide) rfl (by decide) rfl _ _ _ _ _ _ _ SwaSlope.slope_29 SwaSlope.slope_30
      (sink_apply _ _ _ (by decide)) (sink_apply _ _ _ (by decide)) keysHigh keysHigh_first keysHigh_second _ (queries_at_first x1 1792 1920 inb_S1x128x2048_S1x128x128_0_0_1792 inb_S1x128x2048_S1x128x128_0_0_1920 (by decide))
      inb_S1x128x256_S1x128x128_0_0_128 inb_S1x128x2048_S1x128x128_0_0_1792) ?_
  refine piecesOf_cons _ _ _ (tile_at i x0 x1 x2 x3 x4 x5 13 128 64 1664 128 (by decide) (by decide) (by decide) rfl (by decide) rfl _ _ _ _ _ _ _ SwaSlope.slope_27 SwaSlope.slope_28
      (sink_apply _ _ _ (by decide)) (sink_apply _ _ _ (by decide)) keysHigh keysHigh_first keysHigh_second _ (queries_at_second x1 1536 1664 inb_S1x128x2048_S1x128x128_0_0_1536 inb_S1x128x2048_S1x128x128_0_0_1664 (by decide))
      inb_S1x128x256_S1x128x128_0_0_128 inb_S1x128x2048_S1x128x128_0_0_1664) ?_
  refine piecesOf_cons _ _ _ (tile_at i x0 x1 x2 x3 x4 x5 12 0 64 1536 128 (by decide) (by decide) (by decide) rfl (by decide) rfl _ _ _ _ _ _ _ SwaSlope.slope_25 SwaSlope.slope_26
      (sink_apply _ _ _ (by decide)) (sink_apply _ _ _ (by decide)) keysHigh keysHigh_first keysHigh_second _ (queries_at_first x1 1536 1664 inb_S1x128x2048_S1x128x128_0_0_1536 inb_S1x128x2048_S1x128x128_0_0_1664 (by decide))
      inb_S1x128x256_S1x128x128_0_0_128 inb_S1x128x2048_S1x128x128_0_0_1536) ?_
  refine piecesOf_cons _ _ _ (tile_at i x0 x1 x2 x3 x4 x5 11 128 0 1408 128 (by decide) (by decide) (by decide) rfl (by decide) rfl _ _ _ _ _ _ _ SwaSlope.slope_23 SwaSlope.slope_24
      (sink_apply _ _ _ (by decide)) (sink_apply _ _ _ (by decide)) keysLow keysLow_first keysLow_second _ (queries_at_second x1 1280 1408 inb_S1x128x2048_S1x128x128_0_0_1280 inb_S1x128x2048_S1x128x128_0_0_1408 (by decide))
      inb_S1x128x256_S1x128x128_0_0_128 inb_S1x128x2048_S1x128x128_0_0_1408) ?_
  refine piecesOf_cons _ _ _ (tile_at i x0 x1 x2 x3 x4 x5 10 0 0 1280 128 (by decide) (by decide) (by decide) rfl (by decide) rfl _ _ _ _ _ _ _ SwaSlope.slope_21 SwaSlope.slope_22
      (sink_apply _ _ _ (by decide)) (sink_apply _ _ _ (by decide)) keysLow keysLow_first keysLow_second _ (queries_at_first x1 1280 1408 inb_S1x128x2048_S1x128x128_0_0_1280 inb_S1x128x2048_S1x128x128_0_0_1408 (by decide))
      inb_S1x128x256_S1x128x128_0_0_128 inb_S1x128x2048_S1x128x128_0_0_1280) ?_
  refine piecesOf_cons _ _ _ (tile_at i x0 x1 x2 x3 x4 x5 9 128 0 1152 128 (by decide) (by decide) (by decide) rfl (by decide) rfl _ _ _ _ _ _ _ SwaSlope.slope_19 SwaSlope.slope_20
      (sink_apply _ _ _ (by decide)) (sink_apply _ _ _ (by decide)) keysLow keysLow_first keysLow_second _ (queries_at_second x1 1024 1152 inb_S1x128x2048_S1x128x128_0_0_1024 inb_S1x128x2048_S1x128x128_0_0_1152 (by decide))
      inb_S1x128x256_S1x128x128_0_0_128 inb_S1x128x2048_S1x128x128_0_0_1152) ?_
  refine piecesOf_cons _ _ _ (tile_at i x0 x1 x2 x3 x4 x5 8 0 0 1024 128 (by decide) (by decide) (by decide) rfl (by decide) rfl _ _ _ _ _ _ _ SwaSlope.slope_17 SwaSlope.slope_18
      (sink_apply _ _ _ (by decide)) (sink_apply _ _ _ (by decide)) keysLow keysLow_first keysLow_second _ (queries_at_first x1 1024 1152 inb_S1x128x2048_S1x128x128_0_0_1024 inb_S1x128x2048_S1x128x128_0_0_1152 (by decide))
      inb_S1x128x256_S1x128x128_0_0_128 inb_S1x128x2048_S1x128x128_0_0_1024) ?_
  refine piecesOf_cons _ _ _ (tile_at i x0 x1 x2 x3 x4 x5 7 128 64 896 0 (by decide) (by decide) (by decide) rfl (by decide) rfl _ _ _ _ _ _ _ SwaSlope.slope_15 SwaSlope.slope_16
      (sink_apply _ _ _ (by decide)) (sink_apply _ _ _ (by decide)) keysHigh keysHigh_first keysHigh_second _ (queries_at_second x1 768 896 inb_S1x128x2048_S1x128x128_0_0_768 inb_S1x128x2048_S1x128x128_0_0_896 (by decide))
      inb_S1x128x256_S1x128x128_0_0_0 inb_S1x128x2048_S1x128x128_0_0_896) ?_
  refine piecesOf_cons _ _ _ (tile_at i x0 x1 x2 x3 x4 x5 6 0 64 768 0 (by decide) (by decide) (by decide) rfl (by decide) rfl _ _ _ _ _ _ _ SwaSlope.slope_13 SwaSlope.slope_14
      (sink_apply _ _ _ (by decide)) (sink_apply _ _ _ (by decide)) keysHigh keysHigh_first keysHigh_second _ (queries_at_first x1 768 896 inb_S1x128x2048_S1x128x128_0_0_768 inb_S1x128x2048_S1x128x128_0_0_896 (by decide))
      inb_S1x128x256_S1x128x128_0_0_0 inb_S1x128x2048_S1x128x128_0_0_768) ?_
  refine piecesOf_cons _ _ _ (tile_at i x0 x1 x2 x3 x4 x5 5 128 64 640 0 (by decide) (by decide) (by decide) rfl (by decide) rfl _ _ _ _ _ _ _ SwaSlope.slope_11 SwaSlope.slope_12
      (sink_apply _ _ _ (by decide)) (sink_apply _ _ _ (by decide)) keysHigh keysHigh_first keysHigh_second _ (queries_at_second x1 512 640 inb_S1x128x2048_S1x128x128_0_0_512 inb_S1x128x2048_S1x128x128_0_0_640 (by decide))
      inb_S1x128x256_S1x128x128_0_0_0 inb_S1x128x2048_S1x128x128_0_0_640) ?_
  refine piecesOf_cons _ _ _ (tile_at i x0 x1 x2 x3 x4 x5 4 0 64 512 0 (by decide) (by decide) (by decide) rfl (by decide) rfl _ _ _ _ _ _ _ SwaSlope.slope_9 SwaSlope.slope_10
      (sink_apply _ _ _ (by decide)) (sink_apply _ _ _ (by decide)) keysHigh keysHigh_first keysHigh_second _ (queries_at_first x1 512 640 inb_S1x128x2048_S1x128x128_0_0_512 inb_S1x128x2048_S1x128x128_0_0_640 (by decide))
      inb_S1x128x256_S1x128x128_0_0_0 inb_S1x128x2048_S1x128x128_0_0_512) ?_
  refine piecesOf_cons _ _ _ (tile_at i x0 x1 x2 x3 x4 x5 3 128 0 384 0 (by decide) (by decide) (by decide) rfl (by decide) rfl _ _ _ _ _ _ _ SwaSlope.slope_7 SwaSlope.slope_8
      (sink_apply _ _ _ (by decide)) (sink_apply _ _ _ (by decide)) keysLow keysLow_first keysLow_second _ (queries_at_second x1 256 384 inb_S1x128x2048_S1x128x128_0_0_256 inb_S1x128x2048_S1x128x128_0_0_384 (by decide))
      inb_S1x128x256_S1x128x128_0_0_0 inb_S1x128x2048_S1x128x128_0_0_384) ?_
  refine piecesOf_cons _ _ _ (tile_at i x0 x1 x2 x3 x4 x5 2 0 0 256 0 (by decide) (by decide) (by decide) rfl (by decide) rfl _ _ _ _ _ _ _ SwaSlope.slope_5 SwaSlope.slope_6
      (sink_apply _ _ _ (by decide)) (sink_apply _ _ _ (by decide)) keysLow keysLow_first keysLow_second _ (queries_at_first x1 256 384 inb_S1x128x2048_S1x128x128_0_0_256 inb_S1x128x2048_S1x128x128_0_0_384 (by decide))
      inb_S1x128x256_S1x128x128_0_0_0 inb_S1x128x2048_S1x128x128_0_0_256) ?_
  refine piecesOf_cons _ _ _ (tile_at i x0 x1 x2 x3 x4 x5 1 128 0 128 0 (by decide) (by decide) (by decide) rfl (by decide) rfl _ _ _ _ _ _ _ SwaSlope.slope_3 SwaSlope.slope_4
      (sink_apply _ _ _ (by decide)) (sink_apply _ _ _ (by decide)) keysLow keysLow_first keysLow_second _ (queries_at_second x1 0 128 inb_S1x128x2048_S1x128x128_0_0_0 inb_S1x128x2048_S1x128x128_0_0_128 (by decide))
      inb_S1x128x256_S1x128x128_0_0_0 inb_S1x128x2048_S1x128x128_0_0_128) ?_
  refine piecesOf_cons _ _ _ (tile_at i x0 x1 x2 x3 x4 x5 0 0 0 0 0 (by decide) (by decide) (by decide) rfl (by decide) rfl _ _ _ _ _ _ _ SwaSlope.slope_1 SwaSlope.slope_2
      (sink_apply _ _ _ (by decide)) (sink_apply _ _ _ (by decide)) keysLow keysLow_first keysLow_second _ (queries_at_first x1 0 128 inb_S1x128x2048_S1x128x128_0_0_0 inb_S1x128x2048_S1x128x128_0_0_128 (by decide))
      inb_S1x128x256_S1x128x128_0_0_0 inb_S1x128x2048_S1x128x128_0_0_0) ?_
  exact trivial

/-- What a grid point leaves in the output's buffer. -/
theorem out_eq (c : Dev nD) (i : grid0.Coords) (arg2 : Memref sig .tc .smem S1x32 .f32) (harg2 : arg2.IsWhole) (arg3 : Memref sig .tc .vmem S1x128x2048 .f32) (harg3 : arg3.IsWhole)
    (arg4 : Memref sig .tc .vmem S1x128x256 .f32) (harg4 : arg4.IsWhole) (arg5 : Memref sig .tc .vmem S1x128x256 .f32) (harg5 : arg5.IsWhole)
    (arg6 : Memref sig .tc .vmem S1x128x256 .f32) (harg6 : arg6.IsWhole) (arg7 : Memref sig .tc .vmem S1x128x256 .f32) (harg7 : arg7.IsWhole)
    (arg8 : Memref sig .tc .vmem S1x128x2048 .bf16) (harg8 : arg8.IsWhole) (x0 : Vec Ideal S1x32 .f32) (x1 : Vec Ideal S1x128x2048 .f32) (x2 x3 x4 x5 : Vec Ideal S1x128x256 .f32) :
    out0_A_6 (F := Ideal) c i arg2 harg2 arg3 harg3 arg4 harg4 arg5 harg5 arg6 harg6 arg7 harg7 arg8 harg8 x0 x1 x2 x3 x4 x5
      = block (i 1).val x0 x1 x2 x3 x4 x5 := by
  have hcov := cover0_A_6 (F := Ideal) c i arg2 harg2 arg3 harg3 arg4 harg4 arg5 harg5 arg6 harg6 arg7 harg7 arg8 harg8 x0 x1 x2 x3 x4 x5
  unfold out0_A_6
  rw [View.read_writes_eq_canon _ _ _ hcov]
  funext y
  refine View.canon_apply_of_pieces _ _ ?_ y (hcov y)
  rw [run_eq]
  exact (pieces_of i x0 x1 x2 x3 x4 x5).mem

end Cert.SwaBlock

end
-- ==== Proof.SwaValue.lean ====
/- The array the banded attention leaves, as one function of the projected rows and the sinks. -/
module

public import proofs.«01_k».proof.Proof.SwaBlock
public import Idealize.ShloMosaic.Lib.Pipeline.Value
public import Idealize.ShloMosaic.Lib.Quiescent

@[expose] public section

set_option maxRecDepth 16384

noncomputable section

namespace Cert.SwaValue

open Cert.SwaIdeal Cert.SwaIdeal.Gen Cert.SwaBlock Idealize.ShloMosaic Idealize.ShloMosaic.TcCoe Idealize.ShloMosaic.Pointwise Idealize.SL.Sem
open Idealize.ShloMosaic.Pipeline (Dat)

variable (m : (ℓ : Loc nD τ sig) → Buf (Elt Ideal) ℓ) (ρ : Dev nD → PrngReg)

/-- The projected rows. -/
abbrev rest (c : Dev nD) : S2x4096x6784.Idx → EReal := m ((c : Thread nD τ).loc main_arg0)

/-- The sinks. -/
abbrev sinks (c : Dev nD) : S32.Idx → EReal := m ((c : Thread nD τ).loc main_arg1)

/-- Head `h` of query row `r` of block `n` of batch `b` in value coordinate `d`, of the whole arrays. -/
def attn (x : S2x4096x6784.Idx → EReal) (s : S32.Idx → EReal) (b : Fin 2) (n : Fin 32) (r : Fin 128) (h : Fin 32) (d : Fin 64) : EReal :=
  SwaHeadSpec.row n.val (SwaSlope.slope h) (s (ix1 h))
    (fun j => ∑ e : Fin 64, x (ix3 b (⟨128 * n.val + j.val, by omega⟩ : Fin 4096) (⟨2048 + (64 * (h.val / 8) + e.val), by omega⟩ : Fin 6784))
      * (x (ix3 b (⟨128 * n.val + r.val, by omega⟩ : Fin 4096) (⟨64 * h.val + e.val, by omega⟩ : Fin 6784)) * eighth))
    (fun j => ∑ e : Fin 64, x (ix3 b (⟨128 * (n.val - 1) + j.val, by omega⟩ : Fin 4096) (⟨2048 + (64 * (h.val / 8) + e.val), by omega⟩ : Fin 6784))
      * (x (ix3 b (⟨128 * n.val + r.val, by omega⟩ : Fin 4096) (⟨64 * h.val + e.val, by omega⟩ : Fin 6784)) * eighth))
    (fun j => x (ix3 b (⟨128 * n.val + j.val, by omega⟩ : Fin 4096) (⟨2304 + (64 * (h.val / 8) + d.val), by omega⟩ : Fin 6784)))
    (fun j => x (ix3 b (⟨128 * (n.val - 1) + j.val, by omega⟩ : Fin 4096) (⟨2304 + (64 * (h.val / 8) + d.val), by omega⟩ : Fin 6784))) r

/-- The whole result. -/
def result (x : S2x4096x6784.Idx → EReal) (s : S32.Idx → EReal) (y : S2x4096x2048.Idx) : EReal :=
  attn x s (y 0) (⟨(y 1).val / 128, Nat.div_lt_of_lt_mul (y 1).isLt⟩ : Fin 32) (⟨(y 1).val % 128, Nat.mod_lt _ (by decide)⟩ : Fin 128)
    (⟨(y 2).val / 64, Nat.div_lt_of_lt_mul (y 2).isLt⟩ : Fin 32) (⟨(y 2).val % 64, Nat.mod_lt _ (by decide)⟩ : Fin 64)

/-! ## The grid's blocks -/

/-- The batch of a grid point. -/
def pb (t : Fin cfg0.N) : Fin 2 := grid0.coords t 0
/-- The block of a grid point. -/
def pn (t : Fin cfg0.N) : Fin 32 := grid0.coords t 1

theorem index1 : ∀ t : Fin cfg0.N, win0_1.index t 0 = (pb t).val ∧ win0_1.index t 1 = (pn t).val ∧ win0_1.index t 2 = 0 := by decide +kernel
theorem index2 : ∀ t : Fin cfg0.N, win0_2.index t 0 = (pb t).val ∧ win0_2.index t 1 = (pn t).val - 1 ∧ win0_2.index t 2 = 8 := by decide +kernel
theorem index3 : ∀ t : Fin cfg0.N, win0_3.index t 0 = (pb t).val ∧ win0_3.index t 1 = (pn t).val ∧ win0_3.index t 2 = 8 := by decide +kernel
theorem index4 : ∀ t : Fin cfg0.N, win0_4.index t 0 = (pb t).val ∧ win0_4.index t 1 = (pn t).val - 1 ∧ win0_4.index t 2 = 9 := by decide +kernel
theorem index5 : ∀ t : Fin cfg0.N, win0_5.index t 0 = (pb t).val ∧ win0_5.index t 1 = (pn t).val ∧ win0_5.index t 2 = 9 := by decide +kernel
theorem index6 : ∀ t : Fin cfg0.N, win0_6.index t 0 = (pb t).val ∧ win0_6.index t 1 = (pn t).val ∧ win0_6.index t 2 = 0 := by decide +kernel
theorem index0 : ∀ t : Fin cfg0.N, win0_0.index t 0 = 0 ∧ win0_0.index t 1 = 0 := by decide +kernel
theorem point_of : ∀ (b : Fin 2) (n : Fin 32), ∃ t : Fin cfg0.N, pb t = b ∧ pn t = n := by decide +kernel

/-- The query block. -/
theorem X1_apply (c : Dev nD) (t : Fin cfg0.N) (r : Fin 128) (l : Fin 2048) :
    X0_1 m c t (ix3 0 r l) = rest m c (ix3 (pb t) (⟨128 * (pn t).val + r.val, by omega⟩ : Fin 4096) (⟨l.val, by omega⟩ : Fin 6784)) := by
  unfold X0_1 Pipeline.Window.fill
  rw [dif_pos (moved0_1 t _)]
  refine (congrFun (V_main_arg0 m c) _).trans (congrArg (rest m c) ?_)
  funext a
  refine Fin.ext ?_
  match a with
  | ⟨0, _⟩ => show win0_1.index t 0 * 1 + 1 * 0 = _; rw [(index1 t).1]; simp
  | ⟨1, _⟩ => show win0_1.index t 1 * 128 + 1 * r.val = _; rw [(index1 t).2.1]; simp; omega
  | ⟨2, _⟩ => show win0_1.index t 2 * 2048 + 1 * l.val = _; rw [(index1 t).2.2]; simp

/-- The previous key block. -/
theorem X2_apply (c : Dev nD) (t : Fin cfg0.N) (j : Fin 128) (l : Fin 256) :
    X0_2 m c t (ix3 0 j l) = rest m c (ix3 (pb t) (⟨128 * ((pn t).val - 1) + j.val, by omega⟩ : Fin 4096) (⟨2048 + l.val, by omega⟩ : Fin 6784)) := by
  unfold X0_2 Pipeline.Window.fill
  rw [dif_pos (moved0_2 t _)]
  refine (congrFun (V_main_arg0 m c) _).trans (congrArg (rest m c) ?_)
  funext a
  refine Fin.ext ?_
  match a with
  | ⟨0, _⟩ => show win0_2.index t 0 * 1 + 1 * 0 = _; rw [(index2 t).1]; simp
  | ⟨1, _⟩ => show win0_2.index t 1 * 128 + 1 * j.val = _; rw [(index2 t).2.1]; simp; omega
  | ⟨2, _⟩ => show win0_2.index t 2 * 256 + 1 * l.val = _; rw [(index2 t).2.2]; simp

/-- The key block. -/
theorem X3_apply (c : Dev nD) (t : Fin cfg0.N) (j : Fin 128) (l : Fin 256) :
    X0_3 m c t (ix3 0 j l) = rest m c (ix3 (pb t) (⟨128 * (pn t).val + j.val, by omega⟩ : Fin 4096) (⟨2048 + l.val, by omega⟩ : Fin 6784)) := by
  unfold X0_3 Pipeline.Window.fill
  rw [dif_pos (moved0_3 t _)]
  refine (congrFun (V_main_arg0 m c) _).trans (congrArg (rest m c) ?_)
  funext a
  refine Fin.ext ?_
  match a with
  | ⟨0, _⟩ => show win0_3.index t 0 * 1 + 1 * 0 = _; rw [(index3 t).1]; simp
  | ⟨1, _⟩ => show win0_3.index t 1 * 128 + 1 * j.val = _; rw [(index3 t).2.1]; simp; omega
  | ⟨2, _⟩ => show win0_3.index t 2 * 256 + 1 * l.val = _; rw [(index3 t).2.2]; simp

/-- The previous value block. -/
theorem X4_apply (c : Dev nD) (t : Fin cfg0.N) (j : Fin 128) (l : Fin 256) :
    X0_4 m c t (ix3 0 j l) = rest m c (ix3 (pb t) (⟨128 * ((pn t).val - 1) + j.val, by omega⟩ : Fin 4096) (⟨2304 + l.val, by omega⟩ : Fin 6784)) := by
  unfold X0_4 Pipeline.Window.fill
  rw [dif_pos (moved0_4 t _)]
  refine (congrFun (V_main_arg0 m c) _).trans (congrArg (rest m c) ?_)
  funext a
  refine Fin.ext ?_
  match a with
  | ⟨0, _⟩ => show win0_4.index t 0 * 1 + 1 * 0 = _; rw [(index4 t).1]; simp
  | ⟨1, _⟩ => show win0_4.index t 1 * 128 + 1 * j.val = _; rw [(index4 t).2.1]; simp; omega
  | ⟨2, _⟩ => show win0_4.index t 2 * 256 + 1 * l.val = _; rw [(index4 t).2.2]; simp

/-- The value block. -/
theorem X5_apply (c : Dev nD) (t : Fin cfg0.N) (j : Fin 128) (l : Fin 256) :
    X0_5 m c t (ix3 0 j l) = rest m c (ix3 (pb t) (⟨128 * (pn t).val + j.val, by omega⟩ : Fin 4096) (⟨2304 + l.val, by omega⟩ : Fin 6784)) := by
  unfold X0_5 Pipeline.Window.fill
  rw [dif_pos (moved0_5 t _)]
  refine (congrFun (V_main_arg0 m c) _).trans (congrArg (rest m c) ?_)
  funext a
  refine Fin.ext ?_
  match a with
  | ⟨0, _⟩ => show win0_5.index t 0 * 1 + 1 * 0 = _; rw [(index5 t).1]; simp
  | ⟨1, _⟩ => show win0_5.index t 1 * 128 + 1 * j.val = _; rw [(index5 t).2.1]; simp; omega
  | ⟨2, _⟩ => show win0_5.index t 2 * 256 + 1 * l.val = _; rw [(index5 t).2.2]; simp

/-- The sinks as the region finds them. -/
theorem V_main_v0 (c : Dev nD) : V m c main_v0 = shapeCast S1x32 (sinks m c) shapeCasts_S32_S1x32 := by
  unfold_abbrev_sides
  after_results
  rfl

/-- The sinks' block. -/
theorem X0_apply (c : Dev nD) (t : Fin cfg0.N) (h : Fin 32) : iblk m c 0 t (ix2 0 h) = sinks m c (ix1 h) := by
  refine (congrFun (V_main_v0 m c) _).trans ?_
  have e : ((cfg0.win 0).blk t).view.emb (ix2 0 h) = (ix2 (0 : Fin 1) h : S1x32.Idx) := by
    funext a
    refine Fin.ext ?_
    match a with
    | ⟨0, _⟩ => show win0_0.index t 0 * 1 + 1 * 0 = _; rw [(index0 t).1]; rfl
    | ⟨1, _⟩ => show win0_0.index t 1 * 32 + 1 * h.val = _; rw [(index0 t).2]; simp
  refine (congrArg (shapeCast S1x32 (sinks m c) shapeCasts_S32_S1x32) e).trans ?_
  pointwise

/-- The whole block of a point is the block of the result. -/
theorem block_eq (c : Dev nD) (t : Fin cfg0.N) (r : Fin 128) (h : Fin 32) (d : Fin 64) :
    head (pn t).val (iblk m c 0 t) (X0_1 m c t) (X0_2 m c t) (X0_3 m c t) (X0_4 m c t) (X0_5 m c t) r h d
      = attn (rest m c) (sinks m c) (pb t) (pn t) r h d := by
  unfold head attn
  simp only [X1_apply, X2_apply, X3_apply, X4_apply, X5_apply]
  rw [X0_apply]

/-- What a point writes back is its block of the result. -/
theorem flushed_eq (c : Dev nD) (t : Fin cfg0.N) :
    (dats m 0 c).flushed 6 t = ((cfg0.win 6).blk t).view.read (Elt Ideal) (result (rest m c) (sinks m c)) := by
  rw [Value.flushed6_A, out_eq]
  funext y
  show head _ _ _ _ _ _ _ _ _ _ = result _ _ (((cfg0.win 6).blk t).view.emb y)
  refine (block_eq m c t _ _ _).trans ?_
  have h0 : (y 0).val = 0 := by have : (y 0).val < 1 := (y 0).isLt; omega
  have h1 : (y 1).val < 128 := (y 1).isLt
  have h2 : (y 2).val < 2048 := (y 2).isLt
  have e0 : (((cfg0.win 6).blk t).view.emb y 0).val = (pb t).val := by
    show win0_6.index t 0 * 1 + 1 * (y 0).val = _; rw [(index6 t).1, h0]; omega
  have e1 : (((cfg0.win 6).blk t).view.emb y 1).val = 128 * (pn t).val + (y 1).val := by
    show win0_6.index t 1 * 128 + 1 * (y 1).val = _; rw [(index6 t).2.1]; omega
  have e2 : (((cfg0.win 6).blk t).view.emb y 2).val = (y 2).val := by
    show win0_6.index t 2 * 2048 + 1 * (y 2).val = _; rw [(index6 t).2.2]; omega
  unfold result
  refine congr (congr (congr (congr (congrArg (attn (rest m c) (sinks m c)) (Fin.ext ?_)) (Fin.ext ?_)) (Fin.ext ?_)) (Fin.ext ?_)) (Fin.ext ?_)
  · exact e0.symm
  · show _ = (((cfg0.win 6).blk t).view.emb y 1).val / 128; rw [e1]; omega
  · show (y 1).val = (((cfg0.win 6).blk t).view.emb y 1).val % 128; rw [e1]; omega
  · show (y 2).val / 64 = (((cfg0.win 6).blk t).view.emb y 2).val / 64; rw [e2]
  · show (y 2).val % 64 = (((cfg0.win 6).blk t).view.emb y 2).val % 64; rw [e2]

/-- The blocks cover the result. -/
theorem cover (i : S2x4096x2048.Idx) : ∃ t : Fin cfg0.N, (cfg0.win 6).flush t = true ∧ i ∈ ((cfg0.win 6).blk t).view.set := by
  have h1 : (i 1).val < 4096 := (i 1).isLt
  have h2 : (i 2).val < 2048 := (i 2).isLt
  obtain ⟨t, hb, hn⟩ := point_of (i 0) ⟨(i 1).val / 128, by omega⟩
  refine ⟨t, flush0_6 _, ?_⟩
  show i ∈ ((View.whole main_v1).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [(index6 t).1, hb]; omega
  | ⟨1, _⟩ =>
    show win0_6.index t 1 * 128 ≤ (i 1).val ∧ (i 1).val < win0_6.index t 1 * 128 + 128
    rw [(index6 t).2.1, hn]; dsimp only; omega
  | ⟨2, _⟩ =>
    show win0_6.index t 2 * 2048 ≤ (i 2).val ∧ (i 2).val < win0_6.index t 2 * 2048 + 2048
    rw [(index6 t).2.2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v1) = result (rest m c) (sinks m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 6 _ (fun t _ => flushed_eq m c t) cover), (h c).2⟩)
    (Value.run_blocks m ρ)

end Cert.SwaValue

end
-- ==== Proof.SwaEq.lean ====
/- On real scores and sinks the reference of the banded attention is the kernel's result. -/
module

public import proofs.«01_k».proof.Proof.SwaRef
public import proofs.«01_k».proof.Proof.SwaBias
public import proofs.«01_k».proof.Proof.SwaBand
public import proofs.«01_k».proof.Proof.SwaValue
public import proofs.«01_k».proof.Pre_finite_scores

@[expose] public section

set_option maxRecDepth 16384

noncomputable section

namespace Cert.SwaEq

open Cert.SwaRefIdeal Cert.SwaRefIdeal.Read Idealize.ShloMosaic Idealize.ShloMosaic.Pointwise Cert.SwaHeadSpec Cert.SwaBand

variable (x : S2x4096x6784.Idx → EReal) (s : S32.Idx → EReal)

/-- A value that is neither infinity. -/
def IsReal (a : EReal) : Prop := ∃ v : ℝ, a = (v : EReal)

theorem isReal_mul {a b : EReal} (ha : IsReal a) (hb : IsReal b) : IsReal (a * b) := by
  obtain ⟨v, rfl⟩ := ha
  obtain ⟨w, rfl⟩ := hb
  exact ⟨v * w, (EReal.coe_mul v w).symm⟩

theorem isReal_sum {n : ℕ} (f : Fin n → EReal) (h : ∀ j, IsReal (f j)) : IsReal (∑ j, f j) := by
  have key : ∀ S : Finset (Fin n), IsReal (∑ j ∈ S, f j) := by
    intro S
    induction S using Finset.induction_on with
    | empty => exact ⟨0, by simp⟩
    | insert a S ha ih =>
      obtain ⟨v, hv⟩ := ih
      obtain ⟨w, hw⟩ := h a
      exact ⟨w + v, by rw [Finset.sum_insert ha, hv, hw, EReal.coe_add]⟩
  exact key _

/-- The scale of the scores is the real one eighth. -/
theorem eighth_eq : Ideal.ofBits .f32 0x3E000000#32 = ((1 / 8 : ℝ) : EReal) := by
  simp [Ideal.ofBits, Ideal.ieee, -EReal.coe_mul]; norm_num

/-- A slope is a positive real. -/
theorem slope_pos (h : ℕ) : ∃ v : ℝ, 0 < v ∧ SwaSlope.slope h = (v : EReal) :=
  ⟨_, Real.rpow_pos_of_pos (by norm_num) _, rfl⟩

/-- A folded logit before the first block is minus infinity. -/
theorem logit_bot (n : ℕ) (hn : n = 0) (h : ℕ) (sc sp : Fin 128 → EReal) (r j : Fin 128) (hj : ¬ j ≤ r) : logit n (SwaSlope.slope h) sc sp r j = ⊥ := by
  obtain ⟨v, hv, e⟩ := slope_pos h
  rw [logit, if_neg hj, SwaHeadSpec.dist, if_pos ⟨hn, hj⟩, e, EReal.coe_mul_top_of_pos hv, EReal.sub_top]

/-- A folded logit of real products is below plus infinity. -/
theorem logit_ne_top (n h : ℕ) (sc sp : Fin 128 → EReal) (r j : Fin 128) (hc : ∀ j, IsReal (sc j)) (hp : ∀ j, IsReal (sp j)) :
    logit n (SwaSlope.slope h) sc sp r j ≠ ⊤ := by
  obtain ⟨v, hv, e⟩ := slope_pos h
  have ha : IsReal (if j ≤ r then sc j else sp j) := by
    split
    · exact hc j
    · exact hp j
  obtain ⟨a, ha⟩ := ha
  rw [logit, ha, SwaHeadSpec.dist, e]
  split
  · rw [EReal.coe_mul_top_of_pos hv, EReal.sub_top]
    exact bot_ne_top
  · rw [← EReal.coe_mul, ← EReal.coe_sub]
    exact EReal.coe_ne_top _

/-- A product less the slope times a distance, as the reference adds it. -/
theorem add_bias (a p d : EReal) : a + -p * d = a - p * d := by
  rw [EReal.neg_mul, sub_eq_add_neg]

/-- A sum of products scaled at the end or at the query. -/
theorem scaled (k q : Fin 64 → EReal) : (∑ e, k e * q e) * Ideal.ofBits .f32 0x3E000000#32 = ∑ e, k e * (q e * SwaBlock.eighth) := by
  rw [eighth_eq, sum_mul _ _ (by norm_num)]
  refine Finset.sum_congr rfl fun e _ => ?_
  rw [SwaBlock.eighth, eighth_eq, mul_assoc]

/-- The reference at an index is the kernel's, on real scores and sinks. -/
theorem result_apply (hx : ∀ b t l, l.val < 2304 → IsReal (x (ix3 b t l))) (hs : ∀ h, IsReal (s (ix1 h)))
    (b : Fin 2) (n : Fin 32) (g : Fin 4) (u : Fin 8) (r : Fin 128) (d : Fin 64) :
    val_main_v89 (F := Ideal) x s (ix3 b (⟨128 * n.val + r.val, by omega⟩ : Fin 4096) (⟨64 * (8 * g.val + u.val) + d.val, by omega⟩ : Fin 2048))
      = SwaValue.attn x s b n r (⟨8 * g.val + u.val, by omega⟩ : Fin 32) d := by
  rw [SwaRef.result_apply]
  simp only [SwaRef.exps_apply, SwaRef.norm_apply, SwaRef.top_apply]
  obtain ⟨σ, hσ⟩ := hs (⟨8 * g.val + u.val, by omega⟩ : Fin 32)
  have hg : (8 * g.val + u.val) / 8 = g.val := by omega
  unfold SwaValue.attn
  simp only [hσ, hg]
  refine row_eq (fun j => val_main_v66 (F := Ideal) x (ix6 b n g u r j)) (fun j => val_main_v12 (F := Ideal) x (ix5 b n j g d)) n.val _ σ _ _ _ _ r ?_ ?_ ?_ ?_ ?_
  · intro j
    refine logit_ne_top _ _ _ _ _ _ (fun j => isReal_sum _ fun e => ?_) (fun j => isReal_sum _ fun e => ?_)
    · exact isReal_mul (hx _ _ _ (by show 2048 + (64 * g.val + e.val) < 2304; omega)) (isReal_mul (hx _ _ _ (by show 64 * (8 * g.val + u.val) + e.val < 2304; omega)) ⟨_, eighth_eq⟩)
    · exact isReal_mul (hx _ _ _ (by show 2048 + (64 * g.val + e.val) < 2304; omega)) (isReal_mul (hx _ _ _ (by show 64 * (8 * g.val + u.val) + e.val < 2304; omega)) ⟨_, eighth_eq⟩)
  · intro j
    have hm := (SwaBias.word_eq n r (low j))
    show val_main_v66 (F := Ideal) x (ix6 b n g u r (low j)) = _
    rw [SwaRef.masked_apply, SwaBias.mask_apply]
    by_cases hj : j ≤ r
    · rw [if_pos hj, if_neg]
      intro h
      have := (hm.mp h).1.1
      exact absurd (show r.val < j.val from this) (not_lt.mpr hj)
    · rw [if_neg hj]
      by_cases hn : n.val = 0
      · rw [if_neg, logit_bot _ hn _ _ _ _ _ hj]
        intro h
        rcases (hm.mp h).2 with h | h
        · exact h hn
        · have : 128 ≤ j.val := h
          omega
      · rw [if_pos (hm.mpr ⟨⟨not_le.mp hj, by show j.val ≤ r.val + 128; omega⟩, Or.inl hn⟩), SwaRef.products_apply, SwaBias.bias_apply, add_bias, scaled,
          logit, if_neg hj, SwaHeadSpec.dist, if_neg (fun h => hn h.1), if_neg hj]
        refine congrArg₂ (· - ·) (Finset.sum_congr rfl fun e _ => ?_) rfl
        rw [SwaRef.queries_apply]
        exact congrArg (· * _) (SwaRef.keys_low x b n hn j g e)
  · intro j
    have hm := (SwaBias.word_eq n r (high j))
    show val_main_v66 (F := Ideal) x (ix6 b n g u r (high j)) = _
    rw [SwaRef.masked_apply, SwaBias.mask_apply]
    by_cases hj : j ≤ r
    · have hd : ((r.val : ℤ) + 128 - (high j).val : ℤ) = (r.val : ℤ) - j.val := by
        show (r.val : ℤ) + 128 - ((128 + j.val : ℕ) : ℤ) = _
        push_cast
        ring
      have hjr : j.val ≤ r.val := hj
      rw [if_pos hj, if_pos (hm.mpr ⟨⟨by show r.val < 128 + j.val; omega, by show 128 + j.val ≤ r.val + 128; omega⟩, Or.inr (Nat.le_add_right _ _)⟩),
        SwaRef.products_apply, SwaBias.bias_apply, add_bias, scaled, logit, if_pos hj, SwaHeadSpec.dist, if_neg (fun h => h.2 hj), if_pos hj, hd]
      refine congrArg₂ (· - ·) (Finset.sum_congr rfl fun e _ => ?_) rfl
      rw [SwaRef.queries_apply]
      exact congrArg (· * _) (SwaRef.keys_high x b n j g e)
    · rw [if_neg hj, if_neg]
      intro h
      have h' : 128 + j.val ≤ r.val + 128 := (hm.mp h).1.2
      exact hj (show j.val ≤ r.val by omega)
  · intro j
    exact SwaRef.values_high x b n j g d
  · intro j
    by_cases hj : j ≤ r
    · exact Or.inr (Or.inr hj)
    · by_cases hn : n.val = 0
      · right; left
        exact logit_bot _ hn _ _ _ _ _ hj
      · left
        exact SwaRef.values_low x b n hn j g d

/-- The reference is the kernel's result, on real scores and sinks. -/
theorem result_eq (hx : ∀ b t l, l.val < 2304 → IsReal (x (ix3 b t l))) (hs : ∀ h, IsReal (s (ix1 h))) :
    val_main_v89 (F := Ideal) x s = SwaValue.result x s := by
  funext y
  obtain ⟨b, t, l, rfl⟩ : ∃ b t l, y = ix3 b t l := ⟨y 0, y 1, y 2, eq_ix3 y⟩
  have ht : t.val < 4096 := t.isLt
  have hl : l.val < 2048 := l.isLt
  have h := result_apply x s hx hs b ⟨t.val / 128, by omega⟩ ⟨l.val / 64 / 8, by omega⟩ ⟨l.val / 64 % 8, by omega⟩ ⟨t.val % 128, by omega⟩ ⟨l.val % 64, by omega⟩
  have h8 : 8 * (l.val / 64 / 8) + l.val / 64 % 8 = l.val / 64 := by omega
  have e3 : (⟨8 * (l.val / 64 / 8) + l.val / 64 % 8, by omega⟩ : Fin 32) = ⟨l.val / 64, by omega⟩ := Fin.ext h8
  refine (congrArg (val_main_v89 (F := Ideal) x s) ?_).trans (h.trans ?_)
  · funext a
    refine Fin.ext ?_
    match a with
    | ⟨0, _⟩ => rfl
    | ⟨1, _⟩ => show t.val = 128 * (t.val / 128) + t.val % 128; omega
    | ⟨2, _⟩ => show l.val = 64 * (8 * (l.val / 64 / 8) + l.val / 64 % 8) + l.val % 64; omega
  · exact congrArg (fun k => SwaValue.attn x s b (⟨t.val / 128, by omega⟩ : Fin 32) (⟨t.val % 128, by omega⟩ : Fin 128) k (⟨l.val % 64, by omega⟩ : Fin 64)) e3

/-! ## The precondition -/

/-- The facts the precondition's function states. -/
theorem preFacts : Cert.Pre_finite_scores.Facts := ⟨by decide, by decide, by decide⟩

/-- A value whose magnitude compares below plus infinity is a real. -/
theorem isReal_of_lt {a : EReal} (h : Ideal.cmp .olt (max a (-a)) (Ideal.ofBits .f32 0x7F800000#32) = 1#1) : IsReal a := by
  rw [SwaPair.ofBits_top] at h
  have h' : max a (-a) < ⊤ := by
    by_contra hc
    have : Ideal.cmp .olt (max a (-a)) ⊤ = BitVec.ofBool (decide (max a (-a) < ⊤)) := rfl
    rw [this, decide_eq_false hc] at h
    exact absurd h (by decide)
  rw [max_lt_iff] at h'
  induction a using EReal.rec with
  | bot => exact absurd h'.2 (by simp)
  | coe v => exact ⟨v, rfl⟩
  | top => exact absurd h'.1 (by simp)

/-- The scores are reals where the precondition's first array is all ones. -/
theorem scores_real (h : (@Cert.Pre_finite_scores.fn preFacts Ideal _ x s).1 = fun _ => 1#1) (b : Fin 2) (t : Fin 4096) (l : Fin 6784) (hl : l.val < 2304) :
    IsReal (x (ix3 b t l)) := by
  have h1 := congrFun h (ix3 b t (⟨l.val, hl⟩ : Fin 2304))
  refine isReal_of_lt ?_
  refine Eq.trans ?_ h1
  have e : x (ix3 b t l) = extractStridedSlice Cert.Pre_finite_scores.S2x4096x2304 ![0, 0, 0] x preFacts.slices_S2x4096x6784_S2x4096x2304_0_0_0 (ix3 b t (⟨l.val, hl⟩ : Fin 2304)) :=
    congrArg x (funext fun a => Fin.ext (by match a with | ⟨0, _⟩ => show b.val = 0 + b.val; omega | ⟨1, _⟩ => show t.val = 0 + t.val; omega | ⟨2, _⟩ => show l.val = 0 + l.val; omega))
  rw [e]
  rfl

/-- The sinks are reals where the precondition's second array is all ones. -/
theorem sinks_real (h : (@Cert.Pre_finite_scores.fn preFacts Ideal _ x s).2 = fun _ => 1#1) (k : Fin 32) : IsReal (s (ix1 k)) :=
  isReal_of_lt (congrFun h (ix1 k))

end Cert.SwaEq

end
-- ==== Proof.SwaClaim.lean ====
/- The attention's claims: the named slopes, and the equality with the reference. -/
module

public import proofs.«01_k».proof.Defs
public import proofs.«01_k».proof.Proof.SwaEq
public import proofs.«01_k».proof.Proof.Gen.SwaRefIdeal.Run

@[expose] public section

set_option maxRecDepth 16384

noncomputable section

namespace Cert.SwaClaim

open Idealize.ShloMosaic Idealize.SL.Sem

/-- Each named slope is the real its literal rounds. -/
theorem preserves : Cert.preserves_Swa_SwaIdeal := ⟨IdealRules.named_const.statement Cert.SwaIdeal.κ "slope1" .f32 0x3F5744FD#32 (((Real.sqrt (Real.sqrt 2))⁻¹ : ℝ) : EReal) rfl,
  IdealRules.named_const.statement Cert.SwaIdeal.κ "slope2" .f32 0x3F3504F3#32 (((Real.sqrt 2)⁻¹ : ℝ) : EReal) rfl,
  IdealRules.named_const.statement Cert.SwaIdeal.κ "slope3" .f32 0x3F1837F0#32 (((Real.sqrt 2)⁻¹ * (Real.sqrt (Real.sqrt 2))⁻¹ : ℝ) : EReal) rfl,
  IdealRules.named_const.statement Cert.SwaIdeal.κ "slope5" .f32 0x3ED744FD#32 ((2⁻¹ * (Real.sqrt (Real.sqrt 2))⁻¹ : ℝ) : EReal) rfl,
  IdealRules.named_const.statement Cert.SwaIdeal.κ "slope6" .f32 0x3EB504F3#32 ((2⁻¹ * (Real.sqrt 2)⁻¹ : ℝ) : EReal) rfl,
  IdealRules.named_const.statement Cert.SwaIdeal.κ "slope7" .f32 0x3E9837F0#32 ((2⁻¹ * ((Real.sqrt 2)⁻¹ * (Real.sqrt (Real.sqrt 2))⁻¹) : ℝ) : EReal) rfl,
  IdealRules.named_const.statement Cert.SwaIdeal.κ "slope9" .f32 0x3E5744FD#32 ((4⁻¹ * (Real.sqrt (Real.sqrt 2))⁻¹ : ℝ) : EReal) rfl,
  IdealRules.named_const.statement Cert.SwaIdeal.κ "slope10" .f32 0x3E3504F3#32 ((4⁻¹ * (Real.sqrt 2)⁻¹ : ℝ) : EReal) rfl,
  IdealRules.named_const.statement Cert.SwaIdeal.κ "slope11" .f32 0x3E1837F0#32 ((4⁻¹ * ((Real.sqrt 2)⁻¹ * (Real.sqrt (Real.sqrt 2))⁻¹) : ℝ) : EReal) rfl,
  IdealRules.named_const.statement Cert.SwaIdeal.κ "slope13" .f32 0x3DD744FD#32 ((8⁻¹ * (Real.sqrt (Real.sqrt 2))⁻¹ : ℝ) : EReal) rfl,
  IdealRules.named_const.statement Cert.SwaIdeal.κ "slope14" .f32 0x3DB504F3#32 ((8⁻¹ * (Real.sqrt 2)⁻¹ : ℝ) : EReal) rfl,
  IdealRules.named_const.statement Cert.SwaIdeal.κ "slope15" .f32 0x3D9837F0#32 ((8⁻¹ * ((Real.sqrt 2)⁻¹ * (Real.sqrt (Real.sqrt 2))⁻¹) : ℝ) : EReal) rfl,
  IdealRules.named_const.statement Cert.SwaIdeal.κ "slope17" .f32 0x3D5744FD#32 ((16⁻¹ * (Real.sqrt (Real.sqrt 2))⁻¹ : ℝ) : EReal) rfl,
  IdealRules.named_const.statement Cert.SwaIdeal.κ "slope18" .f32 0x3D3504F3#32 ((16⁻¹ * (Real.sqrt 2)⁻¹ : ℝ) : EReal) rfl,
  IdealRules.named_const.statement Cert.SwaIdeal.κ "slope19" .f32 0x3D1837F0#32 ((16⁻¹ * ((Real.sqrt 2)⁻¹ * (Real.sqrt (Real.sqrt 2))⁻¹) : ℝ) : EReal) rfl,
  IdealRules.named_const.statement Cert.SwaIdeal.κ "slope21" .f32 0x3CD744FD#32 ((32⁻¹ * (Real.sqrt (Real.sqrt 2))⁻¹ : ℝ) : EReal) rfl,
  IdealRules.named_const.statement Cert.SwaIdeal.κ "slope22" .f32 0x3CB504F3#32 ((32⁻¹ * (Real.sqrt 2)⁻¹ : ℝ) : EReal) rfl,
  IdealRules.named_const.statement Cert.SwaIdeal.κ "slope23" .f32 0x3C9837F0#32 ((32⁻¹ * ((Real.sqrt 2)⁻¹ * (Real.sqrt (Real.sqrt 2))⁻¹) : ℝ) : EReal) rfl,
  IdealRules.named_const.statement Cert.SwaIdeal.κ "slope25" .f32 0x3C5744FD#32 ((64⁻¹ * (Real.sqrt (Real.sqrt 2))⁻¹ : ℝ) : EReal) rfl,
  IdealRules.named_const.statement Cert.SwaIdeal.κ "slope26" .f32 0x3C3504F3#32 ((64⁻¹ * (Real.sqrt 2)⁻¹ : ℝ) : EReal) rfl,
  IdealRules.named_const.statement Cert.SwaIdeal.κ "slope27" .f32 0x3C1837F0#32 ((64⁻¹ * ((Real.sqrt 2)⁻¹ * (Real.sqrt (Real.sqrt 2))⁻¹) : ℝ) : EReal) rfl,
  IdealRules.named_const.statement Cert.SwaIdeal.κ "slope29" .f32 0x3BD744FD#32 ((128⁻¹ * (Real.sqrt (Real.sqrt 2))⁻¹ : ℝ) : EReal) rfl,
  IdealRules.named_const.statement Cert.SwaIdeal.κ "slope30" .f32 0x3BB504F3#32 ((128⁻¹ * (Real.sqrt 2)⁻¹ : ℝ) : EReal) rfl,
  IdealRules.named_const.statement Cert.SwaIdeal.κ "slope31" .f32 0x3B9837F0#32 ((128⁻¹ * ((Real.sqrt 2)⁻¹ * (Real.sqrt (Real.sqrt 2))⁻¹) : ℝ) : EReal) rfl⟩

/-- On real scores and sinks the attention and its reference end with equal results. -/
theorem algebraic : @Cert.algebraic_SwaIdeal_SwaRefIdeal_pre_finite_scores Cert.SwaIdeal.Gen.facts Cert.SwaRefIdeal.Gen.facts SwaEq.preFacts :=
  fun m ρ m' ρ' hpre hag => ⟨fun c => SwaValue.result (SwaValue.rest m c) (SwaValue.sinks m c), SwaValue.run m ρ,
    (θ_run Cert.SwaRefIdeal.defs _ _).mono (fun r h c => ⟨by
      rw [(h c).1, Cert.SwaRefIdeal.Read.val_main_v89_eq, (hag c).1, (hag c).2]
      exact SwaEq.result_eq _ _ (SwaEq.scores_real _ _ (hpre c).1) (SwaEq.sinks_real _ _ (hpre c).2), (h c).2⟩)
    (Cert.SwaRefIdeal.Value.run (F := Ideal) m' ρ')⟩

end Cert.SwaClaim

end
-- ==== Proof.QkvzValue.lean ====
/- The projection to queries, keys, values and output gates: the array it leaves, as one function of the rows and the weights. -/
module

public import proofs.«01_k».proof.Proof.Gen.QkvzIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.QkvzValue

open Cert.QkvzIdeal Cert.QkvzIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- The weight block as a matrix. -/
def flat (x1 : Vec Ideal S1x1024x2048 .f32) : Vec Ideal S1024x2048 .bf16 := fun y => x1 (ix3 0 (y 0) (y 1))

/-- A row times a column. -/
def dot (x0 : Vec Ideal S1024x2048 .bf16) (w : Vec Ideal S1024x2048 .bf16) (r l : Fin 1024) : EReal := ∑ k : Fin 2048, x0 (ix2 r k) * w (ix2 l k)

/-- The rows times the weights. -/
def block (x0 : Vec Ideal S1024x2048 .bf16) (w : Vec Ideal S1024x2048 .bf16) : Vec Ideal S1024x1024 .f32 := fun y =>
  dot x0 w (y 0) (y 1)

/-- The printed product. -/
theorem pay5_eq (x0 : Vec Ideal S1024x2048 .bf16) (w : Vec Ideal S1024x2048 .bf16) : k0_pay5 (F := Ideal) x0 w = block x0 w := by
  funext y
  obtain ⟨a, b, rfl⟩ : ∃ (a : Fin 1024) (b : Fin 1024), y = ix2 a b := ⟨y 0, y 1, by funext k; fin_cases k <;> rfl⟩
  pointwise [k0_pay5]
  rfl

/-- A point that keeps the weights. -/
theorem out_B (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1024x1024 .f32) (harg4 : arg4.IsWhole) (arg5 : Memref sig .tc .vmem S1024x2048 .bf16) (harg5 : arg5.IsWhole) (hc0 : ¬cond0_0 i)
    (x0 : Vec Ideal S1024x2048 .bf16) (x1 : Vec Ideal S1x1024x2048 .f32) (xs0 : Vec Ideal S1024x2048 .bf16) :
    out0_B_2 c i arg2 harg2 arg3 harg3 arg4 harg4 arg5 harg5 hc0 x0 x1 xs0 = block x0 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz]
  simp only [View.readAt_eq_ld, harg2.read_unread, harg5.read_unread, View.ld_unit_zero (S := S1024x2048) hz]
  exact pay5_eq x0 xs0

/-- A group of 256 rows of the weights, as stored, is these rows of the matrix. -/
theorem piece_at (x1 : Vec Ideal S1x1024x2048 .f32) (o : ℕ) (h) (h') (x : S256x2048.Idx) :
    k0_pay1 (F := Ideal) (View.ld x1 (Rect.unit (s := S1x1024x2048) ![0, o, 0] S1x256x2048.size h)) x
      = flat x1 ((Rect.unit (s := S1024x2048) ![o, 0] S256x2048.size h').emb x) := by
  obtain ⟨a, b, rfl⟩ : ∃ (a : Fin 256) (b : Fin 2048), x = ix2 a b := ⟨x 0, x 1, by funext k; fin_cases k <;> rfl⟩
  pointwise [k0_pay1]
  refine congrArg x1 ?_
  funext k
  refine Fin.ext ?_
  match k with
  | ⟨0, _⟩ => rfl
  | ⟨1, _⟩ => show o + a.val = o + 1 * a.val; omega
  | ⟨2, _⟩ => show b.val = 0 + 1 * b.val; omega

/-- What a point that stores the weights leaves in the scratch. -/
theorem sout_A (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1024x1024 .f32) (harg4 : arg4.IsWhole) (arg5 : Memref sig .tc .vmem S1024x2048 .bf16) (harg5 : arg5.IsWhole) (hc0 : cond0_0 i)
    (x0 : Vec Ideal S1024x2048 .bf16) (x1 : Vec Ideal S1x1024x2048 .f32) :
    sout0_A_0 c i arg2 harg2 arg3 harg3 arg4 harg4 arg5 harg5 hc0 x0 x1 = flat x1 := by
  have hcov := scover0_A_0 c i arg2 harg2 arg3 harg3 arg4 harg4 arg5 harg5 hc0 x0 x1
  unfold sout0_A_0
  rw [View.read_writes_eq_canon _ _ _ hcov]
  funext y
  refine View.canon_apply_of_pieces _ _ ?_ y (hcov y)
  refine View.PiecesOf.mem ?_
  unfold kernelRun0_A
  dsimp only
  sl_unfold_words
  simp only [View.readAt_eq_ld, harg3.read_unread]
  exact ⟨piece_at x1 768 inb_S1x1024x2048_S1x256x2048_0_768_0 inb_S1024x2048_S256x2048_768_0,
    piece_at x1 512 inb_S1x1024x2048_S1x256x2048_0_512_0 inb_S1024x2048_S256x2048_512_0,
    piece_at x1 256 inb_S1x1024x2048_S1x256x2048_0_256_0 inb_S1024x2048_S256x2048_256_0,
    piece_at x1 0 inb_S1x1024x2048_S1x256x2048_0_0_0 inb_S1024x2048_S256x2048_0_0, trivial⟩

/-- A point that first stores the weights. -/
theorem out_A (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1024x1024 .f32) (harg4 : arg4.IsWhole) (arg5 : Memref sig .tc .vmem S1024x2048 .bf16) (harg5 : arg5.IsWhole) (hc0 : cond0_0 i)
    (x0 : Vec Ideal S1024x2048 .bf16) (x1 : Vec Ideal S1x1024x2048 .f32) :
    out0_A_2 c i arg2 harg2 arg3 harg3 arg4 harg4 arg5 harg5 hc0 x0 x1 = block x0 (flat x1) := by
  rw [← sout_A c i arg2 harg2 arg3 harg3 arg4 harg4 arg5 harg5 hc0 x0 x1]
  unfold out0_A_2 sout0_A_0
  rw [View.read_writes_eq_canon _ _ _ (cover0_A_2 c i arg2 harg2 arg3 harg3 arg4 harg4 arg5 harg5 hc0 x0 x1),
    View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg2.read_unread, View.ld_unit_zero (S := S1024x2048) hz, View.readCov_eq_canon']
  exact (congrArg (k0_pay5 x0) (View.ld_unit_zero (S := S1024x2048) hz _ _)).trans (pay5_eq _ _)

/-! ## The grid -/

variable (m : (ℓ : Loc nD τ sig) → Buf (Elt Ideal) ℓ) (ρ : Dev nD → PrngReg)

/-- The rows. -/
abbrev rows (c : Dev nD) : S8192x2048.Idx → EReal := m ((c : Thread nD τ).loc main_arg0)

/-- The weights. -/
abbrev wts (c : Dev nD) : S4x2048x14880.Idx → EReal := m ((c : Thread nD τ).loc main_arg1)

/-- The product of a row with a column of the last layer's weights. -/
def prod (x : S8192x2048.Idx → EReal) (w : S4x2048x14880.Idx → EReal) (r : Fin 8192) (l : Fin 8192) : EReal :=
  ∑ k : Fin 2048, x (ix2 r k) * w (ix3 3 k (⟨l.val, by omega⟩ : Fin 14880))

/-- The whole result. -/
def result (x : S8192x2048.Idx → EReal) (w : S4x2048x14880.Idx → EReal) (y : S8192x8192.Idx) : EReal :=
  prod x w (y 0) (y 1)

/-- The column block of a grid point. -/
def pj (t : Fin cfg0.N) : Fin 8 := ⟨t.val / 8, by have h : t.val < 64 := t.isLt; omega⟩
/-- The row block of a grid point. -/
def pr (t : Fin cfg0.N) : Fin 8 := ⟨t.val % 8, Nat.mod_lt _ (by decide)⟩

theorem index0 : ∀ t : Fin cfg0.N, win0_0.index t 0 = t.val % 8 ∧ win0_0.index t 1 = 0 := by decide +kernel
theorem index1 : ∀ t : Fin cfg0.N, win0_1.index t 0 = 3 ∧ win0_1.index t 1 = t.val / 8 ∧ win0_1.index t 2 = 0 := by decide +kernel
theorem index2 : ∀ t : Fin cfg0.N, win0_2.index t 0 = t.val % 8 ∧ win0_2.index t 1 = t.val / 8 := by decide +kernel

/-- The block of rows. -/
theorem X0_apply (c : Dev nD) (t : Fin cfg0.N) (r : Fin 1024) (k : Fin 2048) :
    iblk m c 0 t (ix2 r k) = rows m c (ix2 (⟨1024 * (pr t).val + r.val, by omega⟩ : Fin 8192) k) := by
  refine (congrFun (V_main_arg0 m c) _).trans (congrArg (rows m c) ?_)
  funext a
  refine Fin.ext ?_
  match a with
  | ⟨0, _⟩ => show win0_0.index t 0 * 1024 + 1 * r.val = 1024 * (t.val % 8) + r.val; rw [(index0 t).1]; omega
  | ⟨1, _⟩ => show win0_0.index t 1 * 2048 + 1 * k.val = k.val; rw [(index0 t).2]; omega

/-- The weights as the grid finds them: transposed. -/
theorem V_main_v0 (c : Dev nD) : V m c main_v0 = transpose S4x14880x2048 [0, 2, 1] (wts m c) transposes_S4x2048x14880_S4x14880x2048_0_2_1 := by
  unfold_abbrev_sides
  after_results

/-- The block of weights. -/
theorem X1_apply (c : Dev nD) (t : Fin cfg0.N) (l : Fin 1024) (k : Fin 2048) :
    X0_1 m c t (ix3 0 l k) = wts m c (ix3 3 k (⟨1024 * (pj t).val + l.val, by omega⟩ : Fin 14880)) := by
  unfold X0_1 Pipeline.Window.fill
  rw [dif_pos (moved0_1 t _)]
  refine (congrFun (V_main_v0 m c) _).trans ?_
  have e : ∀ z : S4x14880x2048.Idx, transpose S4x14880x2048 [0, 2, 1] (wts m c) transposes_S4x2048x14880_S4x14880x2048_0_2_1 z
      = wts m c (ix3 (z 0) (z 2) (z 1)) := by
    intro z
    obtain ⟨a, b, d, rfl⟩ : ∃ (a : Fin 4) (b : Fin 14880) (d : Fin 2048), z = ix3 a b d := ⟨z 0, z 1, z 2, by funext k; fin_cases k <;> rfl⟩
    pointwise
  refine (e _).trans (congrArg (wts m c) ?_)
  funext a
  refine Fin.ext ?_
  match a with
  | ⟨0, _⟩ => show win0_1.index t 0 * 1 + 1 * 0 = 3; rw [(index1 t).1]
  | ⟨1, _⟩ => show win0_1.index t 2 * 2048 + 1 * k.val = k.val; rw [(index1 t).2.2]; omega
  | ⟨2, _⟩ => show win0_1.index t 1 * 1024 + 1 * l.val = 1024 * (t.val / 8) + l.val; rw [(index1 t).2.1]; omega

/-- A column block of the last layer's weights, transposed. -/
def cols (w : S4x2048x14880.Idx → EReal) (j : Fin 8) : Vec Ideal S1024x2048 .bf16 := fun y =>
  w (ix3 3 (y 1) (⟨1024 * j.val + (y 0).val, by have h : (y 0).val < 1024 := (y 0).isLt; omega⟩ : Fin 14880))

theorem flat_eq (c : Dev nD) (t : Fin cfg0.N) : flat (X0_1 m c t) = cols (wts m c) (pj t) :=
  funext fun _ => X1_apply m c t _ _

/-- The scratch holds the column block of the point. -/
theorem scratch_eq (c : Dev nD) (n : ℕ) : ∀ t : Fin cfg0.N, t.val = n → (outsAt0 m c t.val t.isLt).2 = cols (wts m c) (pj t) := by
  induction n with
  | zero =>
    intro t ht
    rw [outsAt0_A m c t (by rw [ht]), sout_A, flat_eq]
  | succ n ih =>
    intro t ht
    by_cases h0 : t.val % 8 = 0
    · rw [outsAt0_A m c t h0, sout_A, flat_eq]
    · rw [outsAt0_B m c t h0]
      unfold sout0_B_0
      have hlt : t.val - 1 < cfg0.N := Nat.lt_of_le_of_lt (Nat.sub_le _ _) t.isLt
      have e := ih ⟨t.val - 1, hlt⟩ (by show t.val - 1 = n; omega)
      refine Eq.trans e (congrArg (cols (wts m c)) (Fin.ext ?_))
      show (t.val - 1) / 8 = t.val / 8
      omega

/-- What a point leaves in the output's buffer. -/
theorem out_eq (c : Dev nD) (t : Fin cfg0.N) : (outsAt0 m c t.val t.isLt).1 = block (iblk m c 0 t) (cols (wts m c) (pj t)) := by
  by_cases h0 : t.val % 8 = 0
  · rw [outsAt0_A m c t h0, out_A, flat_eq]
  · rw [outsAt0_B m c t h0, out_B]
    have hlt : t.val - 1 < cfg0.N := Nat.lt_of_le_of_lt (Nat.sub_le _ _) t.isLt
    have e := scratch_eq m c (t.val - 1) ⟨t.val - 1, hlt⟩ rfl
    refine congrArg (block (iblk m c 0 t)) (e.trans (congrArg (cols (wts m c)) (Fin.ext ?_)))
    show (t.val - 1) / 8 = t.val / 8
    omega

/-- What a point writes back is its block of the result. -/
theorem flushed_eq (c : Dev nD) (t : Fin cfg0.N) :
    (dats m 0 c).flushed 2 t = ((cfg0.win 2).blk t).view.read (Elt Ideal) (result (rows m c) (wts m c)) := by
  rw [Value.flushed2, out_eq]
  funext y
  have h0 : (y 0).val < 1024 := (y 0).isLt
  have h1 : (y 1).val < 1024 := (y 1).isLt
  have e0 : (⟨1024 * (pr t).val + (y 0).val, by omega⟩ : Fin 8192) = ((cfg0.win 2).blk t).view.emb y 0 := Fin.ext (by
    show 1024 * (t.val % 8) + (y 0).val = win0_2.index t 0 * 1024 + 1 * (y 0).val; rw [(index2 t).1]; omega)
  have e1 : (⟨1024 * (pj t).val + (y 1).val, by omega⟩ : Fin 8192) = ((cfg0.win 2).blk t).view.emb y 1 := Fin.ext (by
    show 1024 * (t.val / 8) + (y 1).val = win0_2.index t 1 * 1024 + 1 * (y 1).val; rw [(index2 t).2]; omega)
  have hp : dot (iblk m c 0 t) (cols (wts m c) (pj t)) (y 0) (y 1)
      = prod (rows m c) (wts m c) (((cfg0.win 2).blk t).view.emb y 0) (((cfg0.win 2).blk t).view.emb y 1) := by
    rw [← e0, ← e1]
    exact Finset.sum_congr rfl fun k _ => congrArg₂ (fun a b : EReal => a * b) (X0_apply m c t (y 0) k) rfl
  exact congrArg (fun s : EReal => s) hp

/-- The blocks cover the result. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ : ∃ t : Fin cfg0.N, t.val = 8 * ((i 1).val / 1024) + (i 0).val / 1024 := ⟨⟨_, by show _ < 64; omega⟩, rfl⟩
  refine ⟨t, flush0_2 _, ?_⟩
  show i ∈ ((View.whole main_v1).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(index2 t).1]; omega
  | ⟨1, _⟩ =>
    show win0_2.index t 1 * 1024 ≤ (i 1).val ∧ (i 1).val < win0_2.index t 1 * 1024 + 1024
    rw [(index2 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v1) = result (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

end Cert.QkvzValue

end
-- ==== Proof.QkvzClaim.lean ====
/- The projection to queries, keys, values and output gates's value claim: equality with the reference. -/
module

public import proofs.«01_k».proof.Defs
public import proofs.«01_k».proof.Proof.QkvzValue
public import proofs.«01_k».proof.Proof.Gen.QkvzRefIdeal.Read
public import proofs.«01_k».proof.Proof.Gen.QkvzRefIdeal.Run

@[expose] public section

set_option maxRecDepth 16384

noncomputable section

namespace Cert.QkvzClaim

open Cert.QkvzRefIdeal Cert.QkvzRefIdeal.Gen Cert.QkvzRefIdeal.Read Idealize.ShloMosaic Idealize.ShloMosaic.Tactic Idealize.ShloMosaic.Pointwise Idealize.SL.Sem

/-- The reference's product. -/
theorem prod_eq (x : S8192x2048.Idx → EReal) (w : S4x2048x14880.Idx → EReal) (r l : Fin 8192) :
    val_main_v4 (F := Ideal) x w (ix2 r l) = QkvzValue.prod x w r l := by
  rw [val_main_v4_apply]
  refine Finset.sum_congr rfl fun k _ => ?_
  rw [val_main_v3_apply, val_main_v2_apply, val_main_v1_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 14880 + l.val) / 14880 % 2048 = k.val; omega
    | ⟨2, _⟩ => show (k.val * 14880 + l.val) % 14880 = l.val; omega

/-- The reference's result is the kernel's. -/
theorem ref_eq (x : S8192x2048.Idx → EReal) (w : S4x2048x14880.Idx → EReal) :
    val_main_v4 (F := Ideal) x w = QkvzValue.result x w := by
  funext y
  obtain ⟨r, l, rfl⟩ : ∃ (r : Fin 8192) (l : Fin 8192), y = ix2 r l := ⟨y 0, y 1, by funext k; fin_cases k <;> rfl⟩
  exact prod_eq x w r l

/-- The projection to queries, keys, values and output gates and its reference end with equal results. -/
theorem algebraic : @Cert.algebraic_QkvzIdeal_QkvzRefIdeal Cert.QkvzIdeal.Gen.facts Cert.QkvzRefIdeal.Gen.facts :=
  fun m ρ m' ρ' _ hag => ⟨fun c => QkvzValue.result (QkvzValue.rows m c) (QkvzValue.wts m c), QkvzValue.run m ρ,
    (θ_run Cert.QkvzRefIdeal.defs _ _).mono (fun r h c => ⟨by
      rw [(h c).1, val_main_v4_eq, (hag c).1, (hag c).2]
      exact ref_eq _ _, (h c).2⟩)
    (Cert.QkvzRefIdeal.Value.run (F := Ideal) m' ρ')⟩

end Cert.QkvzClaim

end
-- ==== Proof.RestValue.lean ====
/- The projection of the remaining columns: the array it leaves, as one function of the rows and the weights. -/
module

public import proofs.«01_k».proof.Proof.RestIdealRun
public import Idealize.ShloMosaic.Lib.Pointwise
public import Idealize.ShloMosaic.Lib.Pipeline.Value
public import Idealize.ShloMosaic.Lib.Pipeline.ReadBack

@[expose] public section

set_option maxRecDepth 16384

noncomputable section

namespace Cert.RestValue

open Cert.RestIdeal Cert.RestIdeal.Gen Cert.RestIdeal.Hand Idealize.ShloMosaic Idealize.ShloMosaic.TcCoe Idealize.ShloMosaic.Tactic Idealize.ShloMosaic.Pointwise Idealize.SL.Sem
open Idealize.ShloMosaic.Pipeline (Dat RDat)

theorem hz : (![0, 0] : Fin 2 → Nat) = fun _ => 0 := funext fun a => by fin_cases a <;> rfl
theorem hz3 : (![0, 0, 0] : Fin 3 → Nat) = fun _ => 0 := funext fun a => by fin_cases a <;> rfl

/-- A row times a column. -/
def dot (x0 : Vec Ideal S1024x2048 .bf16) (w : Vec Ideal S1024x2048 .bf16) (r l : Fin 1024) : EReal := ∑ k : Fin 2048, x0 (ix2 r k) * w (ix2 l k)

/-- The rows times the stored weights. -/
def block (x0 : Vec Ideal S1024x2048 .bf16) (w : Vec Ideal S1024x2048 .bf16) : Vec Ideal S1024x1024 .f32 := fun y =>
  dot x0 w (y 0) (y 1)

/-- The printed product. -/
theorem pay2_eq (x0 : Vec Ideal S1024x2048 .bf16) (w : Vec Ideal S1024x2048 .bf16) : k0_pay2 (F := Ideal) x0 w = block x0 w := by
  funext y
  obtain ⟨a, b, rfl⟩ : ∃ (a : Fin 1024) (b : Fin 1024), y = ix2 a b := ⟨y 0, y 1, by funext k; fin_cases k <;> rfl⟩
  pointwise [k0_pay2]
  rfl

/-- The weights as first stored: the block from its row 32 on, then the 32 rows that follow the block. -/
def stored (x1 : Vec Ideal S1x1024x2048 .f32) (x2 : Vec Ideal S1x32x2048 .f32) : Vec Ideal S1024x2048 .bf16 := fun y =>
  if h : (y 0).val < 992 then x1 (ix3 0 (⟨32 + (y 0).val, by omega⟩ : Fin 1024) (y 1))
  else x2 (ix3 0 (⟨(y 0).val - 992, by have h0 : (y 0).val < 1024 := (y 0).isLt; omega⟩ : Fin 32) (y 1))

/-- The same with the 128 extra rows over rows 512 to 639. -/
def storedLast (x1 : Vec Ideal S1x1024x2048 .f32) (x2 : Vec Ideal S1x32x2048 .f32) (x3 : Vec Ideal S1x128x2048 .f32) : Vec Ideal S1024x2048 .bf16 := fun y =>
  if h : 512 ≤ (y 0).val ∧ (y 0).val < 640 then x3 (ix3 0 (⟨(y 0).val - 512, by omega⟩ : Fin 128) (y 1)) else stored x1 x2 y

/-- A group of 256 rows of the block, as stored. -/
theorem group_at (pay : Vec Ideal S1x256x2048 .f32 → FVec Ideal S256x2048 .bf16)
    (hp : ∀ v (a : Fin 256) (b : Fin 2048), pay v (ix2 a b) = v (ix3 0 a b))
    (x1 : Vec Ideal S1x1024x2048 .f32) (x2 : Vec Ideal S1x32x2048 .f32) (o q : ℕ) (hq : q = 32 + o) (ho : o + 256 ≤ 992) (h) (h') (x : S256x2048.Idx) :
    pay (View.ld x1 (Rect.unit (s := S1x1024x2048) ![0, q, 0] S1x256x2048.size h)) x
      = stored x1 x2 ((Rect.unit (s := S1024x2048) ![o, 0] S256x2048.size h').emb x) := by
  subst hq
  obtain ⟨a, b, rfl⟩ : ∃ (a : Fin 256) (b : Fin 2048), x = ix2 a b := ⟨x 0, x 1, by funext k; fin_cases k <;> rfl⟩
  rw [hp]
  have e : ((Rect.unit (s := S1024x2048) ![o, 0] S256x2048.size h').emb (ix2 a b) 0).val = o + a.val := by
    show o + 1 * a.val = o + a.val; omega
  unfold stored
  rw [dif_pos (by rw [e]; omega)]
  refine congrArg x1 ?_
  funext k
  refine Fin.ext ?_
  match k with
  | ⟨0, _⟩ => rfl
  | ⟨1, _⟩ => show 32 + o + 1 * a.val = 32 + (o + 1 * a.val); omega
  | ⟨2, _⟩ => rfl

/-- The last group, of 224 rows. -/
theorem group224_at (x1 : Vec Ideal S1x1024x2048 .f32) (x2 : Vec Ideal S1x32x2048 .f32) (h) (h') (x : S224x2048.Idx) :
    k0_pay6 (F := Ideal) (View.ld x1 (Rect.unit (s := S1x1024x2048) ![0, 800, 0] S1x224x2048.size h)) x
      = stored x1 x2 ((Rect.unit (s := S1024x2048) ![768, 0] S224x2048.size h').emb x) := by
  obtain ⟨a, b, rfl⟩ : ∃ (a : Fin 224) (b : Fin 2048), x = ix2 a b := ⟨x 0, x 1, by funext k; fin_cases k <;> rfl⟩
  have hp : ∀ v : Vec Ideal S1x224x2048 .f32, k0_pay6 (F := Ideal) v (ix2 a b) = v (ix3 0 a b) := by
    intro v
    pointwise [k0_pay6]
  rw [hp]
  have e : ((Rect.unit (s := S1024x2048) ![768, 0] S224x2048.size h').emb (ix2 a b) 0).val = 768 + a.val := by
    show 768 + 1 * a.val = 768 + a.val; omega
  unfold stored
  rw [dif_pos (by rw [e]; omega)]
  refine congrArg x1 ?_
  funext k
  refine Fin.ext ?_
  match k with
  | ⟨0, _⟩ => rfl
  | ⟨1, _⟩ => show 800 + 1 * a.val = 32 + (768 + 1 * a.val); omega
  | ⟨2, _⟩ => rfl

/-- The rows that follow the block. -/
theorem trail_at (x1 : Vec Ideal S1x1024x2048 .f32) (x2 : Vec Ideal S1x32x2048 .f32) (h') (x : S32x2048.Idx) :
    k0_pay7 (F := Ideal) x2 x = stored x1 x2 ((Rect.unit (s := S1024x2048) ![992, 0] S32x2048.size h').emb x) := by
  obtain ⟨a, b, rfl⟩ : ∃ (a : Fin 32) (b : Fin 2048), x = ix2 a b := ⟨x 0, x 1, by funext k; fin_cases k <;> rfl⟩
  have hp : k0_pay7 (F := Ideal) x2 (ix2 a b) = x2 (ix3 0 a b) := by pointwise [k0_pay7]
  rw [hp]
  have e : ((Rect.unit (s := S1024x2048) ![992, 0] S32x2048.size h').emb (ix2 a b) 0).val = 992 + a.val := by
    show 992 + 1 * a.val = 992 + a.val; omega
  unfold stored
  rw [dif_neg (by rw [e]; omega)]
  refine congrArg x2 ?_
  funext k
  refine Fin.ext ?_
  match k with
  | ⟨0, _⟩ => rfl
  | ⟨1, _⟩ => show a.val = 992 + 1 * a.val - 992; omega
  | ⟨2, _⟩ => show b.val = 0 + 1 * b.val; omega

/-- The extra rows. -/
theorem extra_at (x1 : Vec Ideal S1x1024x2048 .f32) (x2 : Vec Ideal S1x32x2048 .f32) (x3 : Vec Ideal S1x128x2048 .f32) (h') (x : S128x2048.Idx) :
    k0_pay1 (F := Ideal) x3 x = storedLast x1 x2 x3 ((Rect.unit (s := S1024x2048) ![512, 0] S128x2048.size h').emb x) := by
  obtain ⟨a, b, rfl⟩ : ∃ (a : Fin 128) (b : Fin 2048), x = ix2 a b := ⟨x 0, x 1, by funext k; fin_cases k <;> rfl⟩
  have hp : k0_pay1 (F := Ideal) x3 (ix2 a b) = x3 (ix3 0 a b) := by pointwise [k0_pay1]
  rw [hp]
  have e : ((Rect.unit (s := S1024x2048) ![512, 0] S128x2048.size h').emb (ix2 a b) 0).val = 512 + a.val := by
    show 512 + 1 * a.val = 512 + a.val; omega
  unfold storedLast
  rw [dif_pos (by rw [e]; omega)]
  refine congrArg x3 ?_
  funext k
  refine Fin.ext ?_
  match k with
  | ⟨0, _⟩ => rfl
  | ⟨1, _⟩ => show a.val = 512 + 1 * a.val - 512; omega
  | ⟨2, _⟩ => show b.val = 0 + 1 * b.val; omega

/-- The extra rows stored over rows 512 to 639, the rest as first stored. -/
theorem over_at (x1 : Vec Ideal S1x1024x2048 .f32) (x2 : Vec Ideal S1x32x2048 .f32) (x3 : Vec Ideal S1x128x2048 .f32)
    (L : List (View.Piece (Elt Ideal) S1024x2048 .bf16)) (w : S128x2048.Idx → Elt Ideal .bf16) (h')
    (hL : View.PiecesOf (stored x1 x2) L)
    (hw : ∀ x, w x = storedLast x1 x2 x3 ((Rect.unit (s := S1024x2048) ![512, 0] S128x2048.size h').emb x)) (y : S1024x2048.Idx)
    (hc : ∃ p ∈ ((⟨Rect.unit (s := S1024x2048) ![512, 0] S128x2048.size h', w⟩ : View.Piece (Elt Ideal) S1024x2048 .bf16) :: L), y ∈ p.1.set) :
    View.canon ((⟨Rect.unit (s := S1024x2048) ![512, 0] S128x2048.size h', w⟩ : View.Piece (Elt Ideal) S1024x2048 .bf16) :: L) y = storedLast x1 x2 x3 y := by
  have hy : y ∈ (Rect.unit (s := S1024x2048) ![512, 0] S128x2048.size h').set ↔ 512 ≤ (y 0).val ∧ (y 0).val < 640 := by
    rw [Rect.mem_set_unit]
    constructor
    · intro h
      have h0 : 512 ≤ (y 0).val ∧ (y 0).val < 512 + 128 := h 0
      omega
    · intro h a
      match a with
      | ⟨0, _⟩ => show 512 ≤ (y 0).val ∧ (y 0).val < 512 + 128; omega
      | ⟨1, _⟩ => show 0 ≤ (y 1).val ∧ (y 1).val < 0 + 2048; have h1 : (y 1).val < 2048 := (y 1).isLt; omega
  by_cases h : 512 ≤ (y 0).val ∧ (y 0).val < 640
  · obtain ⟨x, rfl⟩ : ∃ x : S128x2048.Idx, (Rect.unit (s := S1024x2048) ![512, 0] S128x2048.size h').emb x = y := by
      refine ⟨ix2 (⟨(y 0).val - 512, by omega⟩ : Fin 128) (y 1), ?_⟩
      funext a
      refine Fin.ext ?_
      match a with
      | ⟨0, _⟩ => show 512 + 1 * ((y 0).val - 512) = (y 0).val; omega
      | ⟨1, _⟩ => show 0 + 1 * (y 1).val = (y 1).val; omega
    exact (View.canon_cons_emb (Val := Elt Ideal) (e := .bf16) (Rect.unit (s := S1024x2048) ![512, 0] S128x2048.size h') w L x).trans (hw x)
  · have e : storedLast x1 x2 x3 y = stored x1 x2 y := dif_neg h
    refine Eq.trans ?_ e.symm
    refine (View.canon_cons_of_not_mem (⟨Rect.unit (s := S1024x2048) ![512, 0] S128x2048.size h', w⟩ : View.Piece (Elt Ideal) S1024x2048 .bf16) L (fun hm => h (hy.mp hm))).trans ?_
    refine View.canon_apply_of_pieces _ _ (View.PiecesOf.mem hL) y ?_
    obtain ⟨p, hp, hpy⟩ := hc
    rcases List.mem_cons.mp hp with rfl | hp
    · exact absurd (hy.mp hpy) h
    · exact ⟨p, hp, hpy⟩

theorem pay3_at (v : Vec Ideal S1x256x2048 .f32) (a : Fin 256) (b : Fin 2048) : k0_pay3 (F := Ideal) v (ix2 a b) = v (ix3 0 a b) := by
  pointwise [k0_pay3]
theorem pay4_at (v : Vec Ideal S1x256x2048 .f32) (a : Fin 256) (b : Fin 2048) : k0_pay4 (F := Ideal) v (ix2 a b) = v (ix3 0 a b) := by
  pointwise [k0_pay4]
theorem pay5_at (v : Vec Ideal S1x256x2048 .f32) (a : Fin 256) (b : Fin 2048) : k0_pay5 (F := Ideal) v (ix2 a b) = v (ix3 0 a b) := by
  pointwise [k0_pay5]

/-! ## The cases -/

section Cases

variable (c : Dev nD) (i : grid0.Coords) (arg2 : Memref sig .tc .vmem S1024x2048 .bf16) (harg2 : arg2.IsWhole) (arg3 : Memref sig .tc .vmem S1x1024x2048 .f32) (harg3 : arg3.IsWhole)
    (arg4 : Memref sig .tc .vmem S1x32x2048 .f32) (harg4 : arg4.IsWhole) (arg5 : Memref sig .tc .vmem S1x128x2048 .f32) (harg5 : arg5.IsWhole)
    (arg6 : Memref sig .tc .vmem S1024x1024 .f32) (harg6 : arg6.IsWhole) (arg7 : Memref sig .tc .vmem S1024x2048 .bf16) (harg7 : arg7.IsWhole)
    (x0 : Vec Ideal S1024x2048 .bf16) (x1 : Vec Ideal S1x1024x2048 .f32) (x2 : Vec Ideal S1x32x2048 .f32) (x3 : Vec Ideal S1x128x2048 .f32) (xs0 : Vec Ideal S1024x2048 .bf16)

/-- A point that keeps the weights. -/
theorem keep (hc0 : ¬cond0 i) :
    VO.read (Elt Ideal) (VO.writes (Elt Ideal) VO.junk (bodyRunC c i arg2 harg2 arg3 harg3 arg4 harg4 arg5 harg5 arg6 harg6 arg7 harg7 hc0 x0 x1 x2 x3 xs0).1) = block x0 xs0 := by
  rw [View.read_writes_eq_canon _ _ _ (coverC c i arg2 harg2 arg3 harg3 arg4 harg4 arg5 harg5 arg6 harg6 arg7 harg7 x0 x1 x2 x3 xs0 hc0)]
  unfold bodyRunC
  dsimp only
  sl_unfold_words
  rw [View.canon_unit_zero hz]
  simp only [View.readAt_eq_ld, harg2.read_unread, harg7.read_unread, View.ld_unit_zero (S := S1024x2048) hz]
  exact pay2_eq x0 xs0

/-- What the first point of a column block leaves in the scratch. -/
theorem storeA (hc0 : cond0 i) (hc1 : ¬cond1 i) :
    VS.read (Elt Ideal) (VS.writes (Elt Ideal) VS.junk (bodyRunA c i arg2 harg2 arg3 harg3 arg4 harg4 arg5 harg5 arg6 harg6 arg7 harg7 hc0 hc1 x0 x1 x2 x3).2.1) = stored x1 x2 := by
  have hcov := scoverA c i arg2 harg2 arg3 harg3 arg4 harg4 arg5 harg5 arg6 harg6 arg7 harg7 x0 x1 x2 x3 hc0 hc1
  rw [View.read_writes_eq_canon _ _ _ hcov]
  funext y
  refine View.canon_apply_of_pieces _ _ ?_ y (hcov y)
  refine View.PiecesOf.mem ?_
  unfold bodyRunA
  dsimp only
  sl_unfold_words
  simp only [View.readAt_eq_ld, harg3.read_unread, harg4.read_unread, View.ld_unit_zero (S := S1x32x2048) hz3]
  exact ⟨trail_at x1 x2 inb_S1024x2048_S32x2048_992_0,
    group224_at x1 x2 inb_S1x1024x2048_S1x224x2048_0_800_0 inb_S1024x2048_S224x2048_768_0,
    group_at (k0_pay5 (F := Ideal)) pay5_at x1 x2 512 544 rfl (by omega) inb_S1x1024x2048_S1x256x2048_0_544_0 inb_S1024x2048_S256x2048_512_0,
    group_at (k0_pay4 (F := Ideal)) pay4_at x1 x2 256 288 rfl (by omega) inb_S1x1024x2048_S1x256x2048_0_288_0 inb_S1024x2048_S256x2048_256_0,
    group_at (k0_pay3 (F := Ideal)) pay3_at x1 x2 0 32 rfl (by omega) inb_S1x1024x2048_S1x256x2048_0_32_0 inb_S1024x2048_S256x2048_0_0, trivial⟩

/-- The same at the last column block. -/
theorem storeB (hc0 : cond0 i) (hc1 : cond1 i) :
    VS.read (Elt Ideal) (VS.writes (Elt Ideal) VS.junk (bodyRunB c i arg2 harg2 arg3 harg3 arg4 harg4 arg5 harg5 arg6 harg6 arg7 harg7 hc0 hc1 x0 x1 x2 x3).2.1) = storedLast x1 x2 x3 := by
  have hcov := scoverB c i arg2 harg2 arg3 harg3 arg4 harg4 arg5 harg5 arg6 harg6 arg7 harg7 x0 x1 x2 x3 hc0 hc1
  rw [View.read_writes_eq_canon _ _ _ hcov]
  funext y
  have hcovy := hcov y
  revert hcovy
  unfold bodyRunB
  dsimp only
  sl_unfold_words
  simp only [View.readAt_eq_ld, harg3.read_unread, harg4.read_unread, harg5.read_unread, View.ld_unit_zero (S := S1x32x2048) hz3, View.ld_unit_zero (S := S1x128x2048) hz3]
  intro hcovy
  refine over_at x1 x2 x3 _ _ inb_S1024x2048_S128x2048_512_0 ?_ (extra_at x1 x2 x3 _) y hcovy
  exact ⟨trail_at x1 x2 inb_S1024x2048_S32x2048_992_0,
    group224_at x1 x2 inb_S1x1024x2048_S1x224x2048_0_800_0 inb_S1024x2048_S224x2048_768_0,
    group_at (k0_pay5 (F := Ideal)) pay5_at x1 x2 512 544 rfl (by omega) inb_S1x1024x2048_S1x256x2048_0_544_0 inb_S1024x2048_S256x2048_512_0,
    group_at (k0_pay4 (F := Ideal)) pay4_at x1 x2 256 288 rfl (by omega) inb_S1x1024x2048_S1x256x2048_0_288_0 inb_S1024x2048_S256x2048_256_0,
    group_at (k0_pay3 (F := Ideal)) pay3_at x1 x2 0 32 rfl (by omega) inb_S1x1024x2048_S1x256x2048_0_32_0 inb_S1024x2048_S256x2048_0_0, trivial⟩

/-- A first point of a column block. -/
theorem firstA (hc0 : cond0 i) (hc1 : ¬cond1 i) :
    VO.read (Elt Ideal) (VO.writes (Elt Ideal) VO.junk (bodyRunA c i arg2 harg2 arg3 harg3 arg4 harg4 arg5 harg5 arg6 harg6 arg7 harg7 hc0 hc1 x0 x1 x2 x3).1)
      = block x0 (VS.read (Elt Ideal) (VS.writes (Elt Ideal) VS.junk (bodyRunA c i arg2 harg2 arg3 harg3 arg4 harg4 arg5 harg5 arg6 harg6 arg7 harg7 hc0 hc1 x0 x1 x2 x3).2.1)) := by
  rw [View.read_writes_eq_canon _ _ _ (coverA c i arg2 harg2 arg3 harg3 arg4 harg4 arg5 harg5 arg6 harg6 arg7 harg7 x0 x1 x2 x3 hc0 hc1),
    View.read_writes_eq_canon _ _ _ (scoverA c i arg2 harg2 arg3 harg3 arg4 harg4 arg5 harg5 arg6 harg6 arg7 harg7 x0 x1 x2 x3 hc0 hc1)]
  unfold bodyRunA
  dsimp only
  sl_unfold_words
  rw [View.canon_unit_zero hz]
  simp only [View.readAt_eq_ld, harg2.read_unread, View.ld_unit_zero (S := S1024x2048) hz, View.readCov_eq_canon']
  exact (congrArg (k0_pay2 x0) (View.ld_unit_zero (S := S1024x2048) hz _ _)).trans (pay2_eq _ _)

/-- The first point of the last column block. -/
theorem firstB (hc0 : cond0 i) (hc1 : cond1 i) :
    VO.read (Elt Ideal) (VO.writes (Elt Ideal) VO.junk (bodyRunB c i arg2 harg2 arg3 harg3 arg4 harg4 arg5 harg5 arg6 harg6 arg7 harg7 hc0 hc1 x0 x1 x2 x3).1)
      = block x0 (VS.read (Elt Ideal) (VS.writes (Elt Ideal) VS.junk (bodyRunB c i arg2 harg2 arg3 harg3 arg4 harg4 arg5 harg5 arg6 harg6 arg7 harg7 hc0 hc1 x0 x1 x2 x3).2.1)) := by
  rw [View.read_writes_eq_canon _ _ _ (coverB c i arg2 harg2 arg3 harg3 arg4 harg4 arg5 harg5 arg6 harg6 arg7 harg7 x0 x1 x2 x3 hc0 hc1),
    View.read_writes_eq_canon _ _ _ (scoverB c i arg2 harg2 arg3 harg3 arg4 harg4 arg5 harg5 arg6 harg6 arg7 harg7 x0 x1 x2 x3 hc0 hc1)]
  unfold bodyRunB
  dsimp only
  sl_unfold_words
  rw [View.canon_unit_zero hz]
  simp only [View.readAt_eq_ld, harg2.read_unread, View.ld_unit_zero (S := S1024x2048) hz, View.readCov_eq_canon']
  exact (congrArg (k0_pay2 x0) (View.ld_unit_zero (S := S1024x2048) hz _ _)).trans (pay2_eq _ _)

end Cases

variable (m : (ℓ : Loc nD τ sig) → Buf (Elt Ideal) ℓ) (ρ : Dev nD → PrngReg)

theorem outC_eq (c : Dev nD) (t : Fin cfg0.N) (hc0 : ¬cond0 (grid0.coords t)) (d) (S : Vec Ideal S1024x2048 .bf16) :
    outC m c t hc0 d S = block (iblk m c 0 t) S := by
  unfold outC
  exact keep _ _ _ _ _ _ _ _ _ _ _ _ _ _ _ _ _ _ _ hc0

theorem soutA_eq (c : Dev nD) (t : Fin cfg0.N) (hc0 : cond0 (grid0.coords t)) (hc1 : ¬cond1 (grid0.coords t)) (d) :
    soutA m c t hc0 hc1 d = stored (X1 m c t d) (iblk m c 2 t) := by
  unfold soutA
  exact storeA _ _ _ _ _ _ _ _ _ _ _ _ _ _ _ _ _ _ hc0 hc1

theorem soutB_eq (c : Dev nD) (t : Fin cfg0.N) (hc0 : cond0 (grid0.coords t)) (hc1 : cond1 (grid0.coords t)) (d) :
    soutB m c t hc0 hc1 d = storedLast (X1 m c t d) (iblk m c 2 t) (X0_3 m c t) := by
  unfold soutB
  exact storeB _ _ _ _ _ _ _ _ _ _ _ _ _ _ _ _ _ _ hc0 hc1

theorem outA_eq (c : Dev nD) (t : Fin cfg0.N) (hc0 : cond0 (grid0.coords t)) (hc1 : ¬cond1 (grid0.coords t)) (d) :
    outA m c t hc0 hc1 d = block (iblk m c 0 t) (soutA m c t hc0 hc1 d) := by
  unfold outA soutA
  exact firstA _ _ _ _ _ _ _ _ _ _ _ _ _ _ _ _ _ _ hc0 hc1

theorem outB_eq (c : Dev nD) (t : Fin cfg0.N) (hc0 : cond0 (grid0.coords t)) (hc1 : cond1 (grid0.coords t)) (d) :
    outB m c t hc0 hc1 d = block (iblk m c 0 t) (soutB m c t hc0 hc1 d) := by
  unfold outB soutB
  exact firstB _ _ _ _ _ _ _ _ _ _ _ _ _ _ _ _ _ _ hc0 hc1

/-! ## The grid -/

/-- The rows. -/
abbrev rows (c : Dev nD) : S8192x2048.Idx → EReal := m ((c : Thread nD τ).loc main_arg0)

/-- The weights. -/
abbrev wts (c : Dev nD) : S4x2048x14880.Idx → EReal := m ((c : Thread nD τ).loc main_arg1)

/-- The column of the weights that a column of the result takes: 8224 and on, then 8192 and on. -/
def src (l : ℕ) : ℕ := if l < 6656 then 8224 + l else 1536 + l

theorem src_lt {l : ℕ} (h : l < 6784) : src l < 14880 := by unfold src; split <;> omega

/-- The product of a row with its column of the last layer's weights. -/
def prod (x : S8192x2048.Idx → EReal) (w : S4x2048x14880.Idx → EReal) (r : Fin 8192) (l : Fin 6784) : EReal :=
  ∑ k : Fin 2048, x (ix2 r k) * w (ix3 3 k (⟨src l.val, src_lt l.isLt⟩ : Fin 14880))

/-- The whole result. -/
def result (x : S8192x2048.Idx → EReal) (w : S4x2048x14880.Idx → EReal) (y : S8192x6784.Idx) : EReal :=
  prod x w (y 0) (y 1)

theorem index0 : ∀ t : Fin cfg0.N, win0_0.index t 0 = t.val % 8 ∧ win0_0.index t 1 = 0 := by decide +kernel
theorem index1 : ∀ t : Fin cfg0.N, win0_1.index t 0 = 3 ∧ win0_1.index t 1 = 8 + t.val / 8 ∧ win0_1.index t 2 = 0 := by decide +kernel
theorem index2 : ∀ t : Fin cfg0.N, win0_2.index t 0 = 3 ∧ (t.val / 8 < 6 → win0_2.index t 1 = 288 + 32 * (t.val / 8)) ∧ win0_2.index t 2 = 0 := by decide +kernel
theorem index3 : ∀ t : Fin cfg0.N, win0_3.index t 0 = 3 ∧ win0_3.index t 1 = 64 ∧ win0_3.index t 2 = 0 := by decide +kernel
theorem index4 : ∀ t : Fin cfg0.N, win0_4.index t 0 = t.val % 8 ∧ win0_4.index t 1 = t.val / 8 := by decide +kernel
theorem xsize1 : ∀ t : Fin cfg0.N, (cfg0.win 1).xsize (cfg0.grid.coords t) 0 = 1
    ∧ (cfg0.win 1).xsize (cfg0.grid.coords t) 1 = (if t.val / 8 < 6 then 1024 else 544) ∧ (cfg0.win 1).xsize (cfg0.grid.coords t) 2 = 2048 := by decide +kernel
theorem xsize4 : ∀ t : Fin cfg0.N, (cfg0.win 4).xsize (cfg0.grid.coords t) 0 = 1024
    ∧ (cfg0.win 4).xsize (cfg0.grid.coords t) 1 = (if t.val / 8 < 6 then 1024 else 640) := by decide +kernel

/-- The block of rows. -/
theorem X0_apply (c : Dev nD) (t : Fin cfg0.N) (r : Fin 1024) (k : Fin 2048) :
    iblk m c 0 t (ix2 r k) = rows m c (ix2 (⟨1024 * (t.val % 8) + r.val, by omega⟩ : Fin 8192) k) := by
  refine (congrFun (V_main_arg0 m c) _).trans (congrArg (rows m c) ?_)
  funext a
  refine Fin.ext ?_
  match a with
  | ⟨0, _⟩ => show win0_0.index t 0 * 1024 + 1 * r.val = 1024 * (t.val % 8) + r.val; rw [(index0 t).1]; omega
  | ⟨1, _⟩ => show win0_0.index t 1 * 2048 + 1 * k.val = k.val; rw [(index0 t).2]; omega

/-- The weights as the grid finds them: transposed. -/
theorem V_main_v0 (c : Dev nD) : V m c main_v0 = transpose S4x14880x2048 [0, 2, 1] (wts m c) transposes_S4x2048x14880_S4x14880x2048_0_2_1 := by
  unfold_abbrev_sides
  after_results

theorem V_main_v0_apply (c : Dev nD) (z : S4x14880x2048.Idx) : V m c main_v0 z = wts m c (ix3 (z 0) (z 2) (z 1)) := by
  refine (congrFun (V_main_v0 m c) _).trans ?_
  obtain ⟨a, b, d, rfl⟩ : ∃ (a : Fin 4) (b : Fin 14880) (d : Fin 2048), z = ix3 a b d := ⟨z 0, z 1, z 2, by funext k; fin_cases k <;> rfl⟩
  pointwise

/-- The block of weights, where it lies in the weights. -/
theorem X1_apply (c : Dev nD) (t : Fin cfg0.N) (d) (l : Fin 1024) (hl : t.val / 8 < 6 ∨ l.val < 544) (n : Fin 14880)
    (hn : n.val = 1024 * (8 + t.val / 8) + l.val) (k : Fin 2048) :
    X1 m c t d (ix3 0 l k) = wts m c (ix3 3 k n) := by
  have hmov : (cfg0.win 1).moved (cfg0.grid.coords t) (ix3 0 l k) = true :=
    ((cfg0.win 1).moved_iff _ _).mpr fun a => by
      match a with
      | ⟨0, _⟩ => show 0 < (cfg0.win 1).xsize (cfg0.grid.coords t) 0; rw [(xsize1 t).1]; omega
      | ⟨1, _⟩ => show l.val < (cfg0.win 1).xsize (cfg0.grid.coords t) 1; rw [(xsize1 t).2.1]; split <;> omega
      | ⟨2, _⟩ => show k.val < (cfg0.win 1).xsize (cfg0.grid.coords t) 2; rw [(xsize1 t).2.2]; omega
  unfold X1 Pipeline.Window.fill
  rw [dif_pos hmov]
  refine (V_main_v0_apply m c _).trans (congrArg (wts m c) ?_)
  funext a
  refine Fin.ext ?_
  match a with
  | ⟨0, _⟩ => show win0_1.index t 0 * 1 + 1 * 0 = 3; rw [(index1 t).1]
  | ⟨1, _⟩ => show win0_1.index t 2 * 2048 + 1 * k.val = k.val; rw [(index1 t).2.2]; omega
  | ⟨2, _⟩ => show win0_1.index t 1 * 1024 + 1 * l.val = n.val; rw [(index1 t).2.1]; omega

/-- The rows that follow the block. -/
theorem X2_apply (c : Dev nD) (t : Fin cfg0.N) (ht : t.val / 8 < 6) (l : Fin 32) (n : Fin 14880)
    (hn : n.val = 9216 + 1024 * (t.val / 8) + l.val) (k : Fin 2048) :
    iblk m c 2 t (ix3 0 l k) = wts m c (ix3 3 k n) := by
  refine (V_main_v0_apply m c _).trans (congrArg (wts m c) ?_)
  funext a
  refine Fin.ext ?_
  match a with
  | ⟨0, _⟩ => show win0_2.index t 0 * 1 + 1 * 0 = 3; rw [(index2 t).1]
  | ⟨1, _⟩ => show win0_2.index t 2 * 2048 + 1 * k.val = k.val; rw [(index2 t).2.2]; omega
  | ⟨2, _⟩ => show win0_2.index t 1 * 32 + 1 * l.val = n.val; rw [(index2 t).2.1 ht]; omega

/-- The extra rows. -/
theorem X3_apply (c : Dev nD) (t : Fin cfg0.N) (l : Fin 128) (n : Fin 14880) (hn : n.val = 8192 + l.val) (k : Fin 2048) :
    X0_3 m c t (ix3 0 l k) = wts m c (ix3 3 k n) := by
  unfold X0_3 Pipeline.Window.fill
  rw [dif_pos (moved0_3 t _)]
  refine (V_main_v0_apply m c _).trans (congrArg (wts m c) ?_)
  funext a
  refine Fin.ext ?_
  match a with
  | ⟨0, _⟩ => show win0_3.index t 0 * 1 + 1 * 0 = 3; rw [(index3 t).1]
  | ⟨1, _⟩ => show win0_3.index t 2 * 2048 + 1 * k.val = k.val; rw [(index3 t).2.2]; omega
  | ⟨2, _⟩ => show win0_3.index t 1 * 128 + 1 * l.val = n.val; rw [(index3 t).2.1]; omega

/-- What the scratch may hold, at the rows whose columns the result has. -/
theorem scratch_at (c : Dev nD) (t : Fin cfg0.N) (S) (h : ScOK m c t.val S) (l : Fin 1024) (hl : 1024 * (t.val / 8) + l.val < 6784) (k : Fin 2048) :
    S (ix2 l k) = wts m c (ix3 3 k (⟨src (1024 * (t.val / 8) + l.val), src_lt hl⟩ : Fin 14880)) := by
  obtain ⟨t0, h8, hd, h⟩ := h
  have hN : t0.val < 56 := lt_of_lt_of_eq t0.isLt (show cfg0.N = 56 from N_0)
  rcases h with ⟨hc0, hc1, d, rfl⟩ | ⟨hc0, hc1, d, rfl⟩
  · have hj : t0.val / 8 < 6 := by
      have := mt (hcond1 t0).mpr hc1
      omega
    rw [soutA_eq]
    unfold stored
    have hs : src (1024 * (t.val / 8) + l.val) = 8224 + (1024 * (t.val / 8) + l.val) := by unfold src; rw [if_pos (by omega)]
    by_cases h' : l.val < 992
    · refine (dif_pos h').trans ?_
      exact X1_apply m c t0 d _ (Or.inl hj) _ (by show src _ = 1024 * (8 + t0.val / 8) + (32 + l.val); rw [hs]; omega) k
    · refine (dif_neg h').trans ?_
      exact X2_apply m c t0 hj _ _ (by show src _ = 9216 + 1024 * (t0.val / 8) + (l.val - 992); rw [hs]; omega) k
  · have hj : t0.val / 8 = 6 := by
      have := (hcond1 t0).mp hc1
      omega
    rw [soutB_eq]
    unfold storedLast
    by_cases h' : 512 ≤ l.val ∧ l.val < 640
    · refine (dif_pos h').trans ?_
      refine X3_apply m c t0 _ _ ?_ k
      show src _ = 8192 + (l.val - 512)
      unfold src; rw [if_neg (by omega)]; omega
    · refine (dif_neg h').trans ?_
      have h2 : l.val < 512 := by omega
      unfold stored
      refine (dif_pos (show l.val < 992 by omega)).trans ?_
      refine X1_apply m c t0 d _ (Or.inr (show 32 + l.val < 544 by omega)) _ ?_ k
      show src _ = 1024 * (8 + t0.val / 8) + (32 + l.val)
      unfold src; rw [if_pos (by omega)]; omega

/-- What a point may leave in the result's buffer, at the columns that the result has. -/
theorem out_at (c : Dev nD) (t : Fin cfg0.N) (X) (h : OutOK m c t X) (r l : Fin 1024) (hl : 1024 * (t.val / 8) + l.val < 6784) :
    X (ix2 r l) = prod (rows m c) (wts m c) (⟨1024 * (t.val % 8) + r.val, by omega⟩ : Fin 8192) (⟨1024 * (t.val / 8) + l.val, hl⟩ : Fin 6784) := by
  obtain ⟨S, hS, rfl⟩ : ∃ S, ScOK m c t.val S ∧ X = block (iblk m c 0 t) S := by
    rcases h with ⟨hc0, hc1, d, rfl⟩ | ⟨hc0, hc1, d, rfl⟩ | ⟨hc0, d, S, hS, rfl⟩
    · exact ⟨_, ⟨t, (hcond0 t).mp hc0, rfl, Or.inl ⟨hc0, hc1, d, rfl⟩⟩, outA_eq m c t hc0 hc1 d⟩
    · exact ⟨_, ⟨t, (hcond0 t).mp hc0, rfl, Or.inr ⟨hc0, hc1, d, rfl⟩⟩, outB_eq m c t hc0 hc1 d⟩
    · exact ⟨S, hS, outC_eq m c t hc0 d S⟩
  show dot (iblk m c 0 t) S r l = _
  unfold dot prod
  exact Finset.sum_congr rfl fun k _ => congrArg₂ (fun a b : EReal => a * b) (X0_apply m c t r k) (scratch_at m c t S hS l hl k)

/-- What a point writes back is its block of the result. -/
theorem flushed_eq (c : Dev nD) (t : Fin cfg0.N) (X) (h : OutOK m c t X) :
    (cfg0.win 4).cut (cfg0.grid.coords t) X = ((cfg0.win 4).blk t).view.read (Elt Ideal) (result (rows m c) (wts m c)) := by
  have hN : t.val < 56 := lt_of_lt_of_eq t.isLt (show cfg0.N = 56 from N_0)
  funext y
  have h0 : (y 0).val < (cfg0.win 4).xsize (cfg0.grid.coords t) 0 := (y 0).isLt
  have h1 : (y 1).val < (cfg0.win 4).xsize (cfg0.grid.coords t) 1 := (y 1).isLt
  rw [(xsize4 t).1] at h0
  rw [(xsize4 t).2] at h1
  have hl : 1024 * (t.val / 8) + (y 1).val < 6784 := by split at h1 <;> omega
  have h1' : (y 1).val < 1024 := by split at h1 <;> omega
  have e0 : (⟨1024 * (t.val % 8) + (y 0).val, by omega⟩ : Fin 8192) = ((cfg0.win 4).blk t).view.emb y 0 := Fin.ext (by
    show 1024 * (t.val % 8) + (y 0).val = win0_4.index t 0 * 1024 + 1 * (y 0).val; rw [(index4 t).1]; omega)
  have e1 : (⟨1024 * (t.val / 8) + (y 1).val, hl⟩ : Fin 6784) = ((cfg0.win 4).blk t).view.emb y 1 := Fin.ext (by
    show 1024 * (t.val / 8) + (y 1).val = win0_4.index t 1 * 1024 + 1 * (y 1).val; rw [(index4 t).2]; omega)
  have hx : (cfg0.win 4).xinj (cfg0.grid.coords t) y = ix2 (⟨(y 0).val, h0⟩ : Fin 1024) (⟨(y 1).val, h1'⟩ : Fin 1024) := by
    funext a
    match a with
    | ⟨0, _⟩ => rfl
    | ⟨1, _⟩ => rfl
  have ho := out_at m c t X h ⟨(y 0).val, h0⟩ ⟨(y 1).val, h1'⟩ hl
  refine (congrArg X hx).trans (ho.trans ?_)
  exact congrArg₂ (prod (rows m c) (wts m c)) e0 e1

/-- The blocks cover the result. -/
theorem cover (i : S8192x6784.Idx) : ∃ t : Fin cfg0.N, (cfg0.win 4).flush t = true ∧ i ∈ ((cfg0.win 4).blk t).view.set := by
  have h0 : (i 0).val < 8192 := (i 0).isLt
  have h1 : (i 1).val < 6784 := (i 1).isLt
  obtain ⟨t, ht⟩ : ∃ t : Fin cfg0.N, t.val = 8 * ((i 1).val / 1024) + (i 0).val / 1024 := ⟨⟨_, by show _ < 56; omega⟩, rfl⟩
  refine ⟨t, flush0_4 _, ?_⟩
  show i ∈ ((View.whole main_v1).slice (win0_4.rect t)).set
  rw [View.set_slice_whole, Rect.mem_set_unit]
  intro a
  match a with
  | ⟨0, _⟩ =>
    show win0_4.index t 0 * 1024 ≤ (i 0).val ∧ (i 0).val < win0_4.index t 0 * 1024 + (cfg0.win 4).xsize (cfg0.grid.coords t) 0
    rw [(index4 t).1, (xsize4 t).1]; omega
  | ⟨1, _⟩ =>
    show win0_4.index t 1 * 1024 ≤ (i 1).val ∧ (i 1).val < win0_4.index t 1 * 1024 + (cfg0.win 4).xsize (cfg0.grid.coords t) 1
    rw [(index4 t).2, (xsize4 t).2]; split <;> omega

/-- The result array of the run. -/
theorem value : θ_run defs (onTc (τ := τ) (main (F := Ideal))) ⟨m, fun _ => 0, ρ⟩ fun r => ∀ c : Dev nD,
      r.2.mem ((c : Thread nD τ).loc main_v1) = result (rows m c) (wts m c) :=
  (θ_run defs _ _).mono (fun r h c => by
      obtain ⟨after, hL, hA⟩ := RDat.FramePost.exists_exact h.1 c
      refine (hA 4).trans (((rdat m c).withAfter after).arrAt_eq_of_cover 4 _ (fun t hf => ?_) cover)
      exact flushed_eq m c t _ ((dats m 0 c).toRRel_leaves (w := 4) rfl (hL 4 t hf))) (run_main_quiescent m ρ)

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v1) = result (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨h.1 c, h.2.1 c⟩) (θ_run_and (value m ρ) (frame m ρ))

end Cert.RestValue

end
-- ==== Proof.RestClaim.lean ====
/- The projection of the remaining columns's value claim: equality with the reference. -/
module

public import proofs.«01_k».proof.Defs
public import proofs.«01_k».proof.Proof.RestValue
public import proofs.«01_k».proof.Proof.Gen.RestRefIdeal.Read
public import proofs.«01_k».proof.Proof.Gen.RestRefIdeal.Run

@[expose] public section

set_option maxRecDepth 16384

noncomputable section

namespace Cert.RestClaim

open Cert.RestRefIdeal Cert.RestRefIdeal.Gen Cert.RestRefIdeal.Read Idealize.ShloMosaic Idealize.ShloMosaic.Tactic Idealize.ShloMosaic.Pointwise Idealize.SL.Sem

/-- The last layer's weights as a matrix. -/
theorem matrix_at (w : S4x2048x14880.Idx → EReal) (k : Fin 2048) (n : Fin 14880) :
    val_main_v1 (F := Ideal) w (ix2 k n) = w (ix3 3 k n) := by
  rw [val_main_v1_apply, val_main_v0_apply]
  refine congrArg w ?_
  funext a
  refine Fin.ext ?_
  match a with
  | ⟨0, _⟩ => rfl
  | ⟨1, _⟩ => show (k.val * 14880 + n.val) / 14880 % 2048 = k.val; omega
  | ⟨2, _⟩ => show (k.val * 14880 + n.val) % 14880 = n.val; omega

/-- The columns side by side. -/
theorem columns_at (w : S4x2048x14880.Idx → EReal) (k : Fin 2048) (l : Fin 6784) :
    val_main_v5 (F := Ideal) w (ix2 k l) = w (ix3 3 k (⟨RestValue.src l.val, RestValue.src_lt l.isLt⟩ : Fin 14880)) := by
  unfold val_main_v5
  rw [concatenate_pair_apply]
  by_cases h : l.val < 6656
  · refine (dif_pos h).trans ?_
    rw [val_main_v3_apply]
    refine Eq.trans (congrArg (val_main_v1 (F := Ideal) w) ?_) (matrix_at w k _)
    funext a
    refine Fin.ext ?_
    match a with
    | ⟨0, _⟩ => rfl
    | ⟨1, _⟩ => show 8224 + l.val = RestValue.src l.val; unfold RestValue.src; rw [if_pos h]
  · refine (dif_neg h).trans ?_
    rw [val_main_v4_apply]
    refine Eq.trans (congrArg (val_main_v1 (F := Ideal) w) ?_) (matrix_at w k _)
    funext a
    refine Fin.ext ?_
    match a with
    | ⟨0, _⟩ => rfl
    | ⟨1, _⟩ => show 8192 + (l.val - 6656) = RestValue.src l.val; unfold RestValue.src; rw [if_neg h]; omega

/-- The reference's product. -/
theorem prod_eq (x : S8192x2048.Idx → EReal) (w : S4x2048x14880.Idx → EReal) (r : Fin 8192) (l : Fin 6784) :
    val_main_v6 (F := Ideal) x w (ix2 r l) = RestValue.prod x w r l := by
  rw [val_main_v6_apply]
  refine Finset.sum_congr rfl fun k _ => ?_
  refine congrArg₂ (· * ·) ?_ ?_
  · rw [val_main_v2_apply]
    refine congrArg x ?_
    funext a
    match a with
    | ⟨0, _⟩ => rfl
    | ⟨1, _⟩ => rfl
  · refine Eq.trans (congrArg (val_main_v5 (F := Ideal) w) ?_) (columns_at w k l)
    funext a
    match a with
    | ⟨0, _⟩ => rfl
    | ⟨1, _⟩ => rfl

/-- The reference's result is the kernel's. -/
theorem ref_eq (x : S8192x2048.Idx → EReal) (w : S4x2048x14880.Idx → EReal) :
    val_main_v6 (F := Ideal) x w = RestValue.result x w := by
  funext y
  obtain ⟨r, l, rfl⟩ : ∃ (r : Fin 8192) (l : Fin 6784), y = ix2 r l := ⟨y 0, y 1, by funext k; fin_cases k <;> rfl⟩
  exact prod_eq x w r l

/-- The projection of the remaining columns and its reference end with equal results. -/
theorem algebraic : @Cert.algebraic_RestIdeal_RestRefIdeal Cert.RestIdeal.Gen.facts Cert.RestRefIdeal.Gen.facts :=
  fun m ρ m' ρ' _ hag => ⟨fun c => RestValue.result (RestValue.rows m c) (RestValue.wts m c), RestValue.run m ρ,
    (θ_run Cert.RestRefIdeal.defs _ _).mono (fun r h c => ⟨by
      rw [(h c).1, val_main_v6_eq, (hag c).1, (hag c).2]
      exact ref_eq _ _, (h c).2⟩)
    (Cert.RestRefIdeal.Value.run (F := Ideal) m' ρ')⟩

end Cert.RestClaim

end
-- ==== Proof.MergeValue.lean ====
/- The merge of the two mixers' outputs: the array it leaves, as a function of the rows, the weights and the gates. -/
module

public import proofs.«01_k».proof.Proof.Gen.MergeIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.MergeValue

open Cert.MergeIdeal Cert.MergeIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- A weight block as a matrix. -/
def flat (w : Vec Ideal S1x2048x512 .f32) : Vec Ideal S2048x512 .bf16 := fun y => w (ix3 0 (y 0) (y 1))

/-- A row times a column. -/
def dot (x : Vec Ideal S1024x2048 .bf16) (w : Vec Ideal S2048x512 .bf16) (r : Fin 1024) (l : Fin 512) : EReal := ∑ k : Fin 2048, x (ix2 r k) * w (ix2 k l)

/-- The gate: half of one and the hyperbolic tangent of half the argument. -/
def gate (x : EReal) : EReal :=
  Ideal.ofBits .f32 0x3F000000#32 * Ideal.tanh (Ideal.ofBits .f32 0x3F000000#32 * x) + Ideal.ofBits .f32 0x3F000000#32

/-- A block of the result: the two products, each with its gate, summed. -/
def block (x0 : Vec Ideal S1024x2048 .bf16) (w : Vec Ideal S2048x512 .bf16) (x1 : Vec Ideal S1024x2048 .bf16) (w' : Vec Ideal S2048x512 .bf16)
    (x4 x5 : Vec Ideal S1024x512 .f32) : Vec Ideal S1024x512 .bf16 := fun y =>
  gate (x4 y) * dot x0 w (y 0) (y 1) + gate (x5 y) * dot x1 w' (y 0) (y 1)

/-- An index of a block is a row and a column. -/
theorem exists_ix (y : S1024x512.Idx) : ∃ (a : Fin 1024) (b : Fin 512), y = ix2 a b := ⟨y 0, y 1, by funext k; fin_cases k <;> rfl⟩

/-- The printed block. -/
theorem pay2_eq (x0 : Vec Ideal S1024x2048 .bf16) (w : Vec Ideal S2048x512 .bf16) (x1 : Vec Ideal S1024x2048 .bf16) (w' : Vec Ideal S2048x512 .bf16)
    (x4 x5 : Vec Ideal S1024x512 .f32) : k0_pay2 (F := Ideal) x0 w x1 w' x4 x5 = block x0 w x1 w' x4 x5 := by
  funext y
  obtain ⟨a, b, rfl⟩ := exists_ix y
  pointwise [k0_pay2]
  rfl

/-- The output at a point that keeps the weights. -/
theorem out_B (c : Dev nD) (i : grid0.Coords) (arg2 : Memref sig .tc .vmem S1024x2048 .bf16) (harg2 : arg2.IsWhole)
    (arg3 : Memref sig .tc .vmem S1024x2048 .bf16) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1024x512 .f32) (harg6 : arg6.IsWhole)
    (arg7 : Memref sig .tc .vmem S1024x512 .f32) (harg7 : arg7.IsWhole)
    (arg8 : Memref sig .tc .vmem S1024x512 .bf16) (harg8 : arg8.IsWhole)
    (arg9 : Memref sig .tc .vmem S2048x512 .bf16) (harg9 : arg9.IsWhole)
    (arg10 : Memref sig .tc .vmem S2048x512 .bf16) (harg10 : arg10.IsWhole) (hc0 : ¬cond0_0 i)
    (x0 x1 : Vec Ideal S1024x2048 .bf16) (x2 x3 : Vec Ideal S1x2048x512 .f32) (x4 x5 : Vec Ideal S1024x512 .f32) (xs0 xs1 : Vec Ideal S2048x512 .bf16) :
    out0_B_6 c i arg2 harg2 arg3 harg3 arg4 harg4 arg5 harg5 arg6 harg6 arg7 harg7 arg8 harg8 arg9 harg9 arg10 harg10 hc0 x0 x1 x2 x3 x4 x5 xs0 xs1 = block x0 xs0 x1 xs1 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_words
  rw [View.canon_unit_zero hz]
  simp only [View.readAt_eq_ld, harg2.read_unread, harg3.read_unread, harg6.read_unread, harg7.read_unread, harg9.read_unread, harg10.read_unread, View.ld_unit_zero (S := S1024x2048) hz, View.ld_unit_zero (S := S2048x512) hz, View.ld_unit_zero (S := S1024x512) hz]
  exact pay2_eq x0 xs0 x1 xs1 x4 x5

/-- A group of 256 rows of a weight block, as stored, is these rows of the matrix. -/
theorem piece_at (w : Vec Ideal S1x2048x512 .f32) (o : ℕ) (h) (h') (x : S256x512.Idx) :
    k0_pay1 (F := Ideal) (View.ld w (Rect.unit (s := S1x2048x512) ![0, o, 0] S1x256x512.size h)) x
      = flat w ((Rect.unit (s := S2048x512) ![o, 0] S256x512.size h').emb x) := by
  obtain ⟨a, b, rfl⟩ : ∃ (a : Fin 256) (b : Fin 512), x = ix2 a b := ⟨x 0, x 1, by funext k; fin_cases k <;> rfl⟩
  pointwise [k0_pay1]
  refine congrArg w ?_
  funext k
  refine Fin.ext ?_
  match k with
  | ⟨0, _⟩ => rfl
  | ⟨1, _⟩ => show o + a.val = o + 1 * a.val; omega
  | ⟨2, _⟩ => show b.val = 0 + 1 * b.val; omega

/-- What the point that stores the weights leaves in scratch 0. -/
theorem sout_A_0 (c : Dev nD) (i : grid0.Coords) (arg2 : Memref sig .tc .vmem S1024x2048 .bf16) (harg2 : arg2.IsWhole)
    (arg3 : Memref sig .tc .vmem S1024x2048 .bf16) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1024x512 .f32) (harg6 : arg6.IsWhole)
    (arg7 : Memref sig .tc .vmem S1024x512 .f32) (harg7 : arg7.IsWhole)
    (arg8 : Memref sig .tc .vmem S1024x512 .bf16) (harg8 : arg8.IsWhole)
    (arg9 : Memref sig .tc .vmem S2048x512 .bf16) (harg9 : arg9.IsWhole)
    (arg10 : Memref sig .tc .vmem S2048x512 .bf16) (harg10 : arg10.IsWhole) (hc0 : cond0_0 i)
    (x0 x1 : Vec Ideal S1024x2048 .bf16) (x2 x3 : Vec Ideal S1x2048x512 .f32) (x4 x5 : Vec Ideal S1024x512 .f32) :
    sout0_A_0 c i arg2 harg2 arg3 harg3 arg4 harg4 arg5 harg5 arg6 harg6 arg7 harg7 arg8 harg8 arg9 harg9 arg10 harg10 hc0 x0 x1 x2 x3 x4 x5 = flat x2 := by
  have hcov := scover0_A_0 c i arg2 harg2 arg3 harg3 arg4 harg4 arg5 harg5 arg6 harg6 arg7 harg7 arg8 harg8 arg9 harg9 arg10 harg10 hc0 x0 x1 x2 x3 x4 x5
  unfold sout0_A_0
  rw [View.read_writes_eq_canon _ _ _ hcov]
  funext y
  refine View.canon_apply_of_pieces _ _ ?_ y (hcov y)
  refine View.PiecesOf.mem ?_
  unfold kernelRun0_A
  dsimp only
  sl_unfold_words
  simp only [View.readAt_eq_ld, harg4.read_unread]
  exact ⟨piece_at x2 1792 inb_S1x2048x512_S1x256x512_0_1792_0 inb_S2048x512_S256x512_1792_0,
    piece_at x2 1536 inb_S1x2048x512_S1x256x512_0_1536_0 inb_S2048x512_S256x512_1536_0,
    piece_at x2 1280 inb_S1x2048x512_S1x256x512_0_1280_0 inb_S2048x512_S256x512_1280_0,
    piece_at x2 1024 inb_S1x2048x512_S1x256x512_0_1024_0 inb_S2048x512_S256x512_1024_0,
    piece_at x2 768 inb_S1x2048x512_S1x256x512_0_768_0 inb_S2048x512_S256x512_768_0,
    piece_at x2 512 inb_S1x2048x512_S1x256x512_0_512_0 inb_S2048x512_S256x512_512_0,
    piece_at x2 256 inb_S1x2048x512_S1x256x512_0_256_0 inb_S2048x512_S256x512_256_0,
    piece_at x2 0 inb_S1x2048x512_S1x256x512_0_0_0 inb_S2048x512_S256x512_0_0, trivial⟩

/-- What the point that stores the weights leaves in scratch 1. -/
theorem sout_A_1 (c : Dev nD) (i : grid0.Coords) (arg2 : Memref sig .tc .vmem S1024x2048 .bf16) (harg2 : arg2.IsWhole)
    (arg3 : Memref sig .tc .vmem S1024x2048 .bf16) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1024x512 .f32) (harg6 : arg6.IsWhole)
    (arg7 : Memref sig .tc .vmem S1024x512 .f32) (harg7 : arg7.IsWhole)
    (arg8 : Memref sig .tc .vmem S1024x512 .bf16) (harg8 : arg8.IsWhole)
    (arg9 : Memref sig .tc .vmem S2048x512 .bf16) (harg9 : arg9.IsWhole)
    (arg10 : Memref sig .tc .vmem S2048x512 .bf16) (harg10 : arg10.IsWhole) (hc0 : cond0_0 i)
    (x0 x1 : Vec Ideal S1024x2048 .bf16) (x2 x3 : Vec Ideal S1x2048x512 .f32) (x4 x5 : Vec Ideal S1024x512 .f32) :
    sout0_A_1 c i arg2 harg2 arg3 harg3 arg4 harg4 arg5 harg5 arg6 harg6 arg7 harg7 arg8 harg8 arg9 harg9 arg10 harg10 hc0 x0 x1 x2 x3 x4 x5 = flat x3 := by
  have hcov := scover0_A_1 c i arg2 harg2 arg3 harg3 arg4 harg4 arg5 harg5 arg6 harg6 arg7 harg7 arg8 harg8 arg9 harg9 arg10 harg10 hc0 x0 x1 x2 x3 x4 x5
  unfold sout0_A_1
  rw [View.read_writes_eq_canon _ _ _ hcov]
  funext y
  refine View.canon_apply_of_pieces _ _ ?_ y (hcov y)
  refine View.PiecesOf.mem ?_
  unfold kernelRun0_A
  dsimp only
  sl_unfold_words
  simp only [View.readAt_eq_ld, harg5.read_unread]
  exact ⟨piece_at x3 1792 inb_S1x2048x512_S1x256x512_0_1792_0 inb_S2048x512_S256x512_1792_0,
    piece_at x3 1536 inb_S1x2048x512_S1x256x512_0_1536_0 inb_S2048x512_S256x512_1536_0,
    piece_at x3 1280 inb_S1x2048x512_S1x256x512_0_1280_0 inb_S2048x512_S256x512_1280_0,
    piece_at x3 1024 inb_S1x2048x512_S1x256x512_0_1024_0 inb_S2048x512_S256x512_1024_0,
    piece_at x3 768 inb_S1x2048x512_S1x256x512_0_768_0 inb_S2048x512_S256x512_768_0,
    piece_at x3 512 inb_S1x2048x512_S1x256x512_0_512_0 inb_S2048x512_S256x512_512_0,
    piece_at x3 256 inb_S1x2048x512_S1x256x512_0_256_0 inb_S2048x512_S256x512_256_0,
    piece_at x3 0 inb_S1x2048x512_S1x256x512_0_0_0 inb_S2048x512_S256x512_0_0, trivial⟩

/-- The output at a point that first stores the weights. -/
theorem out_A (c : Dev nD) (i : grid0.Coords) (arg2 : Memref sig .tc .vmem S1024x2048 .bf16) (harg2 : arg2.IsWhole)
    (arg3 : Memref sig .tc .vmem S1024x2048 .bf16) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1024x512 .f32) (harg6 : arg6.IsWhole)
    (arg7 : Memref sig .tc .vmem S1024x512 .f32) (harg7 : arg7.IsWhole)
    (arg8 : Memref sig .tc .vmem S1024x512 .bf16) (harg8 : arg8.IsWhole)
    (arg9 : Memref sig .tc .vmem S2048x512 .bf16) (harg9 : arg9.IsWhole)
    (arg10 : Memref sig .tc .vmem S2048x512 .bf16) (harg10 : arg10.IsWhole) (hc0 : cond0_0 i)
    (x0 x1 : Vec Ideal S1024x2048 .bf16) (x2 x3 : Vec Ideal S1x2048x512 .f32) (x4 x5 : Vec Ideal S1024x512 .f32) :
    out0_A_6 c i arg2 harg2 arg3 harg3 arg4 harg4 arg5 harg5 arg6 harg6 arg7 harg7 arg8 harg8 arg9 harg9 arg10 harg10 hc0 x0 x1 x2 x3 x4 x5 = block x0 (flat x2) x1 (flat x3) x4 x5 := by
  rw [← sout_A_0 c i arg2 harg2 arg3 harg3 arg4 harg4 arg5 harg5 arg6 harg6 arg7 harg7 arg8 harg8 arg9 harg9 arg10 harg10 hc0 x0 x1 x2 x3 x4 x5,
    ← sout_A_1 c i arg2 harg2 arg3 harg3 arg4 harg4 arg5 harg5 arg6 harg6 arg7 harg7 arg8 harg8 arg9 harg9 arg10 harg10 hc0 x0 x1 x2 x3 x4 x5]
  unfold out0_A_6 sout0_A_0 sout0_A_1
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5),
    View.read_writes_eq_canon _ _ _ (scover0_A_0 c i arg2 harg2 arg3 harg3 arg4 harg4 arg5 harg5 arg6 harg6 arg7 harg7 arg8 harg8 arg9 harg9 arg10 harg10 hc0 x0 x1 x2 x3 x4 x5),
    View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz]
  simp only [View.readAt_eq_ld, harg2.read_unread, harg3.read_unread, harg6.read_unread, harg7.read_unread, View.ld_unit_zero (S := S1024x2048) hz, View.ld_unit_zero (S := S1024x512) hz, View.readCov_eq_canon']
  exact (congrArg₂ (fun w w' => k0_pay2 x0 w x1 w' x4 x5) (View.ld_unit_zero (S := S2048x512) hz _ _) (View.ld_unit_zero (S := S2048x512) hz _ _)).trans (pay2_eq _ _ _ _ _ _)

/-! ## The grid -/

variable (m : (ℓ : Loc nD τ sig) → Buf (Elt Ideal) ℓ) (ρ : Dev nD → PrngReg)

/-- The first mixer's rows. -/
abbrev rows (c : Dev nD) : S8192x2048.Idx → EReal := m ((c : Thread nD τ).loc main_arg0)

/-- The second mixer's rows. -/
abbrev rows' (c : Dev nD) : S8192x2048.Idx → EReal := m ((c : Thread nD τ).loc main_arg1)

/-- The first mixer's weights. -/
abbrev wts (c : Dev nD) : S4x2048x2048.Idx → EReal := m ((c : Thread nD τ).loc main_arg2)

/-- The second mixer's weights. -/
abbrev wts' (c : Dev nD) : S4x2048x2048.Idx → EReal := m ((c : Thread nD τ).loc main_arg3)

/-- The array with the gates. -/
abbrev gates (c : Dev nD) : S8192x6784.Idx → EReal := m ((c : Thread nD τ).loc main_arg4)

/-- The column of the first mixer's gate. -/
def gateCol (l : Fin 2048) : Fin 6784 := ⟨2560 + l.val, by omega⟩

/-- The column of the second mixer's gate. -/
def gateCol' (l : Fin 2048) : Fin 6784 := ⟨4608 + l.val, by omega⟩

/-- The product of a row with a column of the last layer's weights. -/
def prod (x : S8192x2048.Idx → EReal) (w : S4x2048x2048.Idx → EReal) (r : Fin 8192) (l : Fin 2048) : EReal :=
  ∑ k : Fin 2048, x (ix2 r k) * w (ix3 3 k l)

/-- The result. -/
def result (x x' : S8192x2048.Idx → EReal) (w w' : S4x2048x2048.Idx → EReal) (g : S8192x6784.Idx → EReal) (y : S8192x2048.Idx) : EReal :=
  gate (g (ix2 (y 0) (gateCol (y 1)))) * prod x w (y 0) (y 1) + gate (g (ix2 (y 0) (gateCol' (y 1)))) * prod x' w' (y 0) (y 1)

theorem index0 : ∀ t : Fin cfg0.N, win0_0.index t 0 = t.val % 8 ∧ win0_0.index t 1 = 0 := by decide +kernel
theorem index1 : ∀ t : Fin cfg0.N, win0_1.index t 0 = t.val % 8 ∧ win0_1.index t 1 = 0 := by decide +kernel
theorem index2 : ∀ t : Fin cfg0.N, win0_2.index t 0 = 3 ∧ win0_2.index t 1 = 0 ∧ win0_2.index t 2 = t.val / 8 := by decide +kernel
theorem index3 : ∀ t : Fin cfg0.N, win0_3.index t 0 = 3 ∧ win0_3.index t 1 = 0 ∧ win0_3.index t 2 = t.val / 8 := by decide +kernel
theorem index4 : ∀ t : Fin cfg0.N, win0_4.index t 0 = t.val % 8 ∧ win0_4.index t 1 = 5 + t.val / 8 := by decide +kernel
theorem index5 : ∀ t : Fin cfg0.N, win0_5.index t 0 = t.val % 8 ∧ win0_5.index t 1 = 9 + t.val / 8 := by decide +kernel
theorem index6 : ∀ t : Fin cfg0.N, win0_6.index t 0 = t.val % 8 ∧ win0_6.index t 1 = t.val / 8 := by decide +kernel

/-- A row of a point's block, in the whole array. -/
def row (t : Fin cfg0.N) (r : Fin 1024) : Fin 8192 := ⟨1024 * (t.val % 8) + r.val, by omega⟩

/-- A column block's column, in the whole array. -/
def colOf (j : Fin 4) (l : Fin 512) : Fin 2048 := ⟨512 * j.val + l.val, by omega⟩

/-- A point's column block. -/
def pj (t : Fin cfg0.N) : Fin 4 := ⟨t.val / 8, by have h : t.val < 32 := t.isLt; omega⟩

/-- A column of a point's block, in the whole array. -/
abbrev col (t : Fin cfg0.N) (l : Fin 512) : Fin 2048 := colOf (pj t) l

/-- The block of the first mixer's rows. -/
theorem X0_apply (c : Dev nD) (t : Fin cfg0.N) (r : Fin 1024) (k : Fin 2048) : iblk m c 0 t (ix2 r k) = rows m c (ix2 (row t r) k) := by
  refine (congrFun (V_main_arg0 m c) _).trans (congrArg (rows m c) ?_)
  funext a
  refine Fin.ext ?_
  match a with
  | ⟨0, _⟩ => show win0_0.index t 0 * 1024 + 1 * r.val = 1024 * (t.val % 8) + r.val; rw [(index0 t).1]; omega
  | ⟨1, _⟩ => show win0_0.index t 1 * 2048 + 1 * k.val = k.val; rw [(index0 t).2]; omega

/-- The block of the second mixer's rows. -/
theorem X1_apply (c : Dev nD) (t : Fin cfg0.N) (r : Fin 1024) (k : Fin 2048) : iblk m c 1 t (ix2 r k) = rows' m c (ix2 (row t r) k) := by
  refine (congrFun (V_main_arg1 m c) _).trans (congrArg (rows' m c) ?_)
  funext a
  refine Fin.ext ?_
  match a with
  | ⟨0, _⟩ => show win0_1.index t 0 * 1024 + 1 * r.val = 1024 * (t.val % 8) + r.val; rw [(index1 t).1]; omega
  | ⟨1, _⟩ => show win0_1.index t 1 * 2048 + 1 * k.val = k.val; rw [(index1 t).2]; omega

/-- The block of the first mixer's weights. -/
theorem X2_apply (c : Dev nD) (t : Fin cfg0.N) (k : Fin 2048) (l : Fin 512) : iblk m c 2 t (ix3 0 k l) = wts m c (ix3 3 k (col t l)) := by
  refine (congrFun (V_main_arg2 m c) _).trans (congrArg (wts m c) ?_)
  funext a
  refine Fin.ext ?_
  match a with
  | ⟨0, _⟩ => show win0_2.index t 0 * 1 + 1 * 0 = 3; rw [(index2 t).1]
  | ⟨1, _⟩ => show win0_2.index t 1 * 2048 + 1 * k.val = k.val; rw [(index2 t).2.1]; omega
  | ⟨2, _⟩ => show win0_2.index t 2 * 512 + 1 * l.val = 512 * (t.val / 8) + l.val; rw [(index2 t).2.2]; omega

/-- The block of the second mixer's weights. -/
theorem X3_apply (c : Dev nD) (t : Fin cfg0.N) (k : Fin 2048) (l : Fin 512) : iblk m c 3 t (ix3 0 k l) = wts' m c (ix3 3 k (col t l)) := by
  refine (congrFun (V_main_arg3 m c) _).trans (congrArg (wts' m c) ?_)
  funext a
  refine Fin.ext ?_
  match a with
  | ⟨0, _⟩ => show win0_3.index t 0 * 1 + 1 * 0 = 3; rw [(index3 t).1]
  | ⟨1, _⟩ => show win0_3.index t 1 * 2048 + 1 * k.val = k.val; rw [(index3 t).2.1]; omega
  | ⟨2, _⟩ => show win0_3.index t 2 * 512 + 1 * l.val = 512 * (t.val / 8) + l.val; rw [(index3 t).2.2]; omega

/-- The block of the first mixer's gates. -/
theorem X4_apply (c : Dev nD) (t : Fin cfg0.N) (r : Fin 1024) (l : Fin 512) : X0_4 m c t (ix2 r l) = gates m c (ix2 (row t r) (gateCol (col t l))) := by
  unfold X0_4 Pipeline.Window.fill
  rw [dif_pos (moved0_4 t _)]
  refine (congrFun (V_main_arg4 m c) _).trans (congrArg (gates m c) ?_)
  funext a
  refine Fin.ext ?_
  match a with
  | ⟨0, _⟩ => show win0_4.index t 0 * 1024 + 1 * r.val = 1024 * (t.val % 8) + r.val; rw [(index4 t).1]; omega
  | ⟨1, _⟩ => show win0_4.index t 1 * 512 + 1 * l.val = 2560 + (512 * (t.val / 8) + l.val); rw [(index4 t).2]; omega

/-- The block of the second mixer's gates. -/
theorem X5_apply (c : Dev nD) (t : Fin cfg0.N) (r : Fin 1024) (l : Fin 512) : X0_5 m c t (ix2 r l) = gates m c (ix2 (row t r) (gateCol' (col t l))) := by
  unfold X0_5 Pipeline.Window.fill
  rw [dif_pos (moved0_5 t _)]
  refine (congrFun (V_main_arg4 m c) _).trans (congrArg (gates m c) ?_)
  funext a
  refine Fin.ext ?_
  match a with
  | ⟨0, _⟩ => show win0_5.index t 0 * 1024 + 1 * r.val = 1024 * (t.val % 8) + r.val; rw [(index5 t).1]; omega
  | ⟨1, _⟩ => show win0_5.index t 1 * 512 + 1 * l.val = 4608 + (512 * (t.val / 8) + l.val); rw [(index5 t).2]; omega

/-- A column block of the last layer's weights as a matrix. -/
def mat (w : S4x2048x2048.Idx → EReal) (j : Fin 4) : Vec Ideal S2048x512 .bf16 := fun y => w (ix3 3 (y 0) (colOf j (y 1)))

theorem flat2_eq (c : Dev nD) (t : Fin cfg0.N) : flat (iblk m c 2 t) = mat (wts m c) (pj t) := funext fun _ => X2_apply m c t _ _

theorem flat3_eq (c : Dev nD) (t : Fin cfg0.N) : flat (iblk m c 3 t) = mat (wts' m c) (pj t) := funext fun _ => X3_apply m c t _ _

/-- The scratches hold the column blocks of the point. -/
theorem scratch_eq (c : Dev nD) (n : ℕ) : ∀ t : Fin cfg0.N, t.val = n →
    (outsAt0 m c t.val t.isLt).2.1 = mat (wts m c) (pj t) ∧ (outsAt0 m c t.val t.isLt).2.2 = mat (wts' m c) (pj t) := by
  induction n with
  | zero =>
    intro t ht
    rw [outsAt0_A m c t (by rw [ht]), sout_A_0, sout_A_1, flat2_eq, flat3_eq]
    exact ⟨rfl, rfl⟩
  | succ n ih =>
    intro t ht
    by_cases h0 : t.val % 8 = 0
    · rw [outsAt0_A m c t h0, sout_A_0, sout_A_1, flat2_eq, flat3_eq]
      exact ⟨rfl, rfl⟩
    · rw [outsAt0_B m c t h0]
      unfold sout0_B_0 sout0_B_1
      have hlt : t.val - 1 < cfg0.N := Nat.lt_of_le_of_lt (Nat.sub_le _ _) t.isLt
      have e := ih ⟨t.val - 1, hlt⟩ (by show t.val - 1 = n; omega)
      have ep : pj ⟨t.val - 1, hlt⟩ = pj t := Fin.ext (by show (t.val - 1) / 8 = t.val / 8; omega)
      rw [ep] at e
      exact e

/-- What a point leaves in the output's buffer. -/
theorem out_eq (c : Dev nD) (t : Fin cfg0.N) : (outsAt0 m c t.val t.isLt).1
    = block (iblk m c 0 t) (mat (wts m c) (pj t)) (iblk m c 1 t) (mat (wts' m c) (pj t)) (X0_4 m c t) (X0_5 m c t) := by
  by_cases h0 : t.val % 8 = 0
  · rw [outsAt0_A m c t h0, out_A, flat2_eq, flat3_eq]
  · rw [outsAt0_B m c t h0, out_B]
    have hlt : t.val - 1 < cfg0.N := Nat.lt_of_le_of_lt (Nat.sub_le _ _) t.isLt
    have e := scratch_eq m c (t.val - 1) ⟨t.val - 1, hlt⟩ rfl
    have ep : pj ⟨t.val - 1, hlt⟩ = pj t := Fin.ext (by show (t.val - 1) / 8 = t.val / 8; omega)
    rw [ep] at e
    exact congrArg₂ (fun w w' => block (iblk m c 0 t) w (iblk m c 1 t) w' (X0_4 m c t) (X0_5 m c t)) e.1 e.2

/-- A point's block is its part of the result. -/
theorem block_apply (c : Dev nD) (t : Fin cfg0.N) (r : Fin 1024) (l : Fin 512) :
    block (iblk m c 0 t) (mat (wts m c) (pj t)) (iblk m c 1 t) (mat (wts' m c) (pj t)) (X0_4 m c t) (X0_5 m c t) (ix2 r l)
      = result (rows m c) (rows' m c) (wts m c) (wts' m c) (gates m c) (ix2 (row t r) (col t l)) :=
  congrArg₂ (fun a b : EReal => a + b)
    (congrArg₂ (fun a b : EReal => gate a * b) (X4_apply m c t r l)
      (Finset.sum_congr rfl fun k _ => congrArg₂ (fun a b : EReal => a * b) (X0_apply m c t r k) rfl))
    (congrArg₂ (fun a b : EReal => gate a * b) (X5_apply m c t r l)
      (Finset.sum_congr rfl fun k _ => congrArg₂ (fun a b : EReal => a * b) (X1_apply m c t r k) rfl))

/-- What a point writes back is its block of the result. -/
theorem flushed_eq (c : Dev nD) (t : Fin cfg0.N) :
    (dats m 0 c).flushed 6 t = ((cfg0.win 6).blk t).view.read (Elt Ideal) (result (rows m c) (rows' m c) (wts m c) (wts' m c) (gates m c)) := by
  rw [Value.flushed6, out_eq]
  funext y
  obtain ⟨a, b, rfl⟩ := exists_ix y
  have e : ((cfg0.win 6).blk t).view.emb (ix2 a b) = ix2 (row t a) (col t b) := by
    funext k
    refine Fin.ext ?_
    match k with
    | ⟨0, _⟩ => show win0_6.index t 0 * 1024 + 1 * a.val = 1024 * (t.val % 8) + a.val; rw [(index6 t).1]; omega
    | ⟨1, _⟩ => show win0_6.index t 1 * 512 + 1 * b.val = 512 * (t.val / 8) + b.val; rw [(index6 t).2]; omega
  exact (block_apply m c t a b).trans (congrArg (result (rows m c) (rows' m c) (wts m c) (wts' m c) (gates m c)) e).symm

/-- The blocks cover the result. -/
theorem cover (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = 8 * ((i 1).val / 512) + (i 0).val / 1024 := ⟨⟨_, by show _ < 32; omega⟩, rfl⟩
  refine ⟨t, flush0_6 t, ?_⟩
  show i ∈ ((View.whole main_v0).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [(index6 t).1]; omega
  | ⟨1, _⟩ =>
    show win0_6.index t 1 * 512 ≤ (i 1).val ∧ (i 1).val < win0_6.index t 1 * 512 + 512
    rw [(index6 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v0) = result (rows m c) (rows' m c) (wts m c) (wts' m c) (gates m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 6 _ (fun t _ => flushed_eq m c t) cover), (h c).2⟩)
    (Value.run_blocks m ρ)

end Cert.MergeValue

end
-- ==== Proof.MergeClaim.lean ====
/- The merge's value claim: equality with the reference. The kernel writes its gates with the hyperbolic tangent, the
   reference with the exponential. -/
module

public import proofs.«01_k».proof.Defs
public import proofs.«01_k».proof.Proof.MergeValue
public import proofs.«01_k».proof.Proof.Gen.MergeRefIdeal.Read
public import proofs.«01_k».proof.Proof.Gen.MergeRefIdeal.Run

@[expose] public section

set_option maxRecDepth 16384

noncomputable section

namespace Cert.MergeClaim

open Cert.MergeRefIdeal Cert.MergeRefIdeal.Gen Cert.MergeRefIdeal.Read Idealize.ShloMosaic Idealize.ShloMosaic.Tactic Idealize.ShloMosaic.Pointwise Idealize.SL.Sem

theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- The hyperbolic tangent of half a number, by the exponential. -/
theorem half_tanh (r : ℝ) : 1 / 2 * Real.tanh (1 / 2 * r) + 1 / 2 = 1 * (1 + Real.exp (-r))⁻¹ := by
  have hp : 0 < Real.exp (1 / 2 * r) := Real.exp_pos _
  have he : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, he, Real.exp_neg]
  field_simp
  ring

/-- The kernel's gate is the logistic function. -/
theorem gate_eq (x : EReal) : Ideal.div (Ideal.ofBits .f32 0x3F800000#32) (Ideal.ofBits .f32 0x3F800000#32 + Ideal.exp (-x)) = MergeValue.gate x := by
  unfold MergeValue.gate
  rw [half_eq, one_eq]
  induction x with
  | bot =>
    rw [EReal.coe_mul_bot_of_pos (by norm_num), EReal.neg_bot]
    show Ideal.div ((1 : ℝ) : EReal) (((1 : ℝ) : EReal) + ⊤) = ((1 / 2 : ℝ) : EReal) * (-1) + ((1 / 2 : ℝ) : EReal)
    rw [EReal.coe_add_top]
    unfold Ideal.div
    rw [if_neg (by simp), EReal.inv_top, mul_zero, show (-1 : EReal) = ((-1 : ℝ) : EReal) by simp, ← EReal.coe_mul, ← EReal.coe_add]
    norm_num
  | top =>
    rw [EReal.coe_mul_top_of_pos (by norm_num), EReal.neg_top]
    show Ideal.div ((1 : ℝ) : EReal) (((1 : ℝ) : EReal) + 0) = ((1 / 2 : ℝ) : EReal) * 1 + ((1 / 2 : ℝ) : EReal)
    rw [add_zero, mul_one, ← EReal.coe_add]
    unfold Ideal.div
    rw [if_neg (by simp), ← EReal.coe_inv, ← EReal.coe_mul]
    norm_num
  | coe r =>
    rw [← EReal.coe_neg, ← EReal.coe_mul]
    show Ideal.div ((1 : ℝ) : EReal) (((1 : ℝ) : EReal) + ((Real.exp (-r) : ℝ) : EReal)) = ((1 / 2 : ℝ) : EReal) * ((Real.tanh (1 / 2 * r) : ℝ) : EReal) + ((1 / 2 : ℝ) : EReal)
    rw [← EReal.coe_add, ← EReal.coe_mul, ← EReal.coe_add, half_tanh]
    have h : (1 : ℝ) + Real.exp (-r) ≠ 0 := by have := Real.exp_pos (-r); positivity
    unfold Ideal.div
    rw [if_neg (fun h' => h (EReal.coe_eq_zero.mp h')), ← EReal.coe_inv, ← EReal.coe_mul]

/-- The reference's product of the first mixer. -/
theorem prod_eq (x : S8192x2048.Idx → EReal) (w : S4x2048x2048.Idx → EReal) (r : Fin 8192) (l : Fin 2048) :
    val_main_v3 (F := Ideal) x w (ix2 r l) = MergeValue.prod x w r l := by
  rw [val_main_v3_apply]
  refine Finset.sum_congr rfl fun k _ => ?_
  rw [val_main_v2_apply, val_main_v1_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 2048 + l.val) / 2048 % 2048 = k.val; omega
    | ⟨2, _⟩ => show (k.val * 2048 + l.val) % 2048 = l.val; omega

/-- The reference's product of the second mixer. -/
theorem prod_eq' (x : S8192x2048.Idx → EReal) (w : S4x2048x2048.Idx → EReal) (r : Fin 8192) (l : Fin 2048) :
    val_main_v7 (F := Ideal) x w (ix2 r l) = MergeValue.prod x w r l := by
  rw [val_main_v7_apply]
  refine Finset.sum_congr rfl fun k _ => ?_
  rw [val_main_v6_apply, val_main_v5_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 2048 + l.val) / 2048 % 2048 = k.val; omega
    | ⟨2, _⟩ => show (k.val * 2048 + l.val) % 2048 = l.val; omega

/-- The reference's gates. -/
theorem gates_eq (g : S8192x6784.Idx → EReal) (i : S8192x4096.Idx) :
    val_main_v14 (F := Ideal) g i = MergeValue.gate (g (idx_main_v8 i)) := by
  rw [val_main_v14_apply, val_main_v13_apply, val_main_v12_apply, val_main_v11_apply, val_main_v10_apply, val_main_v9_apply, val_main_v8_apply,
    val_main_cst_apply, val_main_cst_0_apply]
  exact gate_eq _

/-- The reference's result is the kernel's. -/
theorem ref_eq (x x' : S8192x2048.Idx → EReal) (w w' : S4x2048x2048.Idx → EReal) (g : S8192x6784.Idx → EReal) :
    val_main_v20 (F := Ideal) x x' w w' g = MergeValue.result x x' w w' g := by
  funext y
  obtain ⟨r, l, rfl⟩ : ∃ (r : Fin 8192) (l : Fin 2048), y = ix2 r l := ⟨y 0, y 1, by funext k; fin_cases k <;> rfl⟩
  have e : idx_main_v8 (idx_main_v15 (ix2 r l)) = ix2 r (MergeValue.gateCol l) := by
    funext a
    match a with
    | ⟨0, _⟩ => rfl
    | ⟨1, _⟩ => rfl
  have e' : idx_main_v8 (idx_main_v16 (ix2 r l)) = ix2 r (MergeValue.gateCol' l) := by
    funext a
    refine Fin.ext ?_
    match a with
    | ⟨0, _⟩ => rfl
    | ⟨1, _⟩ => show 2560 + (2048 + l.val) = 4608 + l.val; omega
  rw [val_main_v20_apply, val_main_v19_apply, val_main_v17_apply, val_main_v18_apply, val_main_v15_apply, val_main_v16_apply, gates_eq, gates_eq, e, e', prod_eq, prod_eq']
  rfl

/-- The merge and its reference end with equal results. -/
theorem algebraic : @Cert.algebraic_MergeIdeal_MergeRefIdeal Cert.MergeIdeal.Gen.facts Cert.MergeRefIdeal.Gen.facts :=
  fun m ρ m' ρ' _ hag => ⟨fun c => MergeValue.result (MergeValue.rows m c) (MergeValue.rows' m c) (MergeValue.wts m c) (MergeValue.wts' m c) (MergeValue.gates m c),
    MergeValue.run m ρ,
    (θ_run Cert.MergeRefIdeal.defs _ _).mono (fun r h c => ⟨by
      rw [(h c).1, val_main_v20_eq, (hag c).1, (hag c).2.1, (hag c).2.2.1, (hag c).2.2.2.1, (hag c).2.2.2.2]
      exact ref_eq _ _ _ _ _, (h c).2⟩)
    (Cert.MergeRefIdeal.Value.run (F := Ideal) m' ρ')⟩

end Cert.MergeClaim

end
-- ==== Proof.OutProjValue.lean ====
/- The output projection with the residual and the second norm: the two arrays it leaves, as functions of the rows, the
   weights, the residual and the gain. -/
module

public import proofs.«01_k».proof.Proof.Gen.OutProjIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.OutProjValue

open Cert.OutProjIdeal Cert.OutProjIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- The weight block as a matrix. -/
def flat (x1 : Vec Ideal S1x2048x2048 .f32) : Vec Ideal S2048x2048 .bf16 := fun y => x1 (ix3 0 (y 0) (y 1))

/-- A row times a column. -/
def dot (x0 : Vec Ideal S512x2048 .bf16) (w : Vec Ideal S2048x2048 .bf16) (r : Fin 512) (l : Fin 2048) : EReal := ∑ k : Fin 2048, x0 (ix2 r k) * w (ix2 k l)

/-- The residual and the rows times the weights. -/
def block (x2 : Vec Ideal S512x2048 .f32) (x0 : Vec Ideal S512x2048 .bf16) (w : Vec Ideal S2048x2048 .bf16) : Vec Ideal S512x2048 .f32 := fun y => x2 y + dot x0 w (y 0) (y 1)

/-- The factor of a row whose squares sum to `s`: the reciprocal square root of the mean square with the small constant. -/
def factor (s : EReal) : EReal :=
  Ideal.rsqrt (Ideal.div s (Ideal.ofBits .f32 0x45000000#32) + Ideal.ofBits .f32 0x358637BD#32)

/-- A block of rows, normed, with the gain. -/
def normed (s : Vec Ideal S512x2048 .f32) (g : Vec Ideal S1x2048 .f32) : Vec Ideal S512x2048 .bf16 := fun y =>
  s y * factor (∑ k : Fin 2048, s (ix2 (y 0) k) * s (ix2 (y 0) k)) * g (ix2 0 (y 1))

/-- An index of a block is a row and a column. -/
theorem exists_ix (y : S512x2048.Idx) : ∃ (a : Fin 512) (b : Fin 2048), y = ix2 a b := ⟨y 0, y 1, by funext k; fin_cases k <;> rfl⟩

/-- The printed product with the residual. -/
theorem pay4_eq (x2 : Vec Ideal S512x2048 .f32) (x0 : Vec Ideal S512x2048 .bf16) (w : Vec Ideal S2048x2048 .bf16) : k0_pay4 (F := Ideal) x2 x0 w = block x2 x0 w := by
  funext y
  obtain ⟨a, b, rfl⟩ := exists_ix y
  pointwise [k0_pay4]
  rfl

/-- The printed norm of the sum. -/
theorem pay5_eq (x2 : Vec Ideal S512x2048 .f32) (x0 : Vec Ideal S512x2048 .bf16) (w : Vec Ideal S2048x2048 .bf16) (g : Vec Ideal S1x2048 .f32) :
    k0_pay5 (F := Ideal) x2 x0 w g = normed (block x2 x0 w) g := by
  funext y
  obtain ⟨a, b, rfl⟩ := exists_ix y
  unfold k0_pay5
  rw [pay4_eq]
  generalize block x2 x0 w = s
  pointwise []
  rfl

/-- The sum at a point that keeps the weights. -/
theorem out_B_4 (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole)
    (arg6 : Memref sig .tc .vmem S512x2048 .bf16) (harg6 : arg6.IsWhole) (arg7 : Memref sig .tc .vmem S2048x2048 .bf16) (harg7 : arg7.IsWhole) (hc0 : ¬cond0_0 i)
    (x0 : Vec Ideal S512x2048 .bf16) (x1 : Vec Ideal S1x2048x2048 .f32) (x2 : Vec Ideal S512x2048 .f32) (x3 : Vec Ideal S1x2048 .f32) (xs0 : Vec Ideal S2048x2048 .bf16) :
    out0_B_4 c i arg1 harg1 arg2 harg2 arg3 harg3 arg4 harg4 arg5 harg5 arg6 harg6 arg7 harg7 hc0 x0 x1 x2 x3 xs0 = block x2 x0 xs0 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg1.read_unread, harg3.read_unread, harg4.read_unread, harg7.read_unread, View.ld_unit_zero (S := S512x2048) hz, View.ld_unit_zero (S := S1x2048) hz, View.ld_unit_zero (S := S2048x2048) hz]
  exact pay4_eq x2 x0 xs0

/-- The normed rows at a point that keeps the weights. -/
theorem out_B_5 (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole)
    (arg6 : Memref sig .tc .vmem S512x2048 .bf16) (harg6 : arg6.IsWhole) (arg7 : Memref sig .tc .vmem S2048x2048 .bf16) (harg7 : arg7.IsWhole) (hc0 : ¬cond0_0 i)
    (x0 : Vec Ideal S512x2048 .bf16) (x1 : Vec Ideal S1x2048x2048 .f32) (x2 : Vec Ideal S512x2048 .f32) (x3 : Vec Ideal S1x2048 .f32) (xs0 : Vec Ideal S2048x2048 .bf16) :
    out0_B_5 c i arg1 harg1 arg2 harg2 arg3 harg3 arg4 harg4 arg5 harg5 arg6 harg6 arg7 harg7 hc0 x0 x1 x2 x3 xs0 = normed (block x2 x0 xs0) x3 := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg1.read_unread, harg3.read_unread, harg4.read_unread, harg7.read_unread, View.ld_unit_zero (S := S512x2048) hz, View.ld_unit_zero (S := S1x2048) hz, View.ld_unit_zero (S := S2048x2048) hz]
  exact pay5_eq x2 x0 xs0 x3

/-- A group of 256 rows of the weights, as stored, is these rows of the matrix. -/
theorem piece_at (x1 : Vec Ideal S1x2048x2048 .f32) (o : ℕ) (h) (h') (x : S256x2048.Idx) :
    k0_pay1 (F := Ideal) (View.ld x1 (Rect.unit (s := S1x2048x2048) ![0, o, 0] S1x256x2048.size h)) x
      = flat x1 ((Rect.unit (s := S2048x2048) ![o, 0] S256x2048.size h').emb x) := by
  obtain ⟨a, b, rfl⟩ : ∃ (a : Fin 256) (b : Fin 2048), x = ix2 a b := ⟨x 0, x 1, by funext k; fin_cases k <;> rfl⟩
  pointwise [k0_pay1]
  refine congrArg x1 ?_
  funext k
  refine Fin.ext ?_
  match k with
  | ⟨0, _⟩ => rfl
  | ⟨1, _⟩ => show o + a.val = o + 1 * a.val; omega
  | ⟨2, _⟩ => show b.val = 0 + 1 * b.val; omega

/-- What the point that stores the weights leaves in the scratch. -/
theorem sout_A (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole)
    (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    sout0_A_0 c i arg1 harg1 arg2 harg2 arg3 harg3 arg4 harg4 arg5 harg5 arg6 harg6 arg7 harg7 hc0 x0 x1 x2 x3 = flat x1 := by
  have hcov := scover0_A_0 c i arg1 harg1 arg2 harg2 arg3 harg3 arg4 harg4 arg5 harg5 arg6 harg6 arg7 harg7 hc0 x0 x1 x2 x3
  unfold sout0_A_0
  rw [View.read_writes_eq_canon _ _ _ hcov]
  funext y
  refine View.canon_apply_of_pieces _ _ ?_ y (hcov y)
  refine View.PiecesOf.mem ?_
  unfold kernelRun0_A
  dsimp only
  sl_unfold_words
  simp only [View.readAt_eq_ld, harg2.read_unread]
  exact ⟨piece_at x1 1792 inb_S1x2048x2048_S1x256x2048_0_1792_0 inb_S2048x2048_S256x2048_1792_0,
    piece_at x1 1536 inb_S1x2048x2048_S1x256x2048_0_1536_0 inb_S2048x2048_S256x2048_1536_0,
    piece_at x1 1280 inb_S1x2048x2048_S1x256x2048_0_1280_0 inb_S2048x2048_S256x2048_1280_0,
    piece_at x1 1024 inb_S1x2048x2048_S1x256x2048_0_1024_0 inb_S2048x2048_S256x2048_1024_0,
    piece_at x1 768 inb_S1x2048x2048_S1x256x2048_0_768_0 inb_S2048x2048_S256x2048_768_0,
    piece_at x1 512 inb_S1x2048x2048_S1x256x2048_0_512_0 inb_S2048x2048_S256x2048_512_0,
    piece_at x1 256 inb_S1x2048x2048_S1x256x2048_0_256_0 inb_S2048x2048_S256x2048_256_0,
    piece_at x1 0 inb_S1x2048x2048_S1x256x2048_0_0_0 inb_S2048x2048_S256x2048_0_0, trivial⟩

/-- The sum at the point that first stores the weights. -/
theorem out_A_4 (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole)
    (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    out0_A_4 c i arg1 harg1 arg2 harg2 arg3 harg3 arg4 harg4 arg5 harg5 arg6 harg6 arg7 harg7 hc0 x0 x1 x2 x3 = block x2 x0 (flat x1) := by
  rw [← sout_A c i arg1 harg1 arg2 harg2 arg3 harg3 arg4 harg4 arg5 harg5 arg6 harg6 arg7 harg7 hc0 x0 x1 x2 x3]
  unfold out0_A_4 sout0_A_0
  rw [View.read_writes_eq_canon _ _ _ (cover0_A_4 c i arg1 harg1 arg2 harg2 arg3 harg3 arg4 harg4 arg5 harg5 arg6 harg6 arg7 harg7 hc0 x0 x1 x2 x3),
    View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg3.read_unread, harg4.read_unread, View.ld_unit_zero (S := S512x2048) hz, View.ld_unit_zero (S := S1x2048) hz, View.readCov_eq_canon']
  exact (congrArg (k0_pay4 x2 x0) (View.ld_unit_zero (S := S2048x2048) hz _ _)).trans (pay4_eq _ _ _)

/-- The normed rows at the point that first stores the weights. -/
theorem out_A_5 (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole)
    (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    out0_A_5 c i arg1 harg1 arg2 harg2 arg3 harg3 arg4 harg4 arg5 harg5 arg6 harg6 arg7 harg7 hc0 x0 x1 x2 x3 = normed (block x2 x0 (flat x1)) x3 := by
  rw [← sout_A c i arg1 harg1 arg2 harg2 arg3 harg3 arg4 harg4 arg5 harg5 arg6 harg6 arg7 harg7 hc0 x0 x1 x2 x3]
  unfold out0_A_5 sout0_A_0
  rw [View.read_writes_eq_canon _ _ _ (cover0_A_5 c i arg1 harg1 arg2 harg2 arg3 harg3 arg4 harg4 arg5 harg5 arg6 harg6 arg7 harg7 hc0 x0 x1 x2 x3),
    View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg3.read_unread, harg4.read_unread, View.ld_unit_zero (S := S512x2048) hz, View.ld_unit_zero (S := S1x2048) hz, View.readCov_eq_canon']
  exact (congrArg (fun w => k0_pay5 x2 x0 w x3) (View.ld_unit_zero (S := S2048x2048) hz _ _)).trans (pay5_eq _ _ _ _)

/-! ## The grid -/

variable (m : (ℓ : Loc nD τ sig) → Buf (Elt Ideal) ℓ) (ρ : Dev nD → PrngReg)

/-- The rows. -/
abbrev rows (c : Dev nD) : S8192x2048.Idx → EReal := m ((c : Thread nD τ).loc main_arg0)

/-- The weights. -/
abbrev wts (c : Dev nD) : S4x2048x2048.Idx → EReal := m ((c : Thread nD τ).loc main_arg1)

/-- The residual. -/
abbrev res (c : Dev nD) : S8192x2048.Idx → EReal := m ((c : Thread nD τ).loc main_arg2)

/-- The gains of all layers: layer 3's is used. -/
abbrev gain (c : Dev nD) : S4x2048.Idx → EReal := m ((c : Thread nD τ).loc main_arg3)

/-- The product of a row with a column of the last layer's weights. -/
def prod (x : S8192x2048.Idx → EReal) (w : S4x2048x2048.Idx → EReal) (r : Fin 8192) (l : Fin 2048) : EReal :=
  ∑ k : Fin 2048, x (ix2 r k) * w (ix3 3 k l)

/-- The first result: the residual and the product. -/
def result (x : S8192x2048.Idx → EReal) (w : S4x2048x2048.Idx → EReal) (z : S8192x2048.Idx → EReal) (y : S8192x2048.Idx) : EReal :=
  z y + prod x w (y 0) (y 1)

/-- The second result: the first one's rows, normed. -/
def normedResult (x : S8192x2048.Idx → EReal) (w : S4x2048x2048.Idx → EReal) (z : S8192x2048.Idx → EReal) (g : S4x2048.Idx → EReal)
    (y : S8192x2048.Idx) : EReal :=
  result x w z y * factor (∑ k : Fin 2048, result x w z (ix2 (y 0) k) * result x w z (ix2 (y 0) k)) * g (ix2 3 (y 1))

theorem index0 : ∀ t : Fin cfg0.N, win0_0.index t 0 = t.val ∧ win0_0.index t 1 = 0 := by decide +kernel
theorem index1 : ∀ t : Fin cfg0.N, win0_1.index t 0 = 3 ∧ win0_1.index t 1 = 0 ∧ win0_1.index t 2 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

/-- A row of a point's block, in the whole array. -/
def row (t : Fin cfg0.N) (r : Fin 512) : Fin 8192 := ⟨512 * t.val + r.val, by have h : t.val < 16 := t.isLt; omega⟩

/-- The block of rows. -/
theorem X0_apply (c : Dev nD) (t : Fin cfg0.N) (r : Fin 512) (k : Fin 2048) : iblk m c 0 t (ix2 r k) = rows m c (ix2 (row t r) k) := by
  refine (congrFun (V_main_arg0 m c) _).trans (congrArg (rows m c) ?_)
  funext a
  refine Fin.ext ?_
  match a with
  | ⟨0, _⟩ => show win0_0.index t 0 * 512 + 1 * r.val = 512 * t.val + r.val; rw [(index0 t).1]; omega
  | ⟨1, _⟩ => show win0_0.index t 1 * 2048 + 1 * k.val = k.val; rw [(index0 t).2]; omega

/-- The block of weights. -/
theorem X1_apply (c : Dev nD) (t : Fin cfg0.N) (k : Fin 2048) (l : Fin 2048) : iblk m c 1 t (ix3 0 k l) = wts m c (ix3 3 k l) := by
  refine (congrFun (V_main_arg1 m c) _).trans (congrArg (wts m c) ?_)
  funext a
  refine Fin.ext ?_
  match a with
  | ⟨0, _⟩ => show win0_1.index t 0 * 1 + 1 * 0 = 3; rw [(index1 t).1]
  | ⟨1, _⟩ => show win0_1.index t 1 * 2048 + 1 * k.val = k.val; rw [(index1 t).2.1]; omega
  | ⟨2, _⟩ => show win0_1.index t 2 * 2048 + 1 * l.val = l.val; rw [(index1 t).2.2]; omega

/-- The block of the residual. -/
theorem X2_apply (c : Dev nD) (t : Fin cfg0.N) (r : Fin 512) (k : Fin 2048) : iblk m c 2 t (ix2 r k) = res m c (ix2 (row t r) k) := by
  refine (congrFun (V_main_arg2 m c) _).trans (congrArg (res m c) ?_)
  funext a
  refine Fin.ext ?_
  match a with
  | ⟨0, _⟩ => show win0_2.index t 0 * 512 + 1 * r.val = 512 * t.val + r.val; rw [(index2 t).1]; omega
  | ⟨1, _⟩ => show win0_2.index t 1 * 2048 + 1 * k.val = k.val; rw [(index2 t).2]; omega

/-- The gain as the grid finds it: one row. -/
theorem V_main_v2 (c : Dev nD) (l : Fin 2048) : V m c main_v2 (ix2 0 l) = gain m c (ix2 3 l) := by
  unfold_abbrev_sides
  after_results
  refine (shapeCast_apply _ _ _ (ix1 l) ?_).trans ((shapeCast_apply _ _ _ (ix2 0 l) ?_).trans ?_)
  rotate_left
  · show (S1x2048.rowMajor (ix2 0 l)).val = (S2048.rowMajor (ix1 l)).val
    rw [Shape.rowMajor_val_one, Shape.rowMajor_val_two]
    show 0 * 2048 + l.val = l.val
    omega
  · refine extractStridedSlice_apply _ _ _ _ (ix2 3 l) fun a => ?_
    match a with
    | ⟨0, _⟩ => rfl
    | ⟨1, _⟩ => show l.val = 0 + l.val; omega
  show (S2048.rowMajor (ix1 l)).val = (S1x2048.rowMajor (ix2 0 l)).val
  rw [Shape.rowMajor_val_one, Shape.rowMajor_val_two]
  show l.val = 0 * 2048 + l.val
  omega

/-- The block of the gain. -/
theorem X3_apply (c : Dev nD) (t : Fin cfg0.N) (l : Fin 2048) : iblk m c 3 t (ix2 0 l) = gain m c (ix2 3 l) := by
  refine Eq.trans (congrArg (V m c main_v2) ?_) (V_main_v2 m c l)
  funext a
  refine Fin.ext ?_
  match a with
  | ⟨0, _⟩ => show win0_3.index t 0 * 1 + 1 * 0 = 0; rw [(index3 t).1]
  | ⟨1, _⟩ => show win0_3.index t 1 * 2048 + 1 * l.val = l.val; rw [(index3 t).2]; omega

/-- The last layer's weights as a matrix. -/
def mat (w : S4x2048x2048.Idx → EReal) : Vec Ideal S2048x2048 .bf16 := fun y => w (ix3 3 (y 0) (y 1))

theorem flat_eq (c : Dev nD) (t : Fin cfg0.N) : flat (iblk m c 1 t) = mat (wts m c) := funext fun _ => X1_apply m c t _ _

/-- The scratch holds the weights. -/
theorem scratch_eq (c : Dev nD) (n : ℕ) : ∀ t : Fin cfg0.N, t.val = n → (outsAt0 m c t.val t.isLt).2.2 = mat (wts m c) := by
  induction n with
  | zero =>
    intro t ht
    rw [outsAt0_A m c t (by rw [ht]), sout_A, flat_eq]
  | succ n ih =>
    intro t ht
    by_cases h0 : t.val % 16 = 0
    · rw [outsAt0_A m c t h0, sout_A, flat_eq]
    · rw [outsAt0_B m c t h0]
      unfold sout0_B_0
      have hlt : t.val - 1 < cfg0.N := Nat.lt_of_le_of_lt (Nat.sub_le _ _) t.isLt
      exact ih ⟨t.val - 1, hlt⟩ (by show t.val - 1 = n; omega)

/-- What a point leaves in the first output's buffer. -/
theorem out4_eq (c : Dev nD) (t : Fin cfg0.N) : (outsAt0 m c t.val t.isLt).1 = block (iblk m c 2 t) (iblk m c 0 t) (mat (wts m c)) := by
  by_cases h0 : t.val % 16 = 0
  · rw [outsAt0_A m c t h0, out_A_4, flat_eq]
  · rw [outsAt0_B m c t h0, out_B_4]
    have hlt : t.val - 1 < cfg0.N := Nat.lt_of_le_of_lt (Nat.sub_le _ _) t.isLt
    exact congrArg (block (iblk m c 2 t) (iblk m c 0 t)) (scratch_eq m c (t.val - 1) ⟨t.val - 1, hlt⟩ rfl)

/-- What a point leaves in the second output's buffer. -/
theorem out5_eq (c : Dev nD) (t : Fin cfg0.N) :
    (outsAt0 m c t.val t.isLt).2.1 = normed (block (iblk m c 2 t) (iblk m c 0 t) (mat (wts m c))) (iblk m c 3 t) := by
  by_cases h0 : t.val % 16 = 0
  · rw [outsAt0_A m c t h0, out_A_5, flat_eq]
  · rw [outsAt0_B m c t h0, out_B_5]
    have hlt : t.val - 1 < cfg0.N := Nat.lt_of_le_of_lt (Nat.sub_le _ _) t.isLt
    exact congrArg (fun w => normed (block (iblk m c 2 t) (iblk m c 0 t) w) (iblk m c 3 t)) (scratch_eq m c (t.val - 1) ⟨t.val - 1, hlt⟩ rfl)

/-- A point's sum is its rows of the first result. -/
theorem block_apply (c : Dev nD) (t : Fin cfg0.N) (r : Fin 512) (l : Fin 2048) :
    block (iblk m c 2 t) (iblk m c 0 t) (mat (wts m c)) (ix2 r l) = result (rows m c) (wts m c) (res m c) (ix2 (row t r) l) :=
  congrArg₂ (fun a b : EReal => a + b) (X2_apply m c t r l)
    (Finset.sum_congr rfl fun k _ => congrArg₂ (fun a b : EReal => a * b) (X0_apply m c t r k) rfl)

/-- What a point writes back of the first output is its block of the first result. -/
theorem flushed4_eq (c : Dev nD) (t : Fin cfg0.N) :
    (dats m 0 c).flushed 4 t = ((cfg0.win 4).blk t).view.read (Elt Ideal) (result (rows m c) (wts m c) (res m c)) := by
  rw [Value.flushed4, out4_eq]
  funext y
  obtain ⟨a, b, rfl⟩ := exists_ix y
  have e : ((cfg0.win 4).blk t).view.emb (ix2 a b) = ix2 (row t a) b := by
    funext k
    refine Fin.ext ?_
    match k with
    | ⟨0, _⟩ => show win0_4.index t 0 * 512 + 1 * a.val = 512 * t.val + a.val; rw [(index4 t).1]; omega
    | ⟨1, _⟩ => show win0_4.index t 1 * 2048 + 1 * b.val = b.val; rw [(index4 t).2]; omega
  exact (block_apply m c t a b).trans (congrArg (result (rows m c) (wts m c) (res m c)) e).symm

/-- The first output's blocks cover its array. -/
theorem cover4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 := ⟨⟨_, by show _ < 16; omega⟩, rfl⟩
  refine ⟨t, flush0_4 t, ?_⟩
  show i ∈ ((View.whole main_v3_0).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(index4 t).1]; omega
  | ⟨1, _⟩ =>
    show win0_4.index t 1 * 2048 ≤ (i 1).val ∧ (i 1).val < win0_4.index t 1 * 2048 + 2048
    rw [(index4 t).2]; omega

/-- What a point writes back of the second output is its block of the second result. -/
theorem flushed5_eq (c : Dev nD) (t : Fin cfg0.N) :
    (dats m 0 c).flushed 5 t = ((cfg0.win 5).blk t).view.read (Elt Ideal) (normedResult (rows m c) (wts m c) (res m c) (gain m c)) := by
  rw [Value.flushed5, out5_eq]
  funext y
  obtain ⟨a, b, rfl⟩ := exists_ix y
  have e : ((cfg0.win 5).blk t).view.emb (ix2 a b) = ix2 (row t a) b := by
    funext k
    refine Fin.ext ?_
    match k with
    | ⟨0, _⟩ => show win0_5.index t 0 * 512 + 1 * a.val = 512 * t.val + a.val; rw [(index5 t).1]; omega
    | ⟨1, _⟩ => show win0_5.index t 1 * 2048 + 1 * b.val = b.val; rw [(index5 t).2]; omega
  refine Eq.trans ?_ (congrArg (normedResult (rows m c) (wts m c) (res m c) (gain m c)) e).symm
  refine congrArg₂ (fun p q : EReal => p * q) (congrArg₂ (fun p q : EReal => p * factor q) (block_apply m c t a b) ?_) (X3_apply m c t b)
  exact Finset.sum_congr rfl fun k _ => congrArg (fun p : EReal => p * p) (block_apply m c t a k)

/-- The second output's blocks cover its array. -/
theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  obtain ⟨t, ht⟩ : ∃ t : Fin cfg0.N, t.val = (i 0).val / 512 := ⟨⟨_, by show _ < 16; omega⟩, rfl⟩
  refine ⟨t, flush0_5 t, ?_⟩
  show i ∈ ((View.whole main_v3_1).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [(index5 t).1]; omega
  | ⟨1, _⟩ =>
    show win0_5.index t 1 * 2048 ≤ (i 1).val ∧ (i 1).val < win0_5.index t 1 * 2048 + 2048
    rw [(index5 t).2]; omega

/-- The run of the kernel: the two result arrays hold `result` and `normedResult` of the arguments, which are unchanged. -/
theorem run : θ_run defs (onTc (τ := τ) (main (F := Ideal))) ⟨m, fun _ => 0, ρ⟩ fun r => ∀ c : Dev nD,
      r.2.mem ((c : Thread nD τ).loc main_v3_0) = result (rows m c) (wts m c) (res m c)
      ∧ r.2.mem ((c : Thread nD τ).loc main_v3_1) = normedResult (rows m c) (wts m c) (res m c) (gain m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed4_eq m c t) cover4),
      (h c).2.1.trans ((dats m 0 c).arrAt_eq_of_cover 5 _ (fun t _ => flushed5_eq m c t) cover5), (h c).2.2⟩)
    (Value.run_blocks m ρ)

end Cert.OutProjValue

end
-- ==== Proof.OutProjClaim.lean ====
/- The output projection's value claim: equality with the reference. -/
module

public import proofs.«01_k».proof.Defs
public import proofs.«01_k».proof.Proof.OutProjValue
public import proofs.«01_k».proof.Proof.Gen.OutProjRefIdeal.Read
public import proofs.«01_k».proof.Proof.Gen.OutProjRefIdeal.Run

@[expose] public section

set_option maxRecDepth 16384

noncomputable section

namespace Cert.OutProjClaim

open Cert.OutProjRefIdeal Cert.OutProjRefIdeal.Gen Cert.OutProjRefIdeal.Read Idealize.ShloMosaic Idealize.ShloMosaic.Tactic Idealize.ShloMosaic.Pointwise Idealize.SL.Sem

/-- The reference's product. -/
theorem prod_eq (x : S8192x2048.Idx → EReal) (w : S4x2048x2048.Idx → EReal) (r : Fin 8192) (l : Fin 2048) :
    val_main_v3 (F := Ideal) x w (ix2 r l) = OutProjValue.prod x w r l := by
  rw [val_main_v3_apply]
  refine Finset.sum_congr rfl fun k _ => ?_
  rw [val_main_v2_apply, val_main_v1_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 2048 + l.val) / 2048 % 2048 = k.val; omega
    | ⟨2, _⟩ => show (k.val * 2048 + l.val) % 2048 = l.val; omega

/-- The reference's first result is the kernel's. -/
theorem sum_eq (x : S8192x2048.Idx → EReal) (w : S4x2048x2048.Idx → EReal) (z : S8192x2048.Idx → EReal) :
    val_main_v4 (F := Ideal) x w z = OutProjValue.result x w z := by
  funext y
  obtain ⟨r, l, rfl⟩ : ∃ (r : Fin 8192) (l : Fin 2048), y = ix2 r l := ⟨y 0, y 1, by funext k; fin_cases k <;> rfl⟩
  rw [val_main_v4_apply, prod_eq]
  rfl

/-- The reference's sum of squares. -/
theorem squares_eq (x : S8192x2048.Idx → EReal) (w : S4x2048x2048.Idx → EReal) (z : S8192x2048.Idx → EReal) (r : Fin 8192) :
    val_main_v8 (F := Ideal) x w z (ix1 r) = ∑ k : Fin 2048, OutProjValue.result x w z (ix2 r k) * OutProjValue.result x w z (ix2 r k) := by
  rw [val_main_v8_apply, val_main_cst_apply]
  have h0 : FloatOps.ofBits (F := Ideal) .f32 0x00000000#32 = (0 : EReal) := by simp [FloatOps.ofBits, Ideal.ofBits, Ideal.ieee]
  refine (congrArg (fun z : EReal => z + _) h0).trans ((zero_add _).trans ?_)
  refine Finset.sum_congr rfl fun k _ => ?_
  rw [val_main_v7_apply, sum_eq]
  have e : idx_main_v8 (ix1 r) k = ix2 r k := by
    funext a
    match a with
    | ⟨0, _⟩ => rfl
    | ⟨1, _⟩ => rfl
  rw [e]
  rfl

/-- The reference's second result is the kernel's. -/
theorem ref_eq (x : S8192x2048.Idx → EReal) (w : S4x2048x2048.Idx → EReal) (z : S8192x2048.Idx → EReal) (g : S4x2048.Idx → EReal) :
    val_main_v20 (F := Ideal) x w z g = OutProjValue.normedResult x w z g := by
  funext y
  obtain ⟨r, l, rfl⟩ : ∃ (r : Fin 8192) (l : Fin 2048), y = ix2 r l := ⟨y 0, y 1, by funext k; fin_cases k <;> rfl⟩
  have e : idx_main_v9 (idx_main_v15 (ix2 r l)) = ix1 r := by
    funext a
    match a with
    | ⟨0, _⟩ => rfl
  have e' : idx_main_v5 (idx_main_v6 (idx_main_v17 (idx_main_v18 (ix2 r l)))) = ix2 3 l := by
    funext a
    refine Fin.ext ?_
    match a with
    | ⟨0, _⟩ => rfl
    | ⟨1, _⟩ => exact Nat.mod_eq_of_lt l.isLt
  rw [val_main_v20_apply, val_main_v19_apply, val_main_v16_apply, val_main_v15_apply, val_main_v14_apply, val_main_v13_apply, val_main_v11_apply, val_main_v9_apply, e,
    squares_eq, sum_eq, val_main_v10_apply, val_main_v12_apply, val_main_cst_0_apply, val_main_cst_1_apply, val_main_v18_apply, val_main_v17_apply, val_main_v6_apply, val_main_v5_apply, e']
  rfl

/-- The output projection and its reference end with equal results. -/
theorem algebraic : @Cert.algebraic_OutProjIdeal_OutProjRefIdeal Cert.OutProjIdeal.Gen.facts Cert.OutProjRefIdeal.Gen.facts :=
  fun m ρ m' ρ' _ hag => ⟨fun c => OutProjValue.result (OutProjValue.rows m c) (OutProjValue.wts m c) (OutProjValue.res m c),
    fun c => OutProjValue.normedResult (OutProjValue.rows m c) (OutProjValue.wts m c) (OutProjValue.res m c) (OutProjValue.gain m c), OutProjValue.run m ρ,
    (θ_run Cert.OutProjRefIdeal.defs _ _).mono (fun r h c => ⟨by
      rw [(h c).1, val_main_v4_eq, (hag c).1, (hag c).2.1, (hag c).2.2.1]
      exact sum_eq _ _ _, by
      rw [(h c).2.1, val_main_v20_eq, (hag c).1, (hag c).2.1, (hag c).2.2.1, (hag c).2.2.2]
      exact ref_eq _ _ _ _, (h c).2.2⟩)
    (Cert.OutProjRefIdeal.Value.run (F := Ideal) m' ρ')⟩

end Cert.OutProjClaim

end
-- ==== Proof.FfUpValue.lean ====
/- The squared-ReLU projection: the array it leaves, as one function of the rows and the weights. -/
module

public import proofs.«01_k».proof.Proof.Gen.FfUpIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.FfUpValue

open Cert.FfUpIdeal Cert.FfUpIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- The weight block as a matrix. -/
def flat (x1 : Vec Ideal S1x2048x1024 .f32) : Vec Ideal S2048x1024 .bf16 := fun y => x1 (ix3 0 (y 0) (y 1))

/-- A row times a column. -/
def dot (x0 : Vec Ideal S1024x2048 .bf16) (w : Vec Ideal S2048x1024 .bf16) (r l : Fin 1024) : EReal := ∑ k : Fin 2048, x0 (ix2 r k) * w (ix2 k l)

/-- The squared positive part of the rows times the weights. -/
def block (x0 : Vec Ideal S1024x2048 .bf16) (w : Vec Ideal S2048x1024 .bf16) : Vec Ideal S1024x1024 .bf16 := fun y =>
  max (dot x0 w (y 0) (y 1)) 0 * max (dot x0 w (y 0) (y 1)) 0

/-- The printed product, its positive part squared. -/
theorem pay4_eq (x0 : Vec Ideal S1024x2048 .bf16) (w : Vec Ideal S2048x1024 .bf16) : k0_pay4 (F := Ideal) x0 w = block x0 w := by
  funext y
  obtain ⟨a, b, rfl⟩ : ∃ (a : Fin 1024) (b : Fin 1024), y = ix2 a b := ⟨y 0, y 1, by funext k; fin_cases k <;> rfl⟩
  pointwise [k0_pay4]
  rfl

/-- A point that keeps the weights. -/
theorem out_B (c : Dev nD) (i : grid0.Coords) (arg2 : Memref sig .tc .vmem S1024x2048 .bf16) (harg2 : arg2.IsWhole) (arg3 : Memref sig .tc .vmem S1x2048x1024 .f32) (harg3 : arg3.IsWhole)
    (arg4 : Memref sig .tc .vmem S1024x1024 .bf16) (harg4 : arg4.IsWhole) (arg5 : Memref sig .tc .vmem S2048x1024 .bf16) (harg5 : arg5.IsWhole) (hc0 : ¬cond0_0 i)
    (x0 : Vec Ideal S1024x2048 .bf16) (x1 : Vec Ideal S1x2048x1024 .f32) (xs0 : Vec Ideal S2048x1024 .bf16) :
    out0_B_2 c i arg2 harg2 arg3 harg3 arg4 harg4 arg5 harg5 hc0 x0 x1 xs0 = block x0 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz]
  simp only [View.readAt_eq_ld, harg2.read_unread, harg5.read_unread, View.ld_unit_zero (S := S1024x2048) hz, View.ld_unit_zero (S := S2048x1024) hz]
  exact pay4_eq x0 xs0

/-- A group of 256 rows of the weights, as stored, is these rows of the matrix. -/
theorem piece_at (x1 : Vec Ideal S1x2048x1024 .f32) (o : ℕ) (h) (h') (x : S256x1024.Idx) :
    k0_pay1 (F := Ideal) (View.ld x1 (Rect.unit (s := S1x2048x1024) ![0, o, 0] S1x256x1024.size h)) x
      = flat x1 ((Rect.unit (s := S2048x1024) ![o, 0] S256x1024.size h').emb x) := by
  obtain ⟨a, b, rfl⟩ : ∃ (a : Fin 256) (b : Fin 1024), x = ix2 a b := ⟨x 0, x 1, by funext k; fin_cases k <;> rfl⟩
  pointwise [k0_pay1]
  refine congrArg x1 ?_
  funext k
  refine Fin.ext ?_
  match k with
  | ⟨0, _⟩ => rfl
  | ⟨1, _⟩ => show o + a.val = o + 1 * a.val; omega
  | ⟨2, _⟩ => show b.val = 0 + 1 * b.val; omega

/-- What a point that stores the weights leaves in the scratch. -/
theorem sout_A (c : Dev nD) (i : grid0.Coords) (arg2 : Memref sig .tc .vmem S1024x2048 .bf16) (harg2 : arg2.IsWhole) (arg3 : Memref sig .tc .vmem S1x2048x1024 .f32) (harg3 : arg3.IsWhole)
    (arg4 : Memref sig .tc .vmem S1024x1024 .bf16) (harg4 : arg4.IsWhole) (arg5 : Memref sig .tc .vmem S2048x1024 .bf16) (harg5 : arg5.IsWhole) (hc0 : cond0_0 i)
    (x0 : Vec Ideal S1024x2048 .bf16) (x1 : Vec Ideal S1x2048x1024 .f32) :
    sout0_A_0 c i arg2 harg2 arg3 harg3 arg4 harg4 arg5 harg5 hc0 x0 x1 = flat x1 := by
  have hcov := scover0_A_0 c i arg2 harg2 arg3 harg3 arg4 harg4 arg5 harg5 hc0 x0 x1
  unfold sout0_A_0
  rw [View.read_writes_eq_canon _ _ _ hcov]
  funext y
  refine View.canon_apply_of_pieces _ _ ?_ y (hcov y)
  refine View.PiecesOf.mem ?_
  unfold kernelRun0_A
  dsimp only
  sl_unfold_words
  simp only [View.readAt_eq_ld, harg3.read_unread]
  exact ⟨piece_at x1 1792 inb_S1x2048x1024_S1x256x1024_0_1792_0 inb_S2048x1024_S256x1024_1792_0,
    piece_at x1 1536 inb_S1x2048x1024_S1x256x1024_0_1536_0 inb_S2048x1024_S256x1024_1536_0,
    piece_at x1 1280 inb_S1x2048x1024_S1x256x1024_0_1280_0 inb_S2048x1024_S256x1024_1280_0,
    piece_at x1 1024 inb_S1x2048x1024_S1x256x1024_0_1024_0 inb_S2048x1024_S256x1024_1024_0,
    piece_at x1 768 inb_S1x2048x1024_S1x256x1024_0_768_0 inb_S2048x1024_S256x1024_768_0,
    piece_at x1 512 inb_S1x2048x1024_S1x256x1024_0_512_0 inb_S2048x1024_S256x1024_512_0,
    piece_at x1 256 inb_S1x2048x1024_S1x256x1024_0_256_0 inb_S2048x1024_S256x1024_256_0,
    piece_at x1 0 inb_S1x2048x1024_S1x256x1024_0_0_0 inb_S2048x1024_S256x1024_0_0, trivial⟩

/-- A point that first stores the weights. -/
theorem out_A (c : Dev nD) (i : grid0.Coords) (arg2 : Memref sig .tc .vmem S1024x2048 .bf16) (harg2 : arg2.IsWhole) (arg3 : Memref sig .tc .vmem S1x2048x1024 .f32) (harg3 : arg3.IsWhole)
    (arg4 : Memref sig .tc .vmem S1024x1024 .bf16) (harg4 : arg4.IsWhole) (arg5 : Memref sig .tc .vmem S2048x1024 .bf16) (harg5 : arg5.IsWhole) (hc0 : cond0_0 i)
    (x0 : Vec Ideal S1024x2048 .bf16) (x1 : Vec Ideal S1x2048x1024 .f32) :
    out0_A_2 c i arg2 harg2 arg3 harg3 arg4 harg4 arg5 harg5 hc0 x0 x1 = block x0 (flat x1) := by
  rw [← sout_A c i arg2 harg2 arg3 harg3 arg4 harg4 arg5 harg5 hc0 x0 x1]
  unfold out0_A_2 sout0_A_0
  rw [View.read_writes_eq_canon _ _ _ (cover0_A_2 c i arg2 harg2 arg3 harg3 arg4 harg4 arg5 harg5 hc0 x0 x1),
    View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg2.read_unread, View.ld_unit_zero (S := S1024x2048) hz, View.readCov_eq_canon']
  exact (congrArg (k0_pay4 x0) (View.ld_unit_zero (S := S2048x1024) hz _ _)).trans (pay4_eq _ _)

/-! ## The grid -/

variable (m : (ℓ : Loc nD τ sig) → Buf (Elt Ideal) ℓ) (ρ : Dev nD → PrngReg)

/-- The rows. -/
abbrev rows (c : Dev nD) : S8192x2048.Idx → EReal := m ((c : Thread nD τ).loc main_arg0)

/-- The weights. -/
abbrev wts (c : Dev nD) : S4x2048x8192.Idx → EReal := m ((c : Thread nD τ).loc main_arg1)

/-- The product of a row with a column of the last layer's weights. -/
def prod (x : S8192x2048.Idx → EReal) (w : S4x2048x8192.Idx → EReal) (r : Fin 8192) (l : Fin 8192) : EReal :=
  ∑ k : Fin 2048, x (ix2 r k) * w (ix3 3 k l)

/-- The whole result. -/
def result (x : S8192x2048.Idx → EReal) (w : S4x2048x8192.Idx → EReal) (y : S8192x8192.Idx) : EReal :=
  max (prod x w (y 0) (y 1)) 0 * max (prod x w (y 0) (y 1)) 0

/-- The column block of a grid point. -/
def pj (t : Fin cfg0.N) : Fin 8 := ⟨t.val / 8, by have h : t.val < 64 := t.isLt; omega⟩
/-- The row block of a grid point. -/
def pr (t : Fin cfg0.N) : Fin 8 := ⟨t.val % 8, Nat.mod_lt _ (by decide)⟩

theorem index0 : ∀ t : Fin cfg0.N, win0_0.index t 0 = t.val % 8 ∧ win0_0.index t 1 = 0 := by decide +kernel
theorem index1 : ∀ t : Fin cfg0.N, win0_1.index t 0 = 3 ∧ win0_1.index t 1 = 0 ∧ win0_1.index t 2 = t.val / 8 := by decide +kernel
theorem index2 : ∀ t : Fin cfg0.N, win0_2.index t 0 = t.val % 8 ∧ win0_2.index t 1 = t.val / 8 := by decide +kernel

/-- The block of rows. -/
theorem X0_apply (c : Dev nD) (t : Fin cfg0.N) (r : Fin 1024) (k : Fin 2048) :
    iblk m c 0 t (ix2 r k) = rows m c (ix2 (⟨1024 * (pr t).val + r.val, by omega⟩ : Fin 8192) k) := by
  refine (congrFun (V_main_arg0 m c) _).trans (congrArg (rows m c) ?_)
  funext a
  refine Fin.ext ?_
  match a with
  | ⟨0, _⟩ => show win0_0.index t 0 * 1024 + 1 * r.val = 1024 * (t.val % 8) + r.val; rw [(index0 t).1]; omega
  | ⟨1, _⟩ => show win0_0.index t 1 * 2048 + 1 * k.val = k.val; rw [(index0 t).2]; omega

/-- The block of weights. -/
theorem X1_apply (c : Dev nD) (t : Fin cfg0.N) (k : Fin 2048) (l : Fin 1024) :
    iblk m c 1 t (ix3 0 k l) = wts m c (ix3 3 k (⟨1024 * (pj t).val + l.val, by omega⟩ : Fin 8192)) := by
  refine (congrFun (V_main_arg1 m c) _).trans (congrArg (wts m c) ?_)
  funext a
  refine Fin.ext ?_
  match a with
  | ⟨0, _⟩ => show win0_1.index t 0 * 1 + 1 * 0 = 3; rw [(index1 t).1]
  | ⟨1, _⟩ => show win0_1.index t 1 * 2048 + 1 * k.val = k.val; rw [(index1 t).2.1]; omega
  | ⟨2, _⟩ => show win0_1.index t 2 * 1024 + 1 * l.val = 1024 * (t.val / 8) + l.val; rw [(index1 t).2.2]; omega

/-- A column block of the last layer's weights. -/
def cols (w : S4x2048x8192.Idx → EReal) (j : Fin 8) : Vec Ideal S2048x1024 .bf16 := fun y =>
  w (ix3 3 (y 0) (⟨1024 * j.val + (y 1).val, by have h : (y 1).val < 1024 := (y 1).isLt; omega⟩ : Fin 8192))

theorem flat_eq (c : Dev nD) (t : Fin cfg0.N) : flat (iblk m c 1 t) = cols (wts m c) (pj t) :=
  funext fun _ => X1_apply m c t _ _

/-- The scratch holds the column block of the point. -/
theorem scratch_eq (c : Dev nD) (n : ℕ) : ∀ t : Fin cfg0.N, t.val = n → (outsAt0 m c t.val t.isLt).2 = cols (wts m c) (pj t) := by
  induction n with
  | zero =>
    intro t ht
    rw [outsAt0_A m c t (by rw [ht]), sout_A, flat_eq]
  | succ n ih =>
    intro t ht
    by_cases h0 : t.val % 8 = 0
    · rw [outsAt0_A m c t h0, sout_A, flat_eq]
    · rw [outsAt0_B m c t h0]
      unfold sout0_B_0
      have hlt : t.val - 1 < cfg0.N := Nat.lt_of_le_of_lt (Nat.sub_le _ _) t.isLt
      have e := ih ⟨t.val - 1, hlt⟩ (by show t.val - 1 = n; omega)
      refine Eq.trans e (congrArg (cols (wts m c)) (Fin.ext ?_))
      show (t.val - 1) / 8 = t.val / 8
      omega

/-- What a point leaves in the output's buffer. -/
theorem out_eq (c : Dev nD) (t : Fin cfg0.N) : (outsAt0 m c t.val t.isLt).1 = block (iblk m c 0 t) (cols (wts m c) (pj t)) := by
  by_cases h0 : t.val % 8 = 0
  · rw [outsAt0_A m c t h0, out_A, flat_eq]
  · rw [outsAt0_B m c t h0, out_B]
    have hlt : t.val - 1 < cfg0.N := Nat.lt_of_le_of_lt (Nat.sub_le _ _) t.isLt
    have e := scratch_eq m c (t.val - 1) ⟨t.val - 1, hlt⟩ rfl
    refine congrArg (block (iblk m c 0 t)) (e.trans (congrArg (cols (wts m c)) (Fin.ext ?_)))
    show (t.val - 1) / 8 = t.val / 8
    omega

/-- What a point writes back is its block of the result. -/
theorem flushed_eq (c : Dev nD) (t : Fin cfg0.N) :
    (dats m 0 c).flushed 2 t = ((cfg0.win 2).blk t).view.read (Elt Ideal) (result (rows m c) (wts m c)) := by
  rw [Value.flushed2, out_eq]
  funext y
  have h0 : (y 0).val < 1024 := (y 0).isLt
  have h1 : (y 1).val < 1024 := (y 1).isLt
  have e0 : (⟨1024 * (pr t).val + (y 0).val, by omega⟩ : Fin 8192) = ((cfg0.win 2).blk t).view.emb y 0 := Fin.ext (by
    show 1024 * (t.val % 8) + (y 0).val = win0_2.index t 0 * 1024 + 1 * (y 0).val; rw [(index2 t).1]; omega)
  have e1 : (⟨1024 * (pj t).val + (y 1).val, by omega⟩ : Fin 8192) = ((cfg0.win 2).blk t).view.emb y 1 := Fin.ext (by
    show 1024 * (t.val / 8) + (y 1).val = win0_2.index t 1 * 1024 + 1 * (y 1).val; rw [(index2 t).2]; omega)
  have hp : dot (iblk m c 0 t) (cols (wts m c) (pj t)) (y 0) (y 1)
      = prod (rows m c) (wts m c) (((cfg0.win 2).blk t).view.emb y 0) (((cfg0.win 2).blk t).view.emb y 1) := by
    rw [← e0, ← e1]
    exact Finset.sum_congr rfl fun k _ => congrArg₂ (fun a b : EReal => a * b) (X0_apply m c t (y 0) k) rfl
  exact congrArg (fun s : EReal => max s 0 * max s 0) hp

/-- The blocks cover the result. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ : ∃ t : Fin cfg0.N, t.val = 8 * ((i 1).val / 1024) + (i 0).val / 1024 := ⟨⟨_, by show _ < 64; omega⟩, rfl⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(index2 t).1]; omega
  | ⟨1, _⟩ =>
    show win0_2.index t 1 * 1024 ≤ (i 1).val ∧ (i 1).val < win0_2.index t 1 * 1024 + 1024
    rw [(index2 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v0) = result (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

end Cert.FfUpValue

end
-- ==== Proof.FfUpClaim.lean ====
/- The squared-ReLU projection's value claim: equality with the reference. -/
module

public import proofs.«01_k».proof.Defs
public import proofs.«01_k».proof.Proof.FfUpValue
public import proofs.«01_k».proof.Proof.Gen.FfUpRefIdeal.Read
public import proofs.«01_k».proof.Proof.Gen.FfUpRefIdeal.Run

@[expose] public section

set_option maxRecDepth 16384

noncomputable section

namespace Cert.FfUpClaim

open Cert.FfUpRefIdeal Cert.FfUpRefIdeal.Gen Cert.FfUpRefIdeal.Read Idealize.ShloMosaic Idealize.ShloMosaic.Tactic Idealize.ShloMosaic.Pointwise Idealize.SL.Sem

/-- The reference's product. -/
theorem prod_eq (x : S8192x2048.Idx → EReal) (w : S4x2048x8192.Idx → EReal) (r l : Fin 8192) :
    val_main_v3 (F := Ideal) x w (ix2 r l) = FfUpValue.prod x w r l := by
  rw [val_main_v3_apply]
  refine Finset.sum_congr rfl fun k _ => ?_
  rw [val_main_v2_apply, val_main_v1_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 8192 + l.val) / 8192 % 2048 = k.val; omega
    | ⟨2, _⟩ => show (k.val * 8192 + l.val) % 8192 = l.val; omega

/-- The reference's result is the kernel's. -/
theorem ref_eq (x : S8192x2048.Idx → EReal) (w : S4x2048x8192.Idx → EReal) :
    val_main_v6 (F := Ideal) x w = FfUpValue.result x w := by
  funext y
  obtain ⟨r, l, rfl⟩ : ∃ (r : Fin 8192) (l : Fin 8192), y = ix2 r l := ⟨y 0, y 1, by funext k; fin_cases k <;> rfl⟩
  have h : val_main_v4 (F := Ideal) x w (ix2 r l) = max (FfUpValue.prod x w r l) 0 := by
    rw [val_main_v4_apply, prod_eq, val_main_call0_v0_apply, val_main_call0_cst_apply]
    exact congrArg (max _) (by simp [FloatOps.ofBits, Ideal.ofBits, Ideal.ieee])
  rw [val_main_v6_apply, val_main_v5_apply, h]
  rfl

/-- The squared-ReLU projection and its reference end with equal results. -/
theorem algebraic : @Cert.algebraic_FfUpIdeal_FfUpRefIdeal Cert.FfUpIdeal.Gen.facts Cert.FfUpRefIdeal.Gen.facts :=
  fun m ρ m' ρ' _ hag => ⟨fun c => FfUpValue.result (FfUpValue.rows m c) (FfUpValue.wts m c), FfUpValue.run m ρ,
    (θ_run Cert.FfUpRefIdeal.defs _ _).mono (fun r h c => ⟨by
      rw [(h c).1, val_main_v6_eq, (hag c).1, (hag c).2]
      exact ref_eq _ _, (h c).2⟩)
    (Cert.FfUpRefIdeal.Value.run (F := Ideal) m' ρ')⟩

end Cert.FfUpClaim

end
-- ==== Proof.FfDownValue.lean ====
/- The projection back from the feed-forward part, with the residual: the array it leaves, as one function of the rows,
   the weights and the residual. -/
module

public import proofs.«01_k».proof.Proof.Gen.FfDownIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.FfDownValue

open Cert.FfDownIdeal Cert.FfDownIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- A row times a column of a block of weights. -/
def dot (x0 : Vec Ideal S1024x2048 .bf16) (w : Vec Ideal S1x2048x1024 .bf16) (r l : Fin 1024) : EReal := ∑ k : Fin 2048, x0 (ix2 r k) * w (ix3 0 k l)

/-- The printed product. -/
theorem pay1_apply (x0 : Vec Ideal S1024x2048 .bf16) (w : Vec Ideal S1x2048x1024 .bf16) (r l : Fin 1024) :
    k0_pay1 (F := Ideal) x0 w (ix2 r l) = dot x0 w r l := by
  pointwise [k0_pay1]
  rfl

/-- An index of a block is a row and a column. -/
theorem exists_ix (y : S1024x1024.Idx) : ∃ (a : Fin 1024) (b : Fin 1024), y = ix2 a b := ⟨y 0, y 1, by funext k; fin_cases k <;> rfl⟩

/-- The first product, as stored. -/
theorem pay2_eq (x0 : Vec Ideal S1024x2048 .bf16) (w : Vec Ideal S1x2048x1024 .bf16) : k0_pay2 (F := Ideal) x0 w = fun y => dot x0 w (y 0) (y 1) := by
  funext y
  obtain ⟨a, b, rfl⟩ := exists_ix y
  unfold k0_pay2
  rw [shapeCast_self]
  exact pay1_apply x0 w a b

/-- A later product, added to the sum so far. -/
theorem pay3_eq (x0 : Vec Ideal S1024x2048 .bf16) (w : Vec Ideal S1x2048x1024 .bf16) (s : Vec Ideal S1024x1024 .f32) :
    k0_pay3 (F := Ideal) x0 w s = fun y => s y + dot x0 w (y 0) (y 1) := by
  funext y
  obtain ⟨a, b, rfl⟩ := exists_ix y
  unfold k0_pay3
  rw [shapeCast_self]
  exact congrArg (fun z : EReal => s (ix2 a b) + z) (pay1_apply x0 w a b)

/-- The last product, added to the sum so far and to the residual. -/
theorem pay4_eq (x0 : Vec Ideal S1024x2048 .bf16) (w : Vec Ideal S1x2048x1024 .bf16) (s r : Vec Ideal S1024x1024 .f32) :
    k0_pay4 (F := Ideal) x0 w s r = fun y => r y + (s y + dot x0 w (y 0) (y 1)) := by
  funext y
  obtain ⟨a, b, rfl⟩ := exists_ix y
  exact congrArg (fun z : EReal => r (ix2 a b) + (s (ix2 a b) + z)) (pay1_apply x0 w a b)

/-- The scratch after a point that starts a sum. -/
theorem sout_A (c : Dev nD) (i : grid0.Coords) (arg3 : Memref sig .tc .vmem S1024x2048 .bf16) (harg3 : arg3.IsWhole) (arg4 : Memref sig .tc .vmem S1x2048x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc0 : cond0_0 i) (hc1 : ¬cond0_1 i) (hc2 : ¬cond0_2 i) (x0 : Vec Ideal S1024x2048 .bf16) (x1 : Vec Ideal S1x2048x1024 .bf16) (x2 : Vec Ideal S1024x1024 .f32) :
    sout0_A_0 c i arg3 harg3 arg4 harg4 arg5 harg5 arg6 harg6 arg7 harg7 hc0 hc1 hc2 x0 x1 x2 = fun y => dot x0 x1 (y 0) (y 1) := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero hz]
  simp only [View.readAt_eq_ld, harg3.read_unread, harg4.read_unread, harg5.read_unread, harg7.read_unread, View.ld_unit_zero (S := S1024x2048) hz, View.ld_unit_zero (S := S1x2048x1024) hz3, View.ld_unit_zero (S := S1024x1024) hz]
  exact pay2_eq x0 x1

/-- The scratch after a point that continues a sum. -/
theorem sout_B (c : Dev nD) (i : grid0.Coords) (arg3 : Memref sig .tc .vmem S1024x2048 .bf16) (harg3 : arg3.IsWhole) (arg4 : Memref sig .tc .vmem S1x2048x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬cond0_0 i) (hc1 : cond0_1 i) (hc2 : ¬cond0_2 i) (x0 : Vec Ideal S1024x2048 .bf16) (x1 : Vec Ideal S1x2048x1024 .bf16) (x2 : Vec Ideal S1024x1024 .f32) (xs0 : Vec Ideal S1024x1024 .f32) :
    sout0_B_0 c i arg3 harg3 arg4 harg4 arg5 harg5 arg6 harg6 arg7 harg7 hc0 hc1 hc2 x0 x1 x2 xs0 = fun y => xs0 y + dot x0 x1 (y 0) (y 1) := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S1024x2048) hz, View.ld_unit_zero (S := S1x2048x1024) hz3, View.ld_unit_zero (S := S1024x1024) hz]
  exact pay3_eq x0 x1 xs0

/-- The output's buffer after a point that ends a sum. -/
theorem out_C (c : Dev nD) (i : grid0.Coords) (arg3 : Memref sig .tc .vmem S1024x2048 .bf16) (harg3 : arg3.IsWhole) (arg4 : Memref sig .tc .vmem S1x2048x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬cond0_0 i) (hc1 : ¬cond0_1 i) (hc2 : cond0_2 i) (x0 : Vec Ideal S1024x2048 .bf16) (x1 : Vec Ideal S1x2048x1024 .bf16) (x2 : Vec Ideal S1024x1024 .f32) (xs0 : Vec Ideal S1024x1024 .f32) :
    out0_C_3 c i arg3 harg3 arg4 harg4 arg5 harg5 arg6 harg6 arg7 harg7 hc0 hc1 hc2 x0 x1 x2 xs0 = fun y => x2 y + (xs0 y + dot x0 x1 (y 0) (y 1)) := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x2048) hz, View.ld_unit_zero (S := S1x2048x1024) hz3, View.ld_unit_zero (S := S1024x1024) hz]
  exact pay4_eq x0 x1 xs0 x2

/-! ## The grid -/

variable (m : (ℓ : Loc nD τ sig) → Buf (Elt Ideal) ℓ) (ρ : Dev nD → PrngReg)

/-- The rows. -/
abbrev rows (c : Dev nD) : S8192x8192.Idx → EReal := m ((c : Thread nD τ).loc main_arg0)

/-- The weights. -/
abbrev wts (c : Dev nD) : S4x8192x2048.Idx → EReal := m ((c : Thread nD τ).loc main_arg1)

/-- The residual. -/
abbrev res (c : Dev nD) : S8192x2048.Idx → EReal := m ((c : Thread nD τ).loc main_arg2)

/-- The products of group `q` of 2048 of a row with a column of the last layer's weights. -/
def part (x : S8192x8192.Idx → EReal) (w : S4x8192x2048.Idx → EReal) (r : Fin 8192) (l : Fin 2048) (q : Fin 4) : EReal :=
  ∑ k : Fin 2048, x (ix2 r (⟨2048 * q.val + k.val, by omega⟩ : Fin 8192)) * w (ix3 3 (⟨2048 * q.val + k.val, by omega⟩ : Fin 8192) l)

/-- The sum of the groups up to `q`. -/
def upTo (x : S8192x8192.Idx → EReal) (w : S4x8192x2048.Idx → EReal) (r : Fin 8192) (l : Fin 2048) : ℕ → EReal
  | 0 => part x w r l 0
  | 1 => part x w r l 0 + part x w r l 1
  | 2 => part x w r l 0 + part x w r l 1 + part x w r l 2
  | _ => part x w r l 0 + part x w r l 1 + part x w r l 2 + part x w r l 3

/-- The product of a row with a column of the last layer's weights. -/
def prod (x : S8192x8192.Idx → EReal) (w : S4x8192x2048.Idx → EReal) (r : Fin 8192) (l : Fin 2048) : EReal :=
  ∑ k : Fin 8192, x (ix2 r k) * w (ix3 3 k l)

/-- The product is the sum of its four groups. -/
theorem prod_eq (x : S8192x8192.Idx → EReal) (w : S4x8192x2048.Idx → EReal) (r : Fin 8192) (l : Fin 2048) : prod x w r l = upTo x w r l 3 := by
  unfold prod
  have h : ∀ f : Fin (2048 + 2048 + 2048 + 2048) → EReal, ∑ k, f k
      = (∑ k : Fin 2048, f ⟨2048 * 0 + k.val, by omega⟩) + (∑ k : Fin 2048, f ⟨2048 * 1 + k.val, by omega⟩)
        + (∑ k : Fin 2048, f ⟨2048 * 2 + k.val, by omega⟩) + (∑ k : Fin 2048, f ⟨2048 * 3 + k.val, by omega⟩) := by
    intro f
    rw [Fin.sum_univ_add, Fin.sum_univ_add, Fin.sum_univ_add]
    refine congrArg₂ (· + ·) (congrArg₂ (· + ·) (congrArg₂ (· + ·) ?_ ?_) ?_) ?_ <;>
      exact Finset.sum_congr rfl fun k _ => congrArg f (Fin.ext (by simp <;> omega))
  exact h fun k => x (ix2 r k) * w (ix3 3 k l)

/-- The whole result. -/
def result (x : S8192x8192.Idx → EReal) (w : S4x8192x2048.Idx → EReal) (z : S8192x2048.Idx → EReal) (y : S8192x2048.Idx) : EReal :=
  z y + prod x w (y 0) (y 1)

/-- The row block of a grid point. -/
def pr (t : Fin cfg0.N) : Fin 8 := ⟨t.val / 8, by have h : t.val < 64 := t.isLt; omega⟩
/-- The column block of a grid point. -/
def pj (t : Fin cfg0.N) : Fin 2 := ⟨t.val / 4 % 2, Nat.mod_lt _ (by decide)⟩
/-- The group of a grid point. -/
def pk (t : Fin cfg0.N) : Fin 4 := ⟨t.val % 4, Nat.mod_lt _ (by decide)⟩

theorem index0 : ∀ t : Fin cfg0.N, win0_0.index t 0 = t.val / 8 ∧ win0_0.index t 1 = t.val % 4 := by decide +kernel
theorem index1 : ∀ t : Fin cfg0.N, win0_1.index t 0 = 3 ∧ win0_1.index t 1 = t.val % 4 ∧ win0_1.index t 2 = t.val / 4 % 2 := by decide +kernel
theorem index2 : ∀ t : Fin cfg0.N, win0_2.index t 0 = t.val / 8 ∧ win0_2.index t 1 = t.val / 4 % 2 := by decide +kernel
theorem index3 : ∀ t : Fin cfg0.N, win0_3.index t 0 = t.val / 8 ∧ win0_3.index t 1 = t.val / 4 % 2 := by decide +kernel

/-- The block of rows. -/
theorem X0_apply (c : Dev nD) (t : Fin cfg0.N) (r : Fin 1024) (k : Fin 2048) :
    iblk m c 0 t (ix2 r k) = rows m c (ix2 (⟨1024 * (pr t).val + r.val, by omega⟩ : Fin 8192) (⟨2048 * (pk t).val + k.val, by omega⟩ : Fin 8192)) := by
  refine (congrFun (V_main_arg0 m c) _).trans (congrArg (rows m c) ?_)
  funext a
  refine Fin.ext ?_
  match a with
  | ⟨0, _⟩ => show win0_0.index t 0 * 1024 + 1 * r.val = 1024 * (t.val / 8) + r.val; rw [(index0 t).1]; omega
  | ⟨1, _⟩ => show win0_0.index t 1 * 2048 + 1 * k.val = 2048 * (t.val % 4) + k.val; rw [(index0 t).2]; omega

/-- The weights as the grid finds them. -/
theorem V_main_v0 (c : Dev nD) : V m c main_v0 = wts m c := by
  unfold_abbrev_sides
  after_results
  rfl

/-- The block of weights. -/
theorem X1_apply (c : Dev nD) (t : Fin cfg0.N) (k : Fin 2048) (l : Fin 1024) :
    iblk m c 1 t (ix3 0 k l) = wts m c (ix3 3 (⟨2048 * (pk t).val + k.val, by omega⟩ : Fin 8192) (⟨1024 * (pj t).val + l.val, by omega⟩ : Fin 2048)) := by
  refine (congrFun (V_main_v0 m c) _).trans (congrArg (wts m c) ?_)
  funext a
  refine Fin.ext ?_
  match a with
  | ⟨0, _⟩ => show win0_1.index t 0 * 1 + 1 * 0 = 3; rw [(index1 t).1]
  | ⟨1, _⟩ => show win0_1.index t 1 * 2048 + 1 * k.val = 2048 * (t.val % 4) + k.val; rw [(index1 t).2.1]; omega
  | ⟨2, _⟩ => show win0_1.index t 2 * 1024 + 1 * l.val = 1024 * (t.val / 4 % 2) + l.val; rw [(index1 t).2.2]; omega

/-- The block of the residual. -/
theorem X2_apply (c : Dev nD) (t : Fin cfg0.N) (r l : Fin 1024) :
    iblk m c 2 t (ix2 r l) = res m c (ix2 (⟨1024 * (pr t).val + r.val, by omega⟩ : Fin 8192) (⟨1024 * (pj t).val + l.val, by omega⟩ : Fin 2048)) := by
  refine (congrFun (V_main_arg2 m c) _).trans (congrArg (res m c) ?_)
  funext a
  refine Fin.ext ?_
  match a with
  | ⟨0, _⟩ => show win0_2.index t 0 * 1024 + 1 * r.val = 1024 * (t.val / 8) + r.val; rw [(index2 t).1]; omega
  | ⟨1, _⟩ => show win0_2.index t 1 * 1024 + 1 * l.val = 1024 * (t.val / 4 % 2) + l.val; rw [(index2 t).2]; omega

/-- The product of a point's blocks is its group. -/
theorem dot_eq (c : Dev nD) (t : Fin cfg0.N) (r l : Fin 1024) : dot (iblk m c 0 t) (iblk m c 1 t) r l
    = part (rows m c) (wts m c) (⟨1024 * (pr t).val + r.val, by omega⟩ : Fin 8192) (⟨1024 * (pj t).val + l.val, by omega⟩ : Fin 2048) (pk t) :=
  Finset.sum_congr rfl fun k _ => congrArg₂ (fun a b : EReal => a * b) (X0_apply m c t r k) (X1_apply m c t k l)

/-- The sum so far at a point, of the whole arrays. -/
def sofar (x : S8192x8192.Idx → EReal) (w : S4x8192x2048.Idx → EReal) (t : Fin cfg0.N) : Vec Ideal S1024x1024 .f32 := fun y =>
  upTo x w (⟨1024 * (pr t).val + (y 0).val, by have h : (y 0).val < 1024 := (y 0).isLt; omega⟩ : Fin 8192)
    (⟨1024 * (pj t).val + (y 1).val, by have h : (y 1).val < 1024 := (y 1).isLt; omega⟩ : Fin 2048) (t.val % 4)

/-- One more group. -/
theorem upTo_succ (x : S8192x8192.Idx → EReal) (w : S4x8192x2048.Idx → EReal) (r : Fin 8192) (l : Fin 2048) (q : Fin 4) (hq : 1 ≤ q.val) :
    upTo x w r l (q.val - 1) + part x w r l q = upTo x w r l q.val := by
  fin_cases q
  · exact absurd hq (by decide)
  · rfl
  · rfl
  · rfl

/-- The sum of the point before, with this point's group. -/
theorem sofar_step (c : Dev nD) (t s : Fin cfg0.N) (hs : s.val + 1 = t.val) (h0 : ¬ t.val % 4 = 0) (y : S1024x1024.Idx) :
    sofar (rows m c) (wts m c) s y + dot (iblk m c 0 t) (iblk m c 1 t) (y 0) (y 1) = sofar (rows m c) (wts m c) t y := by
  have e0 : pr s = pr t := Fin.ext (by show s.val / 8 = t.val / 8; omega)
  have e1 : pj s = pj t := Fin.ext (by show s.val / 4 % 2 = t.val / 4 % 2; omega)
  have e2 : s.val % 4 = (pk t).val - 1 := by show s.val % 4 = t.val % 4 - 1; omega
  refine Eq.trans (congrArg (fun z : EReal => sofar (rows m c) (wts m c) s y + z) (dot_eq m c t (y 0) (y 1))) ?_
  unfold sofar
  simp only [e0, e1, e2]
  exact upTo_succ _ _ _ _ (pk t) (by show 1 ≤ t.val % 4; omega)

/-- The scratch holds the sum so far, until the last group. -/
theorem scratch_eq (c : Dev nD) (n : ℕ) : ∀ t : Fin cfg0.N, t.val = n → t.val % 4 ≠ 3 →
    (outsAt0 m c t.val t.isLt).2 = sofar (rows m c) (wts m c) t := by
  have start : ∀ t : Fin cfg0.N, t.val % 4 = 0 → (outsAt0 m c t.val t.isLt).2 = sofar (rows m c) (wts m c) t := by
    intro t h0
    rw [outsAt0_A m c t h0 (by omega) (by omega), sout_A]
    funext y
    refine (dot_eq m c t (y 0) (y 1)).trans ?_
    have e : pk t = 0 := Fin.ext h0
    unfold sofar
    rw [h0, e]
    rfl
  induction n with
  | zero => exact fun t ht _ => start t (by rw [ht])
  | succ n ih =>
    intro t ht h3
    by_cases h0 : t.val % 4 = 0
    · exact start t h0
    · rw [outsAt0_B m c t h0 (by omega) h3, sout_B]
      have hlt : t.val - 1 < cfg0.N := Nat.lt_of_le_of_lt (Nat.sub_le _ _) t.isLt
      have e := ih ⟨t.val - 1, hlt⟩ (by show t.val - 1 = n; omega) (by show (t.val - 1) % 4 ≠ 3; omega)
      funext y
      refine Eq.trans (congrArg (fun f : S1024x1024.Idx → EReal => f y + dot (iblk m c 0 t) (iblk m c 1 t) (y 0) (y 1)) e) ?_
      exact sofar_step m c t ⟨t.val - 1, hlt⟩ (by show t.val - 1 + 1 = t.val; omega) h0 y

/-- The residual and the sum. -/
def plus (z s : Vec Ideal S1024x1024 .f32) : Vec Ideal S1024x1024 .f32 := fun y => z y + s y

/-- What a point that ends a sum leaves in the output's buffer. -/
theorem out_eq (c : Dev nD) (t : Fin cfg0.N) (h : t.val % 4 = 3) :
    (outsAt0 m c t.val t.isLt).1 = plus (iblk m c 2 t) (sofar (rows m c) (wts m c) t) := by
  rw [outsAt0_C m c t (by omega) (by omega) h, out_C]
  have hlt : t.val - 1 < cfg0.N := Nat.lt_of_le_of_lt (Nat.sub_le _ _) t.isLt
  have e := scratch_eq m c (t.val - 1) ⟨t.val - 1, hlt⟩ rfl (by show (t.val - 1) % 4 ≠ 3; omega)
  funext y
  show plus (iblk m c 2 t) (fun y => (outsAt0 m c (t.val - 1) hlt).2 y + dot (iblk m c 0 t) (iblk m c 1 t) (y 0) (y 1)) y = _
  refine congrArg (fun s : Vec Ideal S1024x1024 .f32 => plus (iblk m c 2 t) s y) (funext fun y => ?_)
  refine Eq.trans (congrArg (fun f : S1024x1024.Idx → EReal => f y + dot (iblk m c 0 t) (iblk m c 1 t) (y 0) (y 1)) e) ?_
  exact sofar_step m c t ⟨t.val - 1, hlt⟩ (by show t.val - 1 + 1 = t.val; omega) (by omega) y

/-- What a point writes back is its block of the result. -/
theorem flushed_eq (c : Dev nD) (t : Fin cfg0.N) (hf : (cfg0.win 3).flush t = true) :
    (dats m 0 c).flushed 3 t = ((cfg0.win 3).blk t).view.read (Elt Ideal) (result (rows m c) (wts m c) (res m c)) := by
  have h3 := (flush0_3 t).mp hf
  rw [Value.flushed3, out_eq m c t h3]
  funext y
  have h0 : (y 0).val < 1024 := (y 0).isLt
  have h1 : (y 1).val < 1024 := (y 1).isLt
  have e0 : (⟨1024 * (pr t).val + (y 0).val, by omega⟩ : Fin 8192) = ((cfg0.win 3).blk t).view.emb y 0 := Fin.ext (by
    show 1024 * (t.val / 8) + (y 0).val = win0_3.index t 0 * 1024 + 1 * (y 0).val; rw [(index3 t).1]; omega)
  have e1 : (⟨1024 * (pj t).val + (y 1).val, by omega⟩ : Fin 2048) = ((cfg0.win 3).blk t).view.emb y 1 := Fin.ext (by
    show 1024 * (t.val / 4 % 2) + (y 1).val = win0_3.index t 1 * 1024 + 1 * (y 1).val; rw [(index3 t).2]; omega)
  have hp : sofar (rows m c) (wts m c) t y
      = prod (rows m c) (wts m c) (((cfg0.win 3).blk t).view.emb y 0) (((cfg0.win 3).blk t).view.emb y 1) := by
    rw [← e0, ← e1, prod_eq]
    unfold sofar
    rw [h3]
  obtain ⟨a, b, rfl⟩ := exists_ix y
  have hr : iblk m c 2 t (ix2 a b) = res m c (((cfg0.win 3).blk t).view.emb (ix2 a b)) := by
    refine (X2_apply m c t a b).trans (congrArg (res m c) ?_)
    funext k
    match k with
    | ⟨0, _⟩ => exact e0
    | ⟨1, _⟩ => exact e1
  exact congrArg₂ (fun a b : EReal => a + b) hr hp

/-- The blocks cover the result. -/
theorem cover (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht⟩ : ∃ t : Fin cfg0.N, t.val = 8 * ((i 0).val / 1024) + 4 * ((i 1).val / 1024) + 3 := ⟨⟨_, by show _ < 64; omega⟩, rfl⟩
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 1024 ≤ (i 1).val ∧ (i 1).val < win0_3.index t 1 * 1024 + 1024
    rw [(index3 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v1) = result (rows m c) (wts m c) (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t hf => flushed_eq m c t hf) cover), (h c).2⟩)
    (Value.run_blocks m ρ)

end Cert.FfDownValue

end
-- ==== Proof.FfDownClaim.lean ====
/- The projection back from the feed-forward part, with the residual: its value claim, equality with the reference. -/
module

public import proofs.«01_k».proof.Defs
public import proofs.«01_k».proof.Proof.FfDownValue
public import proofs.«01_k».proof.Proof.Gen.FfDownRefIdeal.Read
public import proofs.«01_k».proof.Proof.Gen.FfDownRefIdeal.Run

@[expose] public section

set_option maxRecDepth 16384

noncomputable section

namespace Cert.FfDownClaim

open Cert.FfDownRefIdeal Cert.FfDownRefIdeal.Gen Cert.FfDownRefIdeal.Read Idealize.ShloMosaic Idealize.ShloMosaic.Tactic Idealize.ShloMosaic.Pointwise Idealize.SL.Sem

/-- The reference's product. -/
theorem prod_eq (x : S8192x8192.Idx → EReal) (w : S4x8192x2048.Idx → EReal) (r : Fin 8192) (l : Fin 2048) :
    val_main_v3 (F := Ideal) x w (ix2 r l) = FfDownValue.prod x w r l := by
  rw [val_main_v3_apply]
  refine Finset.sum_congr rfl fun k _ => ?_
  rw [val_main_v2_apply, val_main_v1_apply]
  refine congrArg₂ (· * ·) (congrArg x ?_) (congrArg w ?_)
  · funext a
    match a with
    | ⟨0, _⟩ => rfl
    | ⟨1, _⟩ => rfl
  · funext a
    refine Fin.ext ?_
    match a with
    | ⟨0, _⟩ => rfl
    | ⟨1, _⟩ => show (k.val * 2048 + l.val) / 2048 % 8192 = k.val; omega
    | ⟨2, _⟩ => show (k.val * 2048 + l.val) % 2048 = l.val; omega

/-- The reference's result is the kernel's. -/
theorem ref_eq (x : S8192x8192.Idx → EReal) (w : S4x8192x2048.Idx → EReal) (z : S8192x2048.Idx → EReal) :
    val_main_v4 (F := Ideal) x w z = FfDownValue.result x w z := by
  funext y
  obtain ⟨r, l, rfl⟩ : ∃ (r : Fin 8192) (l : Fin 2048), y = ix2 r l := ⟨y 0, y 1, by funext k; fin_cases k <;> rfl⟩
  rw [val_main_v4_apply, prod_eq]
  rfl

/-- The projection back and its reference end with equal results. -/
theorem algebraic : @Cert.algebraic_FfDownIdeal_FfDownRefIdeal Cert.FfDownIdeal.Gen.facts Cert.FfDownRefIdeal.Gen.facts :=
  fun m ρ m' ρ' _ hag => ⟨fun c => FfDownValue.result (FfDownValue.rows m c) (FfDownValue.wts m c) (FfDownValue.res m c), FfDownValue.run m ρ,
    (θ_run Cert.FfDownRefIdeal.defs _ _).mono (fun r h c => ⟨by
      rw [(h c).1, val_main_v4_eq, (hag c).1, (hag c).2.1, (hag c).2.2]
      exact ref_eq _ _ _, (h c).2⟩)
    (Cert.FfDownRefIdeal.Value.run (F := Ideal) m' ρ')⟩

end Cert.FfDownClaim

end
-- ==== Proof.NormOneValue.lean ====
/- The layer's first norm: the array it leaves, as one function of the rows and the gain. -/
module

public import proofs.«01_k».proof.Proof.Gen.NormOneIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.NormOneValue

open Cert.NormOneIdeal Cert.NormOneIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- The factor of a row whose squares sum to `s`: the reciprocal square root of the mean square with the small constant. -/
def factor (s : EReal) : EReal :=
  Ideal.rsqrt (Ideal.div s (Ideal.ofBits .f32 0x45000000#32) + Ideal.ofBits .f32 0x358637BD#32)

/-- The printed block of normed rows. -/
theorem pay1_apply (x : Vec Ideal S512x2048 .f32) (g : Vec Ideal S1x2048 .f32) (r : Fin 512) (l : Fin 2048) :
    k0_pay1 (F := Ideal) x g (ix2 r l) = x (ix2 r l) * factor (∑ k : Fin 2048, x (ix2 r k) * x (ix2 r k)) * g (ix2 0 l) := by
  pointwise [k0_pay1]
  rfl

/-! ## The grid -/

variable (m : (ℓ : Loc nD τ sig) → Buf (Elt Ideal) ℓ) (ρ : Dev nD → PrngReg)

/-- The rows. -/
abbrev rows (c : Dev nD) : S8192x2048.Idx → EReal := m ((c : Thread nD τ).loc main_arg0)

/-- The gains of all layers: layer 3's is used. -/
abbrev gain (c : Dev nD) : S4x2048.Idx → EReal := m ((c : Thread nD τ).loc main_arg1)

/-- The squares of a row, summed. -/
def squares (x : S8192x2048.Idx → EReal) (r : Fin 8192) : EReal := ∑ k : Fin 2048, x (ix2 r k) * x (ix2 r k)

/-- The whole result. -/
def result (x : S8192x2048.Idx → EReal) (g : S4x2048.Idx → EReal) (y : S8192x2048.Idx) : EReal :=
  x y * factor (squares x (y 0)) * g (ix2 3 (y 1))

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- The block of rows. -/
theorem X0_apply (c : Dev nD) (t : Fin cfg0.N) (r : Fin 512) (k : Fin 2048) :
    iblk m c 0 t (ix2 r k) = rows m c (ix2 (⟨512 * t.val + r.val, by have h : t.val < 16 := t.isLt; omega⟩ : Fin 8192) k) := by
  refine (congrFun (V_main_arg0 m c) _).trans (congrArg (rows m c) ?_)
  funext a
  refine Fin.ext ?_
  match a with
  | ⟨0, _⟩ => show win0_0.index t 0 * 512 + 1 * r.val = 512 * t.val + r.val; rw [(index0 t).1]; omega
  | ⟨1, _⟩ => show win0_0.index t 1 * 2048 + 1 * k.val = k.val; rw [(index0 t).2]; omega

/-- The gain as the grid finds it: one row. -/
theorem V_main_v2 (c : Dev nD) (l : Fin 2048) : V m c main_v2 (ix2 0 l) = gain m c (ix2 3 l) := by
  unfold_abbrev_sides
  after_results
  refine (shapeCast_apply _ _ _ (ix1 l) ?_).trans ((shapeCast_apply _ _ _ (ix2 0 l) ?_).trans ?_)
  rotate_left
  · show (S1x2048.rowMajor (ix2 0 l)).val = (S2048.rowMajor (ix1 l)).val
    rw [Shape.rowMajor_val_one, Shape.rowMajor_val_two]
    show 0 * 2048 + l.val = l.val
    omega
  · refine extractStridedSlice_apply _ _ _ _ (ix2 3 l) fun a => ?_
    match a with
    | ⟨0, _⟩ => rfl
    | ⟨1, _⟩ => show l.val = 0 + l.val; omega
  show (S2048.rowMajor (ix1 l)).val = (S1x2048.rowMajor (ix2 0 l)).val
  rw [Shape.rowMajor_val_one, Shape.rowMajor_val_two]
  show l.val = 0 * 2048 + l.val
  omega

/-- The block of the gain. -/
theorem X1_apply (c : Dev nD) (t : Fin cfg0.N) (l : Fin 2048) : iblk m c 1 t (ix2 0 l) = gain m c (ix2 3 l) := by
  refine Eq.trans (congrArg (V m c main_v2) ?_) (V_main_v2 m c l)
  funext a
  refine Fin.ext ?_
  match a with
  | ⟨0, _⟩ => show win0_1.index t 0 * 1 + 1 * 0 = 0; rw [(index1 t).1]
  | ⟨1, _⟩ => show win0_1.index t 1 * 2048 + 1 * l.val = l.val; rw [(index1 t).2]; omega

/-- An index of a block is a row and a column. -/
theorem exists_ix (y : S512x2048.Idx) : ∃ (a : Fin 512) (b : Fin 2048), y = ix2 a b := ⟨y 0, y 1, by funext k; fin_cases k <;> rfl⟩

/-- What a point leaves in the output's buffer. -/
theorem out_apply (x : Vec Ideal S512x2048 .f32) (g : Vec Ideal S1x2048 .f32) (r : Fin 512) (l : Fin 2048) :
    out0_2 (F := Ideal) x g (ix2 r l) = x (ix2 r l) * factor (∑ k : Fin 2048, x (ix2 r k) * x (ix2 r k)) * g (ix2 0 l) := by
  unfold out0_2
  rw [View.canon_unit_zero hz, View.ld_unit_zero (S := S512x2048) hz, View.ld_unit_zero (S := S1x2048) hz]
  exact pay1_apply x g r l

/-- What a point writes back is its block of the result. -/
theorem flushed_eq (c : Dev nD) (t : Fin cfg0.N) :
    (dats m 0 c).flushed 2 t = ((cfg0.win 2).blk t).view.read (Elt Ideal) (result (rows m c) (gain m c)) := by
  rw [Value.flushed2]
  funext y
  obtain ⟨a, b, rfl⟩ := exists_ix y
  have ht : t.val < 16 := t.isLt
  have e : ((cfg0.win 2).blk t).view.emb (ix2 a b) = ix2 (⟨512 * t.val + a.val, by omega⟩ : Fin 8192) b := by
    funext k
    refine Fin.ext ?_
    match k with
    | ⟨0, _⟩ => show win0_2.index t 0 * 512 + 1 * a.val = 512 * t.val + a.val; rw [(index2 t).1]; omega
    | ⟨1, _⟩ => show win0_2.index t 1 * 2048 + 1 * b.val = b.val; rw [(index2 t).2]; omega
  refine (out_apply (iblk m c 0 t) (iblk m c 1 t) a b).trans (Eq.trans ?_ (congrArg (result (rows m c) (gain m c)) e).symm)
  refine congrArg₂ (fun p q : EReal => p * q) (congrArg₂ (fun p q : EReal => p * factor q) (X0_apply m c t a b) ?_) (X1_apply m c t b)
  exact Finset.sum_congr rfl fun k _ => congrArg (fun p : EReal => p * p) (X0_apply m c t a k)

/-- Every point writes its block back. -/
theorem flush2 : ∀ t : Fin cfg0.N, (cfg0.win 2).flush t = true := by decide +kernel

/-- The blocks cover the result. -/
theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 512 := ⟨⟨_, by show _ < 16; omega⟩, rfl⟩
  refine ⟨t, flush2 t, ?_⟩
  show i ∈ ((View.whole main_v3).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [(index2 t).1]; omega
  | ⟨1, _⟩ =>
    show win0_2.index t 1 * 2048 ≤ (i 1).val ∧ (i 1).val < win0_2.index t 1 * 2048 + 2048
    rw [(index2 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v3) = result (rows m c) (gain m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

end Cert.NormOneValue

end
-- ==== Proof.NormOneClaim.lean ====
/- The layer's first norm's value claim: equality with the reference. -/
module

public import proofs.«01_k».proof.Defs
public import proofs.«01_k».proof.Proof.NormOneValue
public import proofs.«01_k».proof.Proof.Gen.NormOneRefIdeal.Read
public import proofs.«01_k».proof.Proof.Gen.NormOneRefIdeal.Run

@[expose] public section

set_option maxRecDepth 16384

noncomputable section

namespace Cert.NormOneClaim

open Cert.NormOneRefIdeal Cert.NormOneRefIdeal.Gen Cert.NormOneRefIdeal.Read Idealize.ShloMosaic Idealize.ShloMosaic.Tactic Idealize.ShloMosaic.Pointwise Idealize.SL.Sem

/-- The reference's sum of squares. -/
theorem squares_eq (x : S8192x2048.Idx → EReal) (r : Fin 8192) : val_main_v3 (F := Ideal) x (ix1 r) = NormOneValue.squares x r := by
  rw [val_main_v3_apply, val_main_cst_apply]
  have h0 : FloatOps.ofBits (F := Ideal) .f32 0x00000000#32 = (0 : EReal) := by simp [FloatOps.ofBits, Ideal.ofBits, Ideal.ieee]
  refine (congrArg (fun z : EReal => z + _) h0).trans ((zero_add _).trans ?_)
  refine Finset.sum_congr rfl fun k _ => ?_
  rw [val_main_v2_apply]
  have e : idx_main_v3 (ix1 r) k = ix2 r k := by
    funext a
    match a with
    | ⟨0, _⟩ => rfl
    | ⟨1, _⟩ => rfl
  rw [e]
  rfl

/-- The reference's result is the kernel's. -/
theorem ref_eq (x : S8192x2048.Idx → EReal) (g : S4x2048.Idx → EReal) :
    val_main_v15 (F := Ideal) x g = NormOneValue.result x g := by
  funext y
  obtain ⟨r, l, rfl⟩ : ∃ (r : Fin 8192) (l : Fin 2048), y = ix2 r l := ⟨y 0, y 1, by funext k; fin_cases k <;> rfl⟩
  have e : idx_main_v4 (idx_main_v10 (ix2 r l)) = ix1 r := by
    funext a
    match a with
    | ⟨0, _⟩ => rfl
  have e' : idx_main_v0 (idx_main_v1 (idx_main_v12 (idx_main_v13 (ix2 r l)))) = ix2 3 l := by
    funext a
    refine Fin.ext ?_
    match a with
    | ⟨0, _⟩ => rfl
    | ⟨1, _⟩ => exact Nat.mod_eq_of_lt l.isLt
  rw [val_main_v15_apply, val_main_v14_apply, val_main_v11_apply, val_main_v10_apply, val_main_v9_apply, val_main_v8_apply, val_main_v6_apply, val_main_v4_apply, e,
    squares_eq, val_main_v5_apply, val_main_v7_apply, val_main_cst_0_apply, val_main_cst_1_apply, val_main_v13_apply, val_main_v12_apply, val_main_v1_apply, val_main_v0_apply, e']
  rfl

/-- The layer's first norm and its reference end with equal results. -/
theorem algebraic : @Cert.algebraic_NormOneIdeal_NormOneRefIdeal Cert.NormOneIdeal.Gen.facts Cert.NormOneRefIdeal.Gen.facts :=
  fun m ρ m' ρ' _ hag => ⟨fun c => NormOneValue.result (NormOneValue.rows m c) (NormOneValue.gain m c), NormOneValue.run m ρ,
    (θ_run Cert.NormOneRefIdeal.defs _ _).mono (fun r h c => ⟨by
      rw [(h c).1, val_main_v15_eq, (hag c).1, (hag c).2]
      exact ref_eq _ _, (h c).2⟩)
    (Cert.NormOneRefIdeal.Value.run (F := Ideal) m' ρ')⟩

end Cert.NormOneClaim

end
-- ==== Proof.NormFinalValue.lean ====
/- The final norm: the array it leaves, as one function of the rows and the gain. -/
module

public import proofs.«01_k».proof.Proof.Gen.NormFinalIdeal.Value
public import Idealize.ShloMosaic.Lib.Pointwise
public import Idealize.ShloMosaic.Lib.Pipeline.Value
public import Idealize.ShloMosaic.Lib.Pipeline.ReadBack

@[expose] public section

set_option maxRecDepth 16384

noncomputable section

namespace Cert.NormFinalValue

open Cert.NormFinalIdeal Cert.NormFinalIdeal.Gen Idealize.ShloMosaic Idealize.ShloMosaic.TcCoe Idealize.ShloMosaic.Tactic Idealize.ShloMosaic.Pointwise Idealize.SL.Sem
open Idealize.ShloMosaic.Pipeline (Dat)

theorem hz : (![0, 0] : Fin 2 → Nat) = fun _ => 0 := funext fun a => by fin_cases a <;> rfl

/-- The factor of a row whose squares sum to `s`: the reciprocal square root of the mean square with the small constant. -/
def factor (s : EReal) : EReal :=
  Ideal.rsqrt (Ideal.div s (Ideal.ofBits .f32 0x45000000#32) + Ideal.ofBits .f32 0x358637BD#32)

/-- The printed block of normed rows. -/
theorem pay1_apply (x : Vec Ideal S512x2048 .f32) (g : Vec Ideal S1x2048 .f32) (r : Fin 512) (l : Fin 2048) :
    k0_pay1 (F := Ideal) x g (ix2 r l) = x (ix2 r l) * factor (∑ k : Fin 2048, x (ix2 r k) * x (ix2 r k)) * g (ix2 0 l) := by
  pointwise [k0_pay1]
  rfl

/-! ## The grid -/

variable (m : (ℓ : Loc nD τ sig) → Buf (Elt Ideal) ℓ) (ρ : Dev nD → PrngReg)

/-- The rows. -/
abbrev rows (c : Dev nD) : S8192x2048.Idx → EReal := m ((c : Thread nD τ).loc main_arg0)

/-- The gain. -/
abbrev gain (c : Dev nD) : S2048.Idx → EReal := m ((c : Thread nD τ).loc main_arg1)

/-- The squares of a row, summed. -/
def squares (x : S8192x2048.Idx → EReal) (r : Fin 8192) : EReal := ∑ k : Fin 2048, x (ix2 r k) * x (ix2 r k)

/-- The whole result. -/
def result (x : S8192x2048.Idx → EReal) (g : S2048.Idx → EReal) (y : S8192x2048.Idx) : EReal :=
  x y * factor (squares x (y 0)) * g (ix1 (y 1))

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- The block of rows. -/
theorem X0_apply (c : Dev nD) (t : Fin cfg0.N) (r : Fin 512) (k : Fin 2048) :
    iblk m c 0 t (ix2 r k) = rows m c (ix2 (⟨512 * t.val + r.val, by have h : t.val < 16 := t.isLt; omega⟩ : Fin 8192) k) := by
  refine (congrFun (V_main_arg0 m c) _).trans (congrArg (rows m c) ?_)
  funext a
  refine Fin.ext ?_
  match a with
  | ⟨0, _⟩ => show win0_0.index t 0 * 512 + 1 * r.val = 512 * t.val + r.val; rw [(index0 t).1]; omega
  | ⟨1, _⟩ => show win0_0.index t 1 * 2048 + 1 * k.val = k.val; rw [(index0 t).2]; omega

/-- The gain as the grid finds it: one row. -/
theorem V_main_v0 (c : Dev nD) (l : Fin 2048) : V m c main_v0 (ix2 0 l) = gain m c (ix1 l) := by
  unfold_abbrev_sides
  after_results
  refine (shapeCast_apply _ _ _ (ix1 l) ?_).trans rfl
  show (S2048.rowMajor (ix1 l)).val = (S1x2048.rowMajor (ix2 0 l)).val
  rw [Shape.rowMajor_val_one, Shape.rowMajor_val_two]
  show l.val = 0 * 2048 + l.val
  omega

/-- The block of the gain. -/
theorem X1_apply (c : Dev nD) (t : Fin cfg0.N) (l : Fin 2048) : iblk m c 1 t (ix2 0 l) = gain m c (ix1 l) := by
  refine Eq.trans (congrArg (V m c main_v0) ?_) (V_main_v0 m c l)
  funext a
  refine Fin.ext ?_
  match a with
  | ⟨0, _⟩ => show win0_1.index t 0 * 1 + 1 * 0 = 0; rw [(index1 t).1]
  | ⟨1, _⟩ => show win0_1.index t 1 * 2048 + 1 * l.val = l.val; rw [(index1 t).2]; omega

/-- An index of a block is a row and a column. -/
theorem exists_ix (y : S512x2048.Idx) : ∃ (a : Fin 512) (b : Fin 2048), y = ix2 a b := ⟨y 0, y 1, by funext k; fin_cases k <;> rfl⟩

/-- What a point leaves in the output's buffer. -/
theorem out_apply (x : Vec Ideal S512x2048 .f32) (g : Vec Ideal S1x2048 .f32) (r : Fin 512) (l : Fin 2048) :
    out0_2 (F := Ideal) x g (ix2 r l) = x (ix2 r l) * factor (∑ k : Fin 2048, x (ix2 r k) * x (ix2 r k)) * g (ix2 0 l) := by
  unfold out0_2
  rw [View.canon_unit_zero hz, View.ld_unit_zero (S := S512x2048) hz, View.ld_unit_zero (S := S1x2048) hz]
  exact pay1_apply x g r l

/-- What a point writes back is its block of the result. -/
theorem flushed_eq (c : Dev nD) (t : Fin cfg0.N) :
    (dats m 0 c).flushed 2 t = ((cfg0.win 2).blk t).view.read (Elt Ideal) (result (rows m c) (gain m c)) := by
  rw [Value.flushed2]
  funext y
  obtain ⟨a, b, rfl⟩ := exists_ix y
  have ht : t.val < 16 := t.isLt
  have e : ((cfg0.win 2).blk t).view.emb (ix2 a b) = ix2 (⟨512 * t.val + a.val, by omega⟩ : Fin 8192) b := by
    funext k
    refine Fin.ext ?_
    match k with
    | ⟨0, _⟩ => show win0_2.index t 0 * 512 + 1 * a.val = 512 * t.val + a.val; rw [(index2 t).1]; omega
    | ⟨1, _⟩ => show win0_2.index t 1 * 2048 + 1 * b.val = b.val; rw [(index2 t).2]; omega
  refine (out_apply (iblk m c 0 t) (iblk m c 1 t) a b).trans (Eq.trans ?_ (congrArg (result (rows m c) (gain m c)) e).symm)
  refine congrArg₂ (fun p q : EReal => p * q) (congrArg₂ (fun p q : EReal => p * factor q) (X0_apply m c t a b) ?_) (X1_apply m c t b)
  exact Finset.sum_congr rfl fun k _ => congrArg (fun p : EReal => p * p) (X0_apply m c t a k)

/-- Every point writes its block back. -/
theorem flush2 : ∀ t : Fin cfg0.N, (cfg0.win 2).flush t = true := by decide +kernel

/-- The blocks cover the result. -/
theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 512 := ⟨⟨_, by show _ < 16; omega⟩, rfl⟩
  refine ⟨t, flush2 t, ?_⟩
  show i ∈ ((View.whole main_v1).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [(index2 t).1]; omega
  | ⟨1, _⟩ =>
    show win0_2.index t 1 * 2048 ≤ (i 1).val ∧ (i 1).val < win0_2.index t 1 * 2048 + 2048
    rw [(index2 t).2]; omega

/-- The run of the kernel: the result array holds `result` of the arguments, which are unchanged. -/
theorem run : θ_run defs (onTc (τ := τ) (main (F := Ideal))) ⟨m, fun _ => 0, ρ⟩ fun r => ∀ c : Dev nD,
      r.2.mem ((c : Thread nD τ).loc main_v1) = result (rows m c) (gain m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

end Cert.NormFinalValue

end
-- ==== Proof.NormFinalClaim.lean ====
/- The final norm's value claim: equality with the reference. -/
module

public import proofs.«01_k».proof.Defs
public import proofs.«01_k».proof.Proof.NormFinalValue
public import proofs.«01_k».proof.Proof.Gen.NormFinalRefIdeal.Read
public import proofs.«01_k».proof.Proof.Gen.NormFinalRefIdeal.Run

@[expose] public section

set_option maxRecDepth 16384

noncomputable section

namespace Cert.NormFinalClaim

open Cert.NormFinalRefIdeal Cert.NormFinalRefIdeal.Gen Cert.NormFinalRefIdeal.Read Idealize.ShloMosaic Idealize.ShloMosaic.Tactic Idealize.ShloMosaic.Pointwise Idealize.SL.Sem

/-- The reference's sum of squares. -/
theorem squares_eq (x : S8192x2048.Idx → EReal) (r : Fin 8192) : val_main_v1 (F := Ideal) x (ix1 r) = NormFinalValue.squares x r := by
  rw [val_main_v1_apply, val_main_cst_apply]
  have h0 : FloatOps.ofBits (F := Ideal) .f32 0x00000000#32 = (0 : EReal) := by simp [FloatOps.ofBits, Ideal.ofBits, Ideal.ieee]
  refine (congrArg (fun z : EReal => z + _) h0).trans ((zero_add _).trans ?_)
  refine Finset.sum_congr rfl fun k _ => ?_
  rw [val_main_v0_apply]
  have e : idx_main_v1 (ix1 r) k = ix2 r k := by
    funext a
    match a with
    | ⟨0, _⟩ => rfl
    | ⟨1, _⟩ => rfl
  rw [e]
  rfl

/-- The reference's result is the kernel's. -/
theorem ref_eq (x : S8192x2048.Idx → EReal) (g : S2048.Idx → EReal) :
    val_main_v12 (F := Ideal) x g = NormFinalValue.result x g := by
  funext y
  obtain ⟨r, l, rfl⟩ : ∃ (r : Fin 8192) (l : Fin 2048), y = ix2 r l := ⟨y 0, y 1, by funext k; fin_cases k <;> rfl⟩
  have e : idx_main_v2 (idx_main_v8 (ix2 r l)) = ix1 r := by
    funext a
    match a with
    | ⟨0, _⟩ => rfl
  have e' : idx_main_v10 (idx_main_v11 (ix2 r l)) = ix1 l := by
    funext a
    match a with
    | ⟨0, _⟩ => rfl
  rw [val_main_v12_apply, val_main_v9_apply, val_main_v8_apply, val_main_v7_apply, val_main_v6_apply, val_main_v4_apply, val_main_v2_apply, e,
    squares_eq, val_main_v3_apply, val_main_v5_apply, val_main_cst_0_apply, val_main_cst_1_apply, val_main_v11_apply, val_main_v10_apply, e']
  rfl

/-- The final norm and its reference end with equal results. -/
theorem algebraic : @Cert.algebraic_NormFinalIdeal_NormFinalRefIdeal Cert.NormFinalIdeal.Gen.facts Cert.NormFinalRefIdeal.Gen.facts :=
  fun m ρ m' ρ' _ hag => ⟨fun c => NormFinalValue.result (NormFinalValue.rows m c) (NormFinalValue.gain m c), NormFinalValue.run m ρ,
    (θ_run Cert.NormFinalRefIdeal.defs _ _).mono (fun r h c => ⟨by
      rw [(h c).1, val_main_v12_eq, (hag c).1, (hag c).2]
      exact ref_eq _ _, (h c).2⟩)
    (Cert.NormFinalRefIdeal.Value.run (F := Ideal) m' ρ')⟩

end Cert.NormFinalClaim

end
-- ==== Proof.lean ====
/- The proof of the claim: the frames of every program, the named slopes, and the value claims. -/
module

public import proofs.«01_k».proof.Proof.Frames
public import proofs.«01_k».proof.Proof.SwaClaim
public import proofs.«01_k».proof.Proof.QkvzClaim
public import proofs.«01_k».proof.Proof.RestClaim
public import proofs.«01_k».proof.Proof.MergeClaim
public import proofs.«01_k».proof.Proof.OutProjClaim
public import proofs.«01_k».proof.Proof.FfUpClaim
public import proofs.«01_k».proof.Proof.FfDownClaim
public import proofs.«01_k».proof.Proof.NormOneClaim
public import proofs.«01_k».proof.Proof.NormFinalClaim
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Swa.Gen.facts,
  Cert.SwaIdeal.Gen.facts,
  Cert.SwaRefIdeal.Gen.facts,
  Cert.Qkvz.Gen.facts,
  Cert.QkvzIdeal.Gen.facts,
  Cert.QkvzRefIdeal.Gen.facts,
  Cert.Rest.Gen.facts,
  Cert.RestIdeal.Gen.facts,
  Cert.RestRefIdeal.Gen.facts,
  Cert.Merge.Gen.facts,
  Cert.MergeIdeal.Gen.facts,
  Cert.MergeRefIdeal.Gen.facts,
  Cert.OutProj.Gen.facts,
  Cert.OutProjIdeal.Gen.facts,
  Cert.OutProjRefIdeal.Gen.facts,
  Cert.FfUp.Gen.facts,
  Cert.FfUpIdeal.Gen.facts,
  Cert.FfUpRefIdeal.Gen.facts,
  Cert.FfDown.Gen.facts,
  Cert.FfDownIdeal.Gen.facts,
  Cert.FfDownRefIdeal.Gen.facts,
  Cert.NormOne.Gen.facts,
  Cert.NormOneIdeal.Gen.facts,
  Cert.NormOneRefIdeal.Gen.facts,
  Cert.NormFinal.Gen.facts,
  Cert.NormFinalIdeal.Gen.facts,
  Cert.NormFinalRefIdeal.Gen.facts,
  Cert.Gdn.Gen.facts,
  Cert.GdnIdeal.Gen.facts,
  SwaEq.preFacts,
  Frames.swa,
  Frames.swaIdeal,
  fun m ρ _ => Frames.swaIdeal m ρ trivial,
  Frames.swaRefIdeal,
  fun m ρ _ => Frames.swaRefIdeal m ρ trivial,
  Frames.qkvz,
  Frames.qkvzIdeal,
  Frames.qkvzRefIdeal,
  Frames.rest,
  Frames.restIdeal,
  Frames.restRefIdeal,
  Frames.merge,
  Frames.mergeIdeal,
  Frames.mergeRefIdeal,
  Frames.outProj,
  Frames.outProjIdeal,
  Frames.outProjRefIdeal,
  Frames.ffUp,
  Frames.ffUpIdeal,
  Frames.ffUpRefIdeal,
  Frames.ffDown,
  Frames.ffDownIdeal,
  Frames.ffDownRefIdeal,
  Frames.normOne,
  Frames.normOneIdeal,
  Frames.normOneRefIdeal,
  Frames.normFinal,
  Frames.normFinalIdeal,
  Frames.normFinalRefIdeal,
  Frames.gdn,
  Frames.gdnIdeal,
  SwaClaim.preserves,
  SwaClaim.algebraic,
  trivial,
  QkvzClaim.algebraic,
  trivial,
  RestClaim.algebraic,
  trivial,
  MergeClaim.algebraic,
  trivial,
  OutProjClaim.algebraic,
  trivial,
  FfUpClaim.algebraic,
  trivial,
  FfDownClaim.algebraic,
  trivial,
  NormOneClaim.algebraic,
  trivial,
  NormFinalClaim.algebraic,
  trivial⟩

end Cert.Proof

end
